-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsRefIdeal (m : (ℓ : Loc Cert.ModsRefIdeal.nD Cert.ModsRefIdeal.τ Cert.ModsRefIdeal.sig) → Buf (Elt Ideal) ℓ) : Prop :=
  True

def Pre_CtxAttn (m : (ℓ : Loc Cert.CtxAttn.nD Cert.CtxAttn.τ Cert.CtxAttn.sig) → Buf (Elt Bits) ℓ) : Prop :=
  True

def Pre_CtxAttnIdeal (m : (ℓ : Loc Cert.CtxAttnIdeal.nD Cert.CtxAttnIdeal.τ Cert.CtxAttnIdeal.sig) → Buf (Elt Ideal) ℓ) : Prop :=
  True

def Pre_CtxAttnIdeal_ctx_finite [hPre_ctx_finite : Cert.Pre_ctx_finite.Facts] (m : (ℓ : Loc Cert.CtxAttnIdeal.nD Cert.CtxAttnIdeal.τ Cert.CtxAttnIdeal.sig) → Buf (Elt Ideal) ℓ) : Prop :=
  ∀ c : Dev Cert.CtxAttnIdeal.nD,
    (Cert.Pre_ctx_finite.fn (F := Ideal) (m ((c.tc : Thread Cert.CtxAttnIdeal.nD Cert.CtxAttnIdeal.τ).loc Cert.CtxAttnIdeal.main_arg0))) = (fun _ => 1#1)

def Pre_CtxAttnRefIdeal (m : (ℓ : Loc Cert.CtxAttnRefIdeal.nD Cert.CtxAttnRefIdeal.τ Cert.CtxAttnRefIdeal.sig) → Buf (Elt Ideal) ℓ) : Prop :=
  True

def Pre_CtxAttnRefIdeal_ctx_finite [hPre_ctx_finite : Cert.Pre_ctx_finite.Facts] (m : (ℓ : Loc Cert.CtxAttnRefIdeal.nD Cert.CtxAttnRefIdeal.τ Cert.CtxAttnRefIdeal.sig) → Buf (Elt Ideal) ℓ) : Prop :=
  ∀ c : Dev Cert.CtxAttnRefIdeal.nD,
    (Cert.Pre_ctx_finite.fn (F := Ideal) (m ((c.tc : Thread Cert.CtxAttnRefIdeal.nD Cert.CtxAttnRefIdeal.τ).loc Cert.CtxAttnRefIdeal.main_arg0))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsRefIdeal [hModsRefIdeal : Cert.ModsRefIdeal.Facts] : Prop :=
  ∀ (m : (ℓ : Loc Cert.ModsRefIdeal.nD Cert.ModsRefIdeal.τ Cert.ModsRefIdeal.sig) → Buf (Elt Ideal) ℓ) (g : Dev Cert.ModsRefIdeal.nD → PrngReg), Pre_ModsRefIdeal m →
    θ_run (Cert.ModsRefIdeal.defs (F := Ideal)) (onTc (τ := Cert.ModsRefIdeal.τ) (Cert.ModsRefIdeal.main (F := Ideal))) ⟨m, fun _ => 0, g⟩ (fun r => (∀ c : Dev Cert.ModsRefIdeal.nD,
      r.2.mem ((c.tc : Thread Cert.ModsRefIdeal.nD Cert.ModsRefIdeal.τ).loc Cert.ModsRefIdeal.main_arg0) = m ((c.tc : Thread Cert.ModsRefIdeal.nD Cert.ModsRefIdeal.τ).loc Cert.ModsRefIdeal.main_arg0)
      ∧ r.2.mem ((c.tc : Thread Cert.ModsRefIdeal.nD Cert.ModsRefIdeal.τ).loc Cert.ModsRefIdeal.main_arg1) = m ((c.tc : Thread Cert.ModsRefIdeal.nD Cert.ModsRefIdeal.τ).loc Cert.ModsRefIdeal.main_arg1)
      ∧ r.2.mem ((c.tc : Thread Cert.ModsRefIdeal.nD Cert.ModsRefIdeal.τ).loc Cert.ModsRefIdeal.main_arg2) = m ((c.tc : Thread Cert.ModsRefIdeal.nD Cert.ModsRefIdeal.τ).loc Cert.ModsRefIdeal.main_arg2))
      ∧ r.2.sem = fun _ => 0)

def quiescent_CtxAttn [hCtxAttn : Cert.CtxAttn.Facts] : Prop :=
  ∀ (m : (ℓ : Loc Cert.CtxAttn.nD Cert.CtxAttn.τ Cert.CtxAttn.sig) → Buf (Elt Bits) ℓ) (g : Dev Cert.CtxAttn.nD → PrngReg), Pre_CtxAttn m →
    θ_run (Cert.CtxAttn.defs (F := Bits)) (onTc (τ := Cert.CtxAttn.τ) (Cert.CtxAttn.main (F := Bits))) ⟨m, fun _ => 0, g⟩ (fun r => (∀ c : Dev Cert.CtxAttn.nD,
      r.2.mem ((c.tc : Thread Cert.CtxAttn.nD Cert.CtxAttn.τ).loc Cert.CtxAttn.main_arg0) = m ((c.tc : Thread Cert.CtxAttn.nD Cert.CtxAttn.τ).loc Cert.CtxAttn.main_arg0))
      ∧ r.2.sem = fun _ => 0)

def quiescent_CtxAttnIdeal [hCtxAttnIdeal : Cert.CtxAttnIdeal.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ r.2.sem = fun _ => 0)

def quiescent_CtxAttnIdeal_pre_ctx_finite [hCtxAttnIdeal : Cert.CtxAttnIdeal.Facts] [hPre_ctx_finite : Cert.Pre_ctx_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg), Pre_CtxAttnIdeal_ctx_finite m →
    θ_run (Cert.CtxAttnIdeal.defs (F := Ideal)) (onTc (τ := Cert.CtxAttnIdeal.τ) (Cert.CtxAttnIdeal.main (F := Ideal))) ⟨m, fun _ => 0, g⟩ (fun r => (∀ c : Dev Cert.CtxAttnIdeal.nD,
      r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ r.2.sem = fun _ => 0)

def quiescent_CtxAttnRefIdeal [hCtxAttnRefIdeal : Cert.CtxAttnRefIdeal.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0))
      ∧ r.2.sem = fun _ => 0)

def quiescent_CtxAttnRefIdeal_pre_ctx_finite [hCtxAttnRefIdeal : Cert.CtxAttnRefIdeal.Facts] [hPre_ctx_finite : Cert.Pre_ctx_finite.Facts] : Prop :=
  ∀ (m : (ℓ : Loc Cert.CtxAttnRefIdeal.nD Cert.CtxAttnRefIdeal.τ Cert.CtxAttnRefIdeal.sig) → Buf (Elt Ideal) ℓ) (g : Dev Cert.CtxAttnRefIdeal.nD → PrngReg), Pre_CtxAttnRefIdeal_ctx_finite m →
    θ_run (Cert.CtxAttnRefIdeal.defs (F := Ideal)) (onTc (τ := Cert.CtxAttnRefIdeal.τ) (Cert.CtxAttnRefIdeal.main (F := Ideal))) ⟨m, fun _ => 0, g⟩ (fun r => (∀ c : Dev Cert.CtxAttnRefIdeal.nD,
      r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0))
      ∧ r.2.sem = fun _ => 0)

def preserves_Attn_AttnIdeal : Prop :=
  True

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v42)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v42) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v97) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v48) = v0 c
          ∧ r.2.mem ((c.tc : Thread Cert.OutProjRefIdeal.nD Cert.OutProjRefIdeal.τ).loc Cert.OutProjRefIdeal.main_v50) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Mods_ModsIdeal : Prop :=
  True

def algebraic_ModsIdeal_ModsRefIdeal [hModsIdeal : Cert.ModsIdeal.Facts] [hModsRefIdeal : Cert.ModsRefIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsRefIdeal.nD Cert.ModsRefIdeal.τ Cert.ModsRefIdeal.sig) → Buf (Elt Ideal) ℓ) (g' : Dev Cert.ModsRefIdeal.nD → PrngReg), Pre_ModsIdeal m →
    (∀ c : Dev Cert.ModsIdeal.nD,
      m' ((c.tc : Thread Cert.ModsRefIdeal.nD Cert.ModsRefIdeal.τ).loc Cert.ModsRefIdeal.main_arg0) = m ((c.tc : Thread Cert.ModsIdeal.nD Cert.ModsIdeal.τ).loc Cert.ModsIdeal.main_arg0)
      ∧ m' ((c.tc : Thread Cert.ModsRefIdeal.nD Cert.ModsRefIdeal.τ).loc Cert.ModsRefIdeal.main_arg1) = m ((c.tc : Thread Cert.ModsIdeal.nD Cert.ModsIdeal.τ).loc Cert.ModsIdeal.main_arg1)
      ∧ m' ((c.tc : Thread Cert.ModsRefIdeal.nD Cert.ModsRefIdeal.τ).loc Cert.ModsRefIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsRefIdeal.defs (F := Ideal)) (onTc (τ := Cert.ModsRefIdeal.τ) (Cert.ModsRefIdeal.main (F := Ideal))) ⟨m', fun _ => 0, g'⟩ (fun r => ∀ c : Dev Cert.ModsRefIdeal.nD,
          r.2.mem ((c.tc : Thread Cert.ModsRefIdeal.nD Cert.ModsRefIdeal.τ).loc Cert.ModsRefIdeal.main_v5) = v0 c
          ∧ r.2.mem ((c.tc : Thread Cert.ModsRefIdeal.nD Cert.ModsRefIdeal.τ).loc Cert.ModsRefIdeal.main_arg0) = m' ((c.tc : Thread Cert.ModsRefIdeal.nD Cert.ModsRefIdeal.τ).loc Cert.ModsRefIdeal.main_arg0)
          ∧ r.2.mem ((c.tc : Thread Cert.ModsRefIdeal.nD Cert.ModsRefIdeal.τ).loc Cert.ModsRefIdeal.main_arg1) = m' ((c.tc : Thread Cert.ModsRefIdeal.nD Cert.ModsRefIdeal.τ).loc Cert.ModsRefIdeal.main_arg1)
          ∧ r.2.mem ((c.tc : Thread Cert.ModsRefIdeal.nD Cert.ModsRefIdeal.τ).loc Cert.ModsRefIdeal.main_arg2) = m' ((c.tc : Thread Cert.ModsRefIdeal.nD Cert.ModsRefIdeal.τ).loc Cert.ModsRefIdeal.main_arg2))

def preserves_CtxAttn_CtxAttnIdeal : Prop :=
  True

def algebraic_CtxAttnIdeal_CtxAttnRefIdeal_pre_ctx_finite [hCtxAttnIdeal : Cert.CtxAttnIdeal.Facts] [hCtxAttnRefIdeal : Cert.CtxAttnRefIdeal.Facts] [hPre_ctx_finite : Cert.Pre_ctx_finite.Facts] : Prop :=
  ∀ (m : (ℓ : Loc Cert.CtxAttnIdeal.nD Cert.CtxAttnIdeal.τ Cert.CtxAttnIdeal.sig) → Buf (Elt Ideal) ℓ) (g : Dev Cert.CtxAttnIdeal.nD → PrngReg)
    (m' : (ℓ : Loc Cert.CtxAttnRefIdeal.nD Cert.CtxAttnRefIdeal.τ Cert.CtxAttnRefIdeal.sig) → Buf (Elt Ideal) ℓ) (g' : Dev Cert.CtxAttnRefIdeal.nD → PrngReg), Pre_CtxAttnIdeal_ctx_finite m →
    (∀ c : Dev Cert.CtxAttnIdeal.nD,
      m' ((c.tc : Thread Cert.CtxAttnRefIdeal.nD Cert.CtxAttnRefIdeal.τ).loc Cert.CtxAttnRefIdeal.main_arg0) = m ((c.tc : Thread Cert.CtxAttnIdeal.nD Cert.CtxAttnIdeal.τ).loc Cert.CtxAttnIdeal.main_arg0)) →
    ∃ (v0 : (c : Dev Cert.CtxAttnIdeal.nD) → Buf (Elt Ideal) ((c.tc : Thread Cert.CtxAttnIdeal.nD Cert.CtxAttnIdeal.τ).loc Cert.CtxAttnIdeal.main_v0)),
      θ_run (Cert.CtxAttnIdeal.defs (F := Ideal)) (onTc (τ := Cert.CtxAttnIdeal.τ) (Cert.CtxAttnIdeal.main (F := Ideal))) ⟨m, fun _ => 0, g⟩ (fun r => ∀ c : Dev Cert.CtxAttnIdeal.nD,
          r.2.mem ((c.tc : Thread Cert.CtxAttnIdeal.nD Cert.CtxAttnIdeal.τ).loc Cert.CtxAttnIdeal.main_v0) = v0 c
          ∧ r.2.mem ((c.tc : Thread Cert.CtxAttnIdeal.nD Cert.CtxAttnIdeal.τ).loc Cert.CtxAttnIdeal.main_arg0) = m ((c.tc : Thread Cert.CtxAttnIdeal.nD Cert.CtxAttnIdeal.τ).loc Cert.CtxAttnIdeal.main_arg0))
      ∧ θ_run (Cert.CtxAttnRefIdeal.defs (F := Ideal)) (onTc (τ := Cert.CtxAttnRefIdeal.τ) (Cert.CtxAttnRefIdeal.main (F := Ideal))) ⟨m', fun _ => 0, g'⟩ (fun r => ∀ c : Dev Cert.CtxAttnRefIdeal.nD,
          r.2.mem ((c.tc : Thread Cert.CtxAttnRefIdeal.nD Cert.CtxAttnRefIdeal.τ).loc Cert.CtxAttnRefIdeal.main_v24) = v0 c
          ∧ r.2.mem ((c.tc : Thread Cert.CtxAttnRefIdeal.nD Cert.CtxAttnRefIdeal.τ).loc Cert.CtxAttnRefIdeal.main_arg0) = m' ((c.tc : Thread Cert.CtxAttnRefIdeal.nD Cert.CtxAttnRefIdeal.τ).loc Cert.CtxAttnRefIdeal.main_arg0))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMods : Cert.Mods.Facts) (hModsIdeal : Cert.ModsIdeal.Facts) (hModsRefIdeal : Cert.ModsRefIdeal.Facts) (hCtxAttn : Cert.CtxAttn.Facts) (hCtxAttnIdeal : Cert.CtxAttnIdeal.Facts) (hCtxAttnRefIdeal : Cert.CtxAttnRefIdeal.Facts) (hPre_scores_finite : Cert.Pre_scores_finite.Facts) (hPre_ctx_finite : Cert.Pre_ctx_finite.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Mods (hMods := hMods)
    ∧ quiescent_ModsIdeal (hModsIdeal := hModsIdeal)
    ∧ quiescent_ModsRefIdeal (hModsRefIdeal := hModsRefIdeal)
    ∧ quiescent_CtxAttn (hCtxAttn := hCtxAttn)
    ∧ quiescent_CtxAttnIdeal (hCtxAttnIdeal := hCtxAttnIdeal)
    ∧ quiescent_CtxAttnIdeal_pre_ctx_finite (hCtxAttnIdeal := hCtxAttnIdeal) (hPre_ctx_finite := hPre_ctx_finite)
    ∧ quiescent_CtxAttnRefIdeal (hCtxAttnRefIdeal := hCtxAttnRefIdeal)
    ∧ quiescent_CtxAttnRefIdeal_pre_ctx_finite (hCtxAttnRefIdeal := hCtxAttnRefIdeal) (hPre_ctx_finite := hPre_ctx_finite)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Mods_ModsIdeal
    ∧ algebraic_ModsIdeal_ModsRefIdeal (hModsIdeal := hModsIdeal) (hModsRefIdeal := hModsRefIdeal)
    ∧ preserves_CtxAttn_CtxAttnIdeal
    ∧ algebraic_CtxAttnIdeal_CtxAttnRefIdeal_pre_ctx_finite (hCtxAttnIdeal := hCtxAttnIdeal) (hCtxAttnRefIdeal := hCtxAttnRefIdeal) (hPre_ctx_finite := hPre_ctx_finite)
-- ==== Pre_ctx_finite.lean ====
abbrev S8x256x4096 : Shape := ⟨3, ![8, 256, 4096]⟩
abbrev S8x256x2048 : Shape := ⟨3, ![8, 256, 2048]⟩
abbrev S_ : Shape := ⟨0, ![]⟩

class Facts : Prop where
  slices_S8x256x4096_S8x256x2048_0_0_0 : S8x256x4096.Slices ![0, 0, 0] S8x256x2048
  bcast_S_S8x256x2048 : S_.BroadcastsInDim S8x256x2048 (![] : Fin 0 → Fin S8x256x2048.rank)

variable [Facts]

def fn {F : FTy → Type} [FloatOps F] (main_arg0 : FVec F S8x256x4096 .bf16) : IVec S8x256x2048 1 :=
  let main_v0 : FVec F S8x256x2048 .bf16 := (extractStridedSlice S8x256x2048 ![0, 0, 0] · slices_S8x256x4096_S8x256x2048_0_0_0) main_arg0
  let main_v1 : FVec F S8x256x2048 .bf16 := Host.absf main_v0
  let main_cst : FVec F S_ .bf16 := constant S_ .bf16 0x7F80#16
  let main_v2 : FVec F S8x256x2048 .bf16 := broadcastInDim S8x256x2048 ![] bcast_S_S8x256x2048 main_cst
  let main_v3 : IVec S8x256x2048 1 := cmpf .olt main_v1 main_v2
  main_v3
-- ==== Pre_scores_finite.lean ====
abbrev S8x4096x4096 : Shape := ⟨3, ![8, 4096, 4096]⟩
abbrev S8x256x4096 : Shape := ⟨3, ![8, 256, 4096]⟩
abbrev S16x15x31 : Shape := ⟨3, ![16, 15, 31]⟩
abbrev S8x4096x2048 : Shape := ⟨3, ![8, 4096, 2048]⟩
abbrev S_ : Shape := ⟨0, ![]⟩
abbrev S8x256x1024 : Shape := ⟨3, ![8, 256, 1024]⟩

class Facts : Prop where
  slices_S8x4096x4096_S8x4096x2048_0_0_0 : S8x4096x4096.Slices ![0, 0, 0] S8x4096x2048
  bcast_S_S8x4096x2048 : S_.BroadcastsInDim S8x4096x2048 (![] : Fin 0 → Fin S8x4096x2048.rank)
  slices_S8x256x4096_S8x256x1024_0_0_1024 : S8x256x4096.Slices ![0, 0, 1024] S8x256x1024
  bcast_S_S8x256x1024 : S_.BroadcastsInDim S8x256x1024 (![] : Fin 0 → Fin S8x256x1024.rank)
  bcast_S_S16x15x31 : S_.BroadcastsInDim S16x15x31 (![] : Fin 0 → Fin S16x15x31.rank)

variable [Facts]

def fn {F : FTy → Type} [FloatOps F] (main_arg0 : FVec F S8x4096x4096 .bf16) (main_arg1 : FVec F S8x256x4096 .bf16) (main_arg2 : FVec F S16x15x31 .f32) : IVec S8x4096x2048 1 × IVec S8x256x1024 1 × IVec S16x15x31 1 :=
  let main_v0 : FVec F S8x4096x2048 .bf16 := (extractStridedSlice S8x4096x2048 ![0, 0, 0] · slices_S8x4096x4096_S8x4096x2048_0_0_0) main_arg0
  let main_v1 : FVec F S8x4096x2048 .bf16 := Host.absf main_v0
  let main_cst : FVec F S_ .bf16 := constant S_ .bf16 0x7F80#16
  let main_v2 : FVec F S8x4096x2048 .bf16 := broadcastInDim S8x4096x2048 ![] bcast_S_S8x4096x2048 main_cst
  let main_v3 : IVec S8x4096x2048 1 := cmpf .olt main_v1 main_v2
  let main_v4 : FVec F S8x256x1024 .bf16 := (extractStridedSlice S8x256x1024 ![0, 0, 1024] · slices_S8x256x4096_S8x256x1024_0_0_1024) main_arg1
  let main_v5 : FVec F S8x256x1024 .bf16 := Host.absf main_v4
  let main_cst_0 : FVec F S_ .bf16 := constant S_ .bf16 0x7F80#16
  let main_v6 : FVec F S8x256x1024 .bf16 := broadcastInDim S8x256x1024 ![] bcast_S_S8x256x1024 main_cst_0
  let main_v7 : IVec S8x256x1024 1 := cmpf .olt main_v5 main_v6
  let main_v8 : FVec F S16x15x31 .f32 := Host.absf main_arg2
  let main_cst_1 : FVec F S_ .f32 := constant S_ .f32 0x7F800000#32
  let main_v9 : FVec F S16x15x31 .f32 := broadcastInDim S16x15x31 ![] bcast_S_S16x15x31 main_cst_1
  let main_v10 : IVec S16x15x31 1 := cmpf .olt main_v8 main_v9
  (main_v3, main_v7, main_v10)
-- ==== Attn.lean ====
abbrev S8x4096x4096 : Shape := ⟨3, ![8, 4096, 4096]⟩
abbrev S8x256x4096 : Shape := ⟨3, ![8, 256, 4096]⟩
abbrev S16x15x31 : Shape := ⟨3, ![16, 15, 31]⟩
abbrev S132 : Shape := ⟨1, ![132]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x64x64 : Shape := ⟨4, ![16, 15, 64, 64]⟩
abbrev S1x1x64x64 : Shape := ⟨4, ![1, 1, 64, 64]⟩
abbrev S16x1x64x64 : Shape := ⟨4, ![16, 1, 64, 64]⟩
abbrev S16x16x64x64 : Shape := ⟨4, ![16, 16, 64, 64]⟩
abbrev S132x1 : Shape := ⟨2, ![132, 1]⟩
abbrev S1 : Shape := ⟨1, ![1]⟩
abbrev S1x1 : Shape := ⟨2, ![1, 1]⟩
abbrev S16x132x64x64 : Shape := ⟨4, ![16, 132, 64, 64]⟩
abbrev S16x3x4x11x64x64 : Shape := ⟨6, ![16, 3, 4, 11, 64, 64]⟩
abbrev S3x16x4x64x11x64 : Shape := ⟨6, ![3, 16, 4, 64, 11, 64]⟩
abbrev S3x16x256x704 : Shape := ⟨4, ![3, 16, 256, 704]⟩
abbrev S8x4096x1024 : Shape := ⟨3, ![8, 4096, 1024]⟩
abbrev S1x4096x128 : Shape := ⟨3, ![1, 4096, 128]⟩
abbrev S1x256x128 : Shape := ⟨3, ![1, 256, 128]⟩
abbrev S3x2x256x704 : Shape := ⟨4, ![3, 2, 256, 704]⟩
abbrev S1x128 : Shape := ⟨2, ![1, 128]⟩
abbrev S256x128 : Shape := ⟨2, ![256, 128]⟩
abbrev S1x704x128 : Shape := ⟨3, ![1, 704, 128]⟩
abbrev S704x128 : Shape := ⟨2, ![704, 128]⟩
abbrev S256x704 : Shape := ⟨2, ![256, 704]⟩
abbrev S1x1x256x704 : Shape := ⟨4, ![1, 1, 256, 704]⟩
abbrev S256x256 : Shape := ⟨2, ![256, 256]⟩
abbrev S256 : Shape := ⟨1, ![256]⟩
abbrev S256x1 : Shape := ⟨2, ![256, 1]⟩

abbrev nBuf : Space → Nat
  | .hbm => 85
  | .vmem => 14
  | .smem => 0
  | _ => 0

abbrev bufTy : (tb : Table) → Fin (tcTables nBuf tb) → BufTy
  | .hbm, ⟨0, _⟩ => ⟨S8x4096x4096, .bf16⟩
  | .hbm, ⟨1, _⟩ => ⟨S8x256x4096, .bf16⟩
  | .hbm, ⟨2, _⟩ => ⟨S16x15x31, .f32⟩
  | .hbm, ⟨3, _⟩ => ⟨S132, .i32⟩
  | .hbm, ⟨4, _⟩ => ⟨S64, .i32⟩
  | .hbm, ⟨5, _⟩ => ⟨S64x1, .i32⟩
  | .hbm, ⟨6, _⟩ => ⟨S64, .i32⟩
  | .hbm, ⟨7, _⟩ => ⟨S1x64, .i32⟩
  | .hbm, ⟨8, _⟩ => ⟨S_, .i32⟩
  | .hbm, ⟨9, _⟩ => ⟨S64x1, .i32⟩
  | .hbm, ⟨10, _⟩ => ⟨S64x1, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x1, .i32⟩
  | .hbm, ⟨15, _⟩ => ⟨S64x1, .i32⟩
  | .hbm, ⟨16, _⟩ => ⟨S_, .i32⟩
  | .hbm, ⟨17, _⟩ => ⟨S64x1, .i32⟩
  | .hbm, ⟨18, _⟩ => ⟨S64x1, .i32⟩
  | .hbm, ⟨19, _⟩ => ⟨S64x64, .i32⟩
  | .hbm, ⟨20, _⟩ => ⟨S64x64, .i32⟩
  | .hbm, ⟨21, _⟩ => ⟨S64x64, .i1⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S64x64, .i32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S1x64x64, .i1⟩
  | .hbm, ⟨39, _⟩ => ⟨S1x64x64, .i32⟩
  | .hbm, ⟨40, _⟩ => ⟨S31, .i32⟩
  | .hbm, ⟨41, _⟩ => ⟨S31x1x1, .i32⟩
  | .hbm, ⟨42, _⟩ => ⟨S31x64x64, .i32⟩
  | .hbm, ⟨43, _⟩ => ⟨S31x64x64, .i32⟩
  | .hbm, ⟨44, _⟩ => ⟨S31x64x64, .i1⟩
  | .hbm, ⟨45, _⟩ => ⟨S31x64x64, .i1⟩
  | .hbm, ⟨46, _⟩ => ⟨S31x64x64, .i1⟩
  | .hbm, ⟨47, _⟩ => ⟨S31x64x64, .f32⟩
  | .hbm, ⟨48, _⟩ => ⟨S16x15x64x64, .f32⟩
  | .hbm, ⟨49, _⟩ => ⟨S1x1x64x64, .i1⟩
  | .hbm, ⟨50, _⟩ => ⟨S_, .f32⟩
  | .hbm, ⟨51, _⟩ => ⟨S_, .f32⟩
  | .hbm, ⟨52, _⟩ => ⟨S16x15x64x64, .i1⟩
  | .hbm, ⟨53, _⟩ => ⟨S16x15x64x64, .f32⟩
  | .hbm, ⟨54, _⟩ => ⟨S16x15x64x64, .f32⟩
  | .hbm, ⟨55, _⟩ => ⟨S_, .f32⟩
  | .hbm, ⟨56, _⟩ => ⟨S16x1x64x64, .f32⟩
  | .hbm, ⟨57, _⟩ => ⟨S16x16x64x64, .f32⟩
  | .hbm, ⟨58, _⟩ => ⟨S_, .i32⟩
  | .hbm, ⟨59, _⟩ => ⟨S132, .i32⟩
  | .hbm, ⟨60, _⟩ => ⟨S132, .i1⟩
  | .hbm, ⟨61, _⟩ => ⟨S_, .i32⟩
  | .hbm, ⟨62, _⟩ => ⟨S132, .i32⟩
  | .hbm, ⟨63, _⟩ => ⟨S132, .i32⟩
  | .hbm, ⟨64, _⟩ => ⟨S132, .i32⟩
  | .hbm, ⟨65, _⟩ => ⟨S132x1, .i32⟩
  | .hbm, ⟨66, _⟩ => ⟨S1, .i32⟩
  | .hbm, ⟨67, _⟩ => ⟨S_, .i32⟩
  | .hbm, ⟨68, _⟩ => ⟨S132x1, .i32⟩
  | .hbm, ⟨69, _⟩ => ⟨S132x1, .i1⟩
  | .hbm, ⟨70, _⟩ => ⟨S1x1, .i32⟩
  | .hbm, ⟨71, _⟩ => ⟨S132x1, .i32⟩
  | .hbm, ⟨72, _⟩ => ⟨S132x1, .i1⟩
  | .hbm, ⟨73, _⟩ => ⟨S132x1, .i1⟩
  | .hbm, ⟨74, _⟩ => ⟨S_, .i1⟩
  | .hbm, ⟨75, _⟩ => ⟨S132, .i1⟩
  | .hbm, ⟨76, _⟩ => ⟨S16x132x64x64, .f32⟩
  | .hbm, ⟨77, _⟩ => ⟨S16x132x64x64, .i1⟩
  | .hbm, ⟨78, _⟩ => ⟨S_, .f32⟩
  | .hbm, ⟨79, _⟩ => ⟨S16x132x64x64, .f32⟩
  | .hbm, ⟨80, _⟩ => ⟨S16x132x64x64, .f32⟩
  | .hbm, ⟨81, _⟩ => ⟨S16x3x4x11x64x64, .f32⟩
  | .hbm, ⟨82, _⟩ => ⟨S3x16x4x64x11x64, .f32⟩
  | .hbm, ⟨83, _⟩ => ⟨S3x16x256x704, .f32⟩
  | .hbm, ⟨84, _⟩ => ⟨S8x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S3x2x256x704, .f32⟩
  | .local _ .vmem, ⟨11, _⟩ => ⟨S3x2x256x704, .f32⟩
  | .local _ .vmem, ⟨12, _⟩ => ⟨S1x4096x128, .bf16⟩
  | .local _ .vmem, ⟨13, _⟩ => ⟨S1x4096x128, .bf16⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v9 : BitVec 32 := Scalar.muli arg9 c256_i32
  v9
def k0_mult2 (k0_t1 : Fin k0_t1_loop.trips) : BitVec 32 :=
  let c53_i32 : BitVec 32 := 53#32
  let c0_i32_7 : BitVec 32 := 0#32
  let c0_i32 : BitVec 32 := 0#32
  let c1_i32 : BitVec 32 := 1#32
  let arg9 : BitVec 32 := Scf.iv c0_i32 c1_i32 k0_t1
  let c4_i32 : BitVec 32 := 4#32
  let v11 : BitVec 32 := Scalar.muli arg9 c4_i32
  let c4_i32_6 : BitVec 32 := 4#32
  let v12 : BitVec 32 := Scalar.subi v11 c4_i32_6
  let v13 : BitVec 32 := Scalar.maxsi c0_i32_7 v12
  let v14 : BitVec 32 := Scalar.minsi c53_i32 v13
  let c64_i32_8 : BitVec 32 := 64#32
  let v15 : BitVec 32 := Scalar.muli v14 c64_i32_8
  v15
def k0_off1 (k0_t1 : Fin k0_t1_loop.trips) : Fin 3 → Nat :=
  let c0_12 : Index := 0#32
  let c0_i32 : BitVec 32 := 0#32
  let c1_i32 : BitVec 32 := 1#32
  let arg9 : BitVec 32 := Scf.iv c0_i32 c1_i32 k0_t1
  let c256_i32 : BitVec 32 := 256#32
  let v9 : BitVec 32 := Scalar.muli arg9 c256_i32
  let v10 : BitVec 32 := v9
  let v21 : Index := Scalar.indexCast v10
  let c0_13 : Index := 0#32
  ![0, v21.toNat, 0]
def k0_off2 (k0_t1 : Fin k0_t1_loop.trips) : Fin 3 → Nat :=
  let c0_15 : Index := 0#32
  let c53_i32 : BitVec 32 := 53#32
  let c0_i32_7 : BitVec 32 := 0#32
  let c0_i32 : BitVec 32 := 0#32
  let c1_i32 : BitVec 32 := 1#32
  let arg9 : BitVec 32 := Scf.iv c0_i32 c1_i32 k0_t1
  let c4_i32 : BitVec 32 := 4#32
  let v11 : BitVec 32 := Scalar.muli arg9 c4_i32
  let c4_i32_6 : BitVec 32 := 4#32
  let v12 : BitVec 32 := Scalar.subi v11 c4_i32_6
  let v13 : BitVec 32 := Scalar.maxsi c0_i32_7 v12
  let v14 : BitVec 32 := Scalar.minsi c53_i32 v13
  let c64_i32_8 : BitVec 32 := 64#32
  let v15 : BitVec 32 := Scalar.muli v14 c64_i32_8
  let v16 : BitVec 32 := v15
  let v26 : Index := Scalar.indexCast v16
  let c0_16 : Index := 0#32
  ![0, v26.toNat, 0]
def k0_off3 (k0_t1 : Fin k0_t1_loop.trips) : Fin 4 → Nat :=
  let c0_i32 : BitVec 32 := 0#32
  let c1_i32 : BitVec 32 := 1#32
  let arg9 : BitVec 32 := Scf.iv c0_i32 c1_i32 k0_t1
  let c0_i32_9 : BitVec 32 := 0#32
  let v17 : BitVec 1 := Scalar.cmpi .eq arg9 c0_i32_9
  let c0_i32_11 : BitVec 32 := 0#32
  let c15_i32 : BitVec 32 := 15#32
  let v18 : BitVec 1 := Scalar.cmpi .eq arg9 c15_i32
  let c2_i32 : BitVec 32 := 2#32
  let c1_i32_10 : BitVec 32 := 1#32
  let v19 : BitVec 32 := Scalar.select v18 c2_i32 c1_i32_10
  let v20 : BitVec 32 := Scalar.select v17 c0_i32_11 v19
  let v37 : Index := Scalar.indexCast v20
  let c0_21 : Index := 0#32
  let c0_22 : Index := 0#32
  let c0_23 : Index := 0#32
  ![v37.toNat, 0, 0, 0]
def k0_off4 (k0_t1 : Fin k0_t1_loop.trips) : Fin 4 → Nat :=
  let c0_i32 : BitVec 32 := 0#32
  let c1_i32 : BitVec 32 := 1#32
  let arg9 : BitVec 32 := Scf.iv c0_i32 c1_i32 k0_t1
  let c0_i32_9 : BitVec 32 := 0#32
  let v17 : BitVec 1 := Scalar.cmpi .eq arg9 c0_i32_9
  let c0_i32_11 : BitVec 32 := 0#32
  let c15_i32 : BitVec 32 := 15#32
  let v18 : BitVec 1 := Scalar.cmpi .eq arg9 c15_i32
  let c2_i32 : BitVec 32 := 2#32
  let c1_i32_10 : BitVec 32 := 1#32
  let v19 : BitVec 32 := Scalar.select v18 c2_i32 c1_i32_10
  let v20 : BitVec 32 := Scalar.select v17 c0_i32_11 v19
  let v74 : Index := Scalar.indexCast v20
  let c1 : Index := 1#32
  let c0_35 : Index := 0#32
  let c0_36 : Index := 0#32
  ![v74.toNat, 1, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x2x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S8x4096x4096 : Shape := ⟨3, ![8, 4096, 4096]⟩
abbrev S8x256x4096 : Shape := ⟨3, ![8, 256, 4096]⟩
abbrev S16x15x31 : Shape := ⟨3, ![16, 15, 31]⟩
abbrev S64x8 : Shape := ⟨2, ![64, 8]⟩
abbrev S64x16 : Shape := ⟨2, ![64, 16]⟩
abbrev S8x4096x1024 : Shape := ⟨3, ![8, 4096, 1024]⟩
abbrev S8x4096x16x64 : Shape := ⟨4, ![8, 4096, 16, 64]⟩
abbrev S8x256x1024 : Shape := ⟨3, ![8, 256, 1024]⟩
abbrev S8x256x16x64 : Shape := ⟨4, ![8, 256, 16, 64]⟩
abbrev S8x64x64x16x64 : Shape := ⟨5, ![8, 64, 64, 16, 64]⟩
abbrev S64x1x8x1 : Shape := ⟨4, ![64, 1, 8, 1]⟩
abbrev S1x64x1x16 : Shape := ⟨4, ![1, 64, 1, 16]⟩
abbrev S_ : Shape := ⟨0, ![]⟩
abbrev S64x64x8x16 : Shape := ⟨4, ![64, 64, 8, 16]⟩
abbrev S64x64x8x16x1 : Shape := ⟨5, ![64, 64, 8, 16, 1]⟩
abbrev S64x64x8x16x2 : Shape := ⟨5, ![64, 64, 8, 16, 2]⟩
abbrev S8x64x64x8x16x16x64 : Shape := ⟨7, ![8, 64, 64, 8, 16, 16, 64]⟩
abbrev S16x64x64x8x16 : Shape := ⟨5, ![16, 64, 64, 8, 16]⟩
abbrev S8x16x64x64x8x16 : Shape := ⟨6, ![8, 16, 64, 64, 8, 16]⟩
abbrev S1x16x64x64x8x16 : Shape := ⟨6, ![1, 16, 64, 64, 8, 16]⟩
abbrev S8x16x64x64x256 : Shape := ⟨5, ![8, 16, 64, 64, 256]⟩
abbrev S8x16x64x64x128 : Shape := ⟨5, ![8, 16, 64, 64, 128]⟩
abbrev S8x16x64x64x384 : Shape := ⟨5, ![8, 16, 64, 64, 384]⟩
abbrev S8x16x64x64 : Shape := ⟨4, ![8, 16, 64, 64]⟩
abbrev S8x16x64x64x1 : Shape := ⟨5, ![8, 16, 64, 64, 1]⟩
abbrev S8x16x64x64x64 : Shape := ⟨5, ![8, 16, 64, 64, 64]⟩

abbrev nBuf : Space → Nat
  | .hbm => 122
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S8x256x4096, .bf16⟩
  | .hbm, ⟨2, _⟩ => ⟨S16x15x31, .f32⟩
  | .hbm, ⟨3, _⟩ => ⟨S64x8, .i32⟩
  | .hbm, ⟨4, _⟩ => ⟨S64x16, .i32⟩
  | .hbm, ⟨5, _⟩ => ⟨S64x8, .i32⟩
  | .hbm, ⟨6, _⟩ => ⟨S64x16, .i32⟩
  | .hbm, ⟨7, _⟩ => ⟨S8x4096x4096, .f32⟩
  | .hbm, ⟨8, _⟩ => ⟨S8x256x4096, .f32⟩
  | .hbm, ⟨9, _⟩ => ⟨S8x4096x1024, .f32⟩
  | .hbm, ⟨10, _⟩ => ⟨S8x4096x16x64, .f32⟩
  | .hbm, ⟨11, _⟩ => ⟨S8x4096x1024, .f32⟩
  | .hbm, ⟨12, _⟩ => ⟨S8x4096x16x64, .f32⟩
  | .hbm, ⟨13, _⟩ => ⟨S8x4096x1024, .f32⟩
  | .hbm, ⟨14, _⟩ => ⟨S8x4096x16x64, .f32⟩
  | .hbm, ⟨15, _⟩ => ⟨S8x256x1024, .f32⟩
  | .hbm, ⟨16, _⟩ => ⟨S8x256x16x64, .f32⟩
  | .hbm, ⟨17, _⟩ => ⟨S8x256x1024, .f32⟩
  | .hbm, ⟨18, _⟩ => ⟨S8x256x16x64, .f32⟩
  | .hbm, ⟨19, _⟩ => ⟨S8x64x64x16x64, .f32⟩
  | .hbm, ⟨20, _⟩ => ⟨S8x64x64x16x64, .f32⟩
  | .hbm, ⟨21, _⟩ => ⟨S8x64x64x16x64, .f32⟩
  | .hbm, ⟨22, _⟩ => ⟨S64x1x8x1, .i32⟩
  | .hbm, ⟨23, _⟩ => ⟨S1x64x1x16, .i32⟩
  | .hbm, ⟨24, _⟩ => ⟨S_, .i32⟩
  | .hbm, ⟨25, _⟩ => ⟨S64x1x8x1, .i32⟩
  | .hbm, ⟨26, _⟩ => ⟨S64x1x8x1, .i1⟩
  | .hbm, ⟨27, _⟩ => ⟨S_, .i32⟩
  | .hbm, ⟨28, _⟩ => ⟨S64x1x8x1, .i32⟩
  | .hbm, ⟨29, _⟩ => ⟨S64x1x8x1, .i32⟩
  | .hbm, ⟨30, _⟩ => ⟨S64x1x8x1, .i32⟩
  | .hbm, ⟨31, _⟩ => ⟨S_, .i32⟩
  | .hbm, ⟨32, _⟩ => ⟨S1x64x1x16, .i32⟩
  | .hbm, ⟨33, _⟩ => ⟨S1x64x1x16, .i1⟩
  | .hbm, ⟨34, _⟩ => ⟨S_, .i32⟩
  | .hbm, ⟨35, _⟩ => ⟨S1x64x1x16, .i32⟩
  | .hbm, ⟨36, _⟩ => ⟨S1x64x1x16, .i32⟩
  | .hbm, ⟨37, _⟩ => ⟨S1x64x1x16, .i32⟩
  | .hbm, ⟨38, _⟩ => ⟨S64x64x8x16, .i32⟩
  | .hbm, ⟨39, _⟩ => ⟨S64x64x8x16, .i32⟩
  | .hbm, ⟨40, _⟩ => ⟨S64x64x8x16x1, .i32⟩
  | .hbm, ⟨41, _⟩ => ⟨S64x64x8x16x1, .i32⟩
  | .hbm, ⟨42, _⟩ => ⟨S64x64x8x16x2, .i32⟩
  | .hbm, ⟨43, _⟩ => ⟨S8x64x64x8x16x16x64, .f32⟩
  | .hbm, ⟨44, _⟩ => ⟨S_, .i32⟩
  | .hbm, ⟨45, _⟩ => ⟨S64x1x8x1, .i32⟩
  | .hbm, ⟨46, _⟩ => ⟨S64x1x8x1, .i1⟩
  | .hbm, ⟨47, _⟩ => ⟨S_, .i32⟩
  | .hbm, ⟨48, _⟩ => ⟨S64x1x8x1, .i32⟩
  | .hbm, ⟨49, _⟩ => ⟨S64x1x8x1, .i32⟩
  | .hbm, ⟨50, _⟩ => ⟨S64x1x8x1, .i32⟩
  | .hbm, ⟨51, _⟩ => ⟨S_, .i32⟩
  | .hbm, ⟨52, _⟩ => ⟨S1x64x1x16, .i32⟩
  | .hbm, ⟨53, _⟩ => ⟨S1x64x1x16, .i1⟩
  | .hbm, ⟨54, _⟩ => ⟨S_, .i32⟩
  | .hbm, ⟨55, _⟩ => ⟨S1x64x1x16, .i32⟩
  | .hbm, ⟨56, _⟩ => ⟨S1x64x1x16, .i32⟩
  | .hbm, ⟨57, _⟩ => ⟨S1x64x1x16, .i32⟩
  | .hbm, ⟨58, _⟩ => ⟨S64x64x8x16, .i32⟩
  | .hbm, ⟨59, _⟩ => ⟨S64x64x8x16, .i32⟩
  | .hbm, ⟨60, _⟩ => ⟨S64x64x8x16x1, .i32⟩
  | .hbm, ⟨61, _⟩ => ⟨S64x64x8x16x1, .i32⟩
  | .hbm, ⟨62, _⟩ => ⟨S64x64x8x16x2, .i32⟩
  | .hbm, ⟨63, _⟩ => ⟨S8x64x64x8x16x16x64, .f32⟩
  | .hbm, ⟨64, _⟩ => ⟨S64x1x8x1, .i32⟩
  | .hbm, ⟨65, _⟩ => ⟨S1x64x1x16, .i32⟩
  | .hbm, ⟨66, _⟩ => ⟨S_, .i32⟩
  | .hbm, ⟨67, _⟩ => ⟨S64x1x8x1, .i32⟩
  | .hbm, ⟨68, _⟩ => ⟨S64x1x8x1, .i1⟩
  | .hbm, ⟨69, _⟩ => ⟨S_, .i32⟩
  | .hbm, ⟨70, _⟩ => ⟨S64x1x8x1, .i32⟩
  | .hbm, ⟨71, _⟩ => ⟨S64x1x8x1, .i32⟩
  | .hbm, ⟨72, _⟩ => ⟨S64x1x8x1, .i32⟩
  | .hbm, ⟨73, _⟩ => ⟨S_, .i32⟩
  | .hbm, ⟨74, _⟩ => ⟨S1x64x1x16, .i32⟩
  | .hbm, ⟨75, _⟩ => ⟨S1x64x1x16, .i1⟩
  | .hbm, ⟨76, _⟩ => ⟨S_, .i32⟩
  | .hbm, ⟨77, _⟩ => ⟨S1x64x1x16, .i32⟩
  | .hbm, ⟨78, _⟩ => ⟨S1x64x1x16, .i32⟩
  | .hbm, ⟨79, _⟩ => ⟨S1x64x1x16, .i32⟩
  | .hbm, ⟨80, _⟩ => ⟨S64x64x8x16, .i32⟩
  | .hbm, ⟨81, _⟩ => ⟨S64x64x8x16, .i32⟩
  | .hbm, ⟨82, _⟩ => ⟨S64x64x8x16x1, .i32⟩
  | .hbm, ⟨83, _⟩ => ⟨S64x64x8x16x1, .i32⟩
  | .hbm, ⟨84, _⟩ => ⟨S64x64x8x16x2, .i32⟩
  | .hbm, ⟨85, _⟩ => ⟨S16x64x64x8x16, .f32⟩
  | .hbm, ⟨86, _⟩ => ⟨S8x16x64x64x8x16, .f32⟩
  | .hbm, ⟨87, _⟩ => ⟨S_, .f32⟩
  | .hbm, ⟨88, _⟩ => ⟨S8x16x64x64x8x16, .f32⟩
  | .hbm, ⟨89, _⟩ => ⟨S8x16x64x64x8x16, .f32⟩
  | .hbm, ⟨90, _⟩ => ⟨S1x16x64x64x8x16, .f32⟩
  | .hbm, ⟨91, _⟩ => ⟨S8x16x64x64x8x16, .f32⟩
  | .hbm, ⟨92, _⟩ => ⟨S8x16x64x64x8x16, .f32⟩
  | .hbm, ⟨93, _⟩ => ⟨S8x16x64x64x256, .f32⟩
  | .hbm, ⟨94, _⟩ => ⟨S_, .f32⟩
  | .hbm, ⟨95, _⟩ => ⟨S8x16x64x64x256, .f32⟩
  | .hbm, ⟨96, _⟩ => ⟨S8x16x64x64x256, .f32⟩
  | .hbm, ⟨97, _⟩ => ⟨S8x16x64x64x128, .f32⟩
  | .hbm, ⟨98, _⟩ => ⟨S8x16x64x64x384, .f32⟩
  | .hbm, ⟨99, _⟩ => ⟨S_, .f32⟩
  | .hbm, ⟨100, _⟩ => ⟨S8x16x64x64, .f32⟩
  | .hbm, ⟨101, _⟩ => ⟨S_, .f32⟩
  | .hbm, ⟨102, _⟩ => ⟨S8x16x64x64, .f32⟩
  | .hbm, ⟨103, _⟩ => ⟨S8x16x64x64, .f32⟩
  | .hbm, ⟨104, _⟩ => ⟨S8x16x64x64x1, .f32⟩
  | .hbm, ⟨105, _⟩ => ⟨S8x16x64x64x384, .f32⟩
  | .hbm, ⟨106, _⟩ => ⟨S8x16x64x64x384, .f32⟩
  | .hbm, ⟨107, _⟩ => ⟨S8x16x64x64x384, .f32⟩
  | .hbm, ⟨108, _⟩ => ⟨S_, .f32⟩
  | .hbm, ⟨109, _⟩ => ⟨S8x16x64x64, .f32⟩
  | .hbm, ⟨110, _⟩ => ⟨S8x16x64x64x1, .f32⟩
  | .hbm, ⟨111, _⟩ => ⟨S8x16x64x64x384, .f32⟩
  | .hbm, ⟨112, _⟩ => ⟨S8x16x64x64x384, .f32⟩
  | .hbm, ⟨113, _⟩ => ⟨S8x16x64x64x128, .f32⟩
  | .hbm, ⟨114, _⟩ => ⟨S8x16x64x64x8x16, .f32⟩
  | .hbm, ⟨115, _⟩ => ⟨S8x16x64x64x256, .f32⟩
  | .hbm, ⟨116, _⟩ => ⟨S8x64x64x16x64, .f32⟩
  | .hbm, ⟨117, _⟩ => ⟨S8x16x64x64x64, .f32⟩
  | .hbm, ⟨118, _⟩ => ⟨S8x64x64x16x64, .f32⟩
  | .hbm, ⟨119, _⟩ => ⟨S8x64x64x16x64, .f32⟩
  | .hbm, ⟨120, _⟩ => ⟨S8x4096x1024, .f32⟩
  | .hbm, ⟨121, _⟩ => ⟨S8x4096x1024, .bf16⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_7 : Ref sig .tc := ⟨.hbm, 44, rfl⟩
abbrev main_v33 : Ref sig .tc := ⟨.hbm, 45, rfl⟩
abbrev main_v34 : Ref sig .tc := ⟨.hbm, 46, rfl⟩
abbrev main_c_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_9 : Ref sig .tc := ⟨.hbm, 51, rfl⟩
abbrev main_v38 : Ref sig .tc := ⟨.hbm, 52, rfl⟩
abbrev main_v39 : Ref sig .tc := ⟨.hbm, 53, rfl⟩
abbrev main_c_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_11 : Ref sig .tc := ⟨.hbm, 66, rfl⟩
abbrev main_v51 : Ref sig .tc := ⟨.hbm, 67, rfl⟩
abbrev main_v52 : Ref sig .tc := ⟨.hbm, 68, rfl⟩
abbrev main_c_12 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_13 : Ref sig .tc := ⟨.hbm, 73, rfl⟩
abbrev main_v56 : Ref sig .tc := ⟨.hbm, 74, rfl⟩
abbrev main_v57 : Ref sig .tc := ⟨.hbm, 75, rfl⟩
abbrev main_c_14 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_16 : Ref sig .tc := ⟨.hbm, 99, rfl⟩
abbrev main_v78 : Ref sig .tc := ⟨.hbm, 100, rfl⟩
abbrev main_cst_17 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_18 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩

abbrev nD : Nat := 1
abbrev τ : Topo := Topo.v7x

variable {F : FTy → Type} [FloatOps F]
-- ==== Ffn.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S16x6x1x2048 : Shape := ⟨4, ![16, 6, 1, 2048]⟩
abbrev S1x11264 : Shape := ⟨2, ![1, 11264]⟩
abbrev S1x2048 : Shape := ⟨2, ![1, 2048]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1x1x1x2048 : Shape := ⟨4, ![1, 1, 1, 2048]⟩
abbrev S544x2048 : Shape := ⟨2, ![544, 2048]⟩
abbrev S544x512 : Shape := ⟨2, ![544, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 29
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S32768x2048, .f32⟩
  | .hbm, ⟨6, _⟩ => ⟨S2048, .f32⟩
  | .hbm, ⟨7, _⟩ => ⟨S16x6x1x2048, .f32⟩
  | .hbm, ⟨8, _⟩ => ⟨S2048x11264, .bf16⟩
  | .hbm, ⟨9, _⟩ => ⟨S5632x2048, .bf16⟩
  | .hbm, ⟨10, _⟩ => ⟨S1x11264, .f32⟩
  | .hbm, ⟨11, _⟩ => ⟨S1x2048, .f32⟩
  | .hbm, ⟨12, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x2048, .bf16⟩
  | .local _ .vmem, ⟨19, _⟩ => ⟨S512x2048, .bf16⟩
  | .local _ .vmem, ⟨20, _⟩ => ⟨S512x2048, .f32⟩
  | .local _ .vmem, ⟨21, _⟩ => ⟨S512x2048, .f32⟩
  | .local _ .vmem, ⟨22, _⟩ => ⟨S1x1x1x2048, .f32⟩
  | .local _ .vmem, ⟨23, _⟩ => ⟨S1x1x1x2048, .f32⟩
  | .local _ .vmem, ⟨24, _⟩ => ⟨S1x2048, .f32⟩
  | .local _ .vmem, ⟨25, _⟩ => ⟨S512x2048, .f32⟩
  | .local _ .vmem, ⟨26, _⟩ => ⟨S512x2048, .f32⟩
  | .local _ .vmem, ⟨27, _⟩ => ⟨S544x2048, .bf16⟩
  | .local _ .vmem, ⟨28, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v60 : BitVec 1 := Scalar.cmpi .eq arg1 c10_i32
  let v61 : BitVec 32 := Scalar.extui v60
  let c0_i32_22 : BitVec 32 := 0#32
  let v62 : BitVec 1 := Scalar.cmpi .ne v61 c0_i32_22
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let c0_i32_4 : BitVec 32 := 0#32
  let c0_i32_5 : BitVec 32 := 0#32
  let c0_i32_6 : BitVec 32 := 0#32
  ![v17.toNat, c5_i32.toNat, c0_i32_4.toNat, c0_i32_5.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S2048 : Shape := ⟨1, ![2048]⟩
abbrev S16x6x1x2048 : Shape := ⟨4, ![16, 6, 1, 2048]⟩
abbrev S8x1x1x2048 : Shape := ⟨4, ![8, 1, 1, 2048]⟩
abbrev S8x1x2048 : Shape := ⟨3, ![8, 1, 2048]⟩
abbrev S8x4096x2048 : Shape := ⟨3, ![8, 4096, 2048]⟩
abbrev S8x4096x11264 : Shape := ⟨3, ![8, 4096, 11264]⟩
abbrev S_ : Shape := ⟨0, ![]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S5632x2048, .f32⟩
  | .hbm, ⟨5, _⟩ => ⟨S32768x2048, .f32⟩
  | .hbm, ⟨6, _⟩ => ⟨S2048, .f32⟩
  | .hbm, ⟨7, _⟩ => ⟨S16x6x1x2048, .f32⟩
  | .hbm, ⟨8, _⟩ => ⟨S8x1x1x2048, .f32⟩
  | .hbm, ⟨9, _⟩ => ⟨S8x1x2048, .f32⟩
  | .hbm, ⟨10, _⟩ => ⟨S8x4096x2048, .f32⟩
  | .hbm, ⟨11, _⟩ => ⟨S32768x2048, .f32⟩
  | .hbm, ⟨12, _⟩ => ⟨S8x4096x2048, .f32⟩
  | .hbm, ⟨13, _⟩ => ⟨S8x4096x11264, .f32⟩
  | .hbm, ⟨14, _⟩ => ⟨S_, .i32⟩
  | .hbm, ⟨15, _⟩ => ⟨S_, .f32⟩
  | .hbm, ⟨16, _⟩ => ⟨S8x4098x11264, .f32⟩
  | .hbm, ⟨17, _⟩ => ⟨S8x4096x11264, .f32⟩
  | .hbm, ⟨18, _⟩ => ⟨S1x11264, .f32⟩
  | .hbm, ⟨19, _⟩ => ⟨S11264, .f32⟩
  | .hbm, ⟨20, _⟩ => ⟨S1x1x11264, .f32⟩
  | .hbm, ⟨21, _⟩ => ⟨S8x4096x11264, .f32⟩
  | .hbm, ⟨22, _⟩ => ⟨S8x4096x11264, .f32⟩
  | .hbm, ⟨23, _⟩ => ⟨S8x4096x11264, .f32⟩
  | .hbm, ⟨24, _⟩ => ⟨S1x11264, .f32⟩
  | .hbm, ⟨25, _⟩ => ⟨S11264, .f32⟩
  | .hbm, ⟨26, _⟩ => ⟨S1x1x11264, .f32⟩
  | .hbm, ⟨27, _⟩ => ⟨S8x4096x11264, .f32⟩
  | .hbm, ⟨28, _⟩ => ⟨S8x4096x11264, .f32⟩
  | .hbm, ⟨29, _⟩ => ⟨S8x4096x11264, .f32⟩
  | .hbm, ⟨30, _⟩ => ⟨S8x4096x11264, .f32⟩
  | .hbm, ⟨31, _⟩ => ⟨S1x11264, .f32⟩
  | .hbm, ⟨32, _⟩ => ⟨S11264, .f32⟩
  | .hbm, ⟨33, _⟩ => ⟨S1x1x11264, .f32⟩
  | .hbm, ⟨34, _⟩ => ⟨S8x4096x11264, .f32⟩
  | .hbm, ⟨35, _⟩ => ⟨S8x4096x11264, .f32⟩
  | .hbm, ⟨36, _⟩ => ⟨S8x4096x11264, .f32⟩
  | .hbm, ⟨37, _⟩ => ⟨S1x1x11264, .f32⟩
  | .hbm, ⟨38, _⟩ => ⟨S8x4096x11264, .f32⟩
  | .hbm, ⟨39, _⟩ => ⟨S8x4096x11264, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S8x4096x5632, .f32⟩
  | .hbm, ⟨44, _⟩ => ⟨S_, .f32⟩
  | .hbm, ⟨45, _⟩ => ⟨S8x4096x5632, .f32⟩
  | .hbm, ⟨46, _⟩ => ⟨S8x4096x5632, .f32⟩
  | .hbm, ⟨47, _⟩ => ⟨S_, .f32⟩
  | .hbm, ⟨48, _⟩ => ⟨S8x4096x5632, .f32⟩
  | .hbm, ⟨49, _⟩ => ⟨S8x4096x5632, .f32⟩
  | .hbm, ⟨50, _⟩ => ⟨S8x4096x5632, .f32⟩
  | .hbm, ⟨51, _⟩ => ⟨S8x4096x5632, .f32⟩
  | .hbm, ⟨52, _⟩ => ⟨S8x4096x2048, .f32⟩
  | .hbm, ⟨53, _⟩ => ⟨S8x4096x2048, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1, .f32⟩
  | .hbm, ⟨64, _⟩ => ⟨S8x4096x2048, .f32⟩
  | .hbm, ⟨65, _⟩ => ⟨S8x4096x2048, .f32⟩
  | .hbm, ⟨66, _⟩ => ⟨S1x1x2048, .f32⟩
  | .hbm, ⟨67, _⟩ => ⟨S8x4096x2048, .f32⟩
  | .hbm, ⟨68, _⟩ => ⟨S8x4096x2048, .f32⟩
  | .hbm, ⟨69, _⟩ => ⟨S8x4096x2048, .f32⟩
  | .hbm, ⟨70, _⟩ => ⟨S8x4096x2048, .f32⟩
  | .hbm, ⟨71, _⟩ => ⟨S8x4096x2048, .f32⟩
  | .hbm, ⟨72, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_v37 : Ref sig .tc := ⟨.hbm, 56, rfl⟩
abbrev main_cst_0 : Ref sig .tc := ⟨.hbm, 57, rfl⟩
abbrev main_v38 : Ref sig .tc := ⟨.hbm, 58, rfl⟩
abbrev main_v39 : Ref sig .tc := ⟨.hbm, 59, rfl⟩
abbrev main_cst_1 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== InProj.lean ====
abbrev S32768x2048 : Shape := ⟨2, ![32768, 2048]⟩
abbrev S2048 : Shape := ⟨1, ![2048]⟩
abbrev S16x6x1x2048 : Shape := ⟨4, ![16, 6, 1, 2048]⟩
abbrev S2048x4096 : Shape := ⟨2, ![2048, 4096]⟩
abbrev S1x2048 : Shape := ⟨2, ![1, 2048]⟩
abbrev S32768x4096 : Shape := ⟨2, ![32768, 4096]⟩
abbrev S512x2048 : Shape := ⟨2, ![512, 2048]⟩
abbrev S1x1x1x2048 : Shape := ⟨4, ![1, 1, 1, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S16x6x1x2048, .f32⟩
  | .hbm, ⟨3, _⟩ => ⟨S2048x4096, .f32⟩
  | .hbm, ⟨4, _⟩ => ⟨S2048x4096, .bf16⟩
  | .hbm, ⟨5, _⟩ => ⟨S1x2048, .f32⟩
  | .hbm, ⟨6, _⟩ => ⟨S32768x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![v17.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  let c0_i32_7 : BitVec 32 := 0#32
  ![v17.toNat, c1_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S32768x2048 : Shape := ⟨2, ![32768, 2048]⟩
abbrev S2048 : Shape := ⟨1, ![2048]⟩
abbrev S16x6x1x2048 : Shape := ⟨4, ![16, 6, 1, 2048]⟩
abbrev S2048x4096 : Shape := ⟨2, ![2048, 4096]⟩
abbrev S8x1x1x2048 : Shape := ⟨4, ![8, 1, 1, 2048]⟩
abbrev S8x1x2048 : Shape := ⟨3, ![8, 1, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x4096 : Shape := ⟨3, ![8, 4096, 4096]⟩
abbrev S32768x4096 : Shape := ⟨2, ![32768, 4096]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S16x6x1x2048, .f32⟩
  | .hbm, ⟨3, _⟩ => ⟨S2048x4096, .f32⟩
  | .hbm, ⟨4, _⟩ => ⟨S8x1x1x2048, .f32⟩
  | .hbm, ⟨5, _⟩ => ⟨S8x1x2048, .f32⟩
  | .hbm, ⟨6, _⟩ => ⟨S8x1x1x2048, .f32⟩
  | .hbm, ⟨7, _⟩ => ⟨S8x1x2048, .f32⟩
  | .hbm, ⟨8, _⟩ => ⟨S8x4096x2048, .f32⟩
  | .hbm, ⟨9, _⟩ => ⟨S8x4096x2048, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x2048, .f32⟩
  | .hbm, ⟨21, _⟩ => ⟨S8x4096x2048, .f32⟩
  | .hbm, ⟨22, _⟩ => ⟨S1x1x2048, .f32⟩
  | .hbm, ⟨23, _⟩ => ⟨S8x4096x2048, .f32⟩
  | .hbm, ⟨24, _⟩ => ⟨S8x4096x2048, .f32⟩
  | .hbm, ⟨25, _⟩ => ⟨S_, .f32⟩
  | .hbm, ⟨26, _⟩ => ⟨S8x1x2048, .f32⟩
  | .hbm, ⟨27, _⟩ => ⟨S8x1x2048, .f32⟩
  | .hbm, ⟨28, _⟩ => ⟨S8x4096x2048, .f32⟩
  | .hbm, ⟨29, _⟩ => ⟨S8x4096x2048, .f32⟩
  | .hbm, ⟨30, _⟩ => ⟨S8x4096x2048, .f32⟩
  | .hbm, ⟨31, _⟩ => ⟨S8x4096x2048, .f32⟩
  | .hbm, ⟨32, _⟩ => ⟨S8x4096x4096, .f32⟩
  | .hbm, ⟨33, _⟩ => ⟨S8x4096x4096, .bf16⟩
  | .hbm, ⟨34, _⟩ => ⟨S32768x4096, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== OutProj.lean ====
abbrev S32768x1024 : Shape := ⟨2, ![32768, 1024]⟩
abbrev S2048x2048 : Shape := ⟨2, ![2048, 2048]⟩
abbrev S32768x2048 : Shape := ⟨2, ![32768, 2048]⟩
abbrev S2048 : Shape := ⟨1, ![2048]⟩
abbrev S16x6x1x2048 : Shape := ⟨4, ![16, 6, 1, 2048]⟩
abbrev S1x2048 : Shape := ⟨2, ![1, 2048]⟩
abbrev S512x1024 : Shape := ⟨2, ![512, 1024]⟩
abbrev S512x2048 : Shape := ⟨2, ![512, 2048]⟩
abbrev S1x1x1x2048 : Shape := ⟨4, ![1, 1, 1, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S16x6x1x2048, .f32⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S32768x2048, .f32⟩
  | .hbm, ⟨11, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048, .f32⟩
  | .local _ .vmem, ⟨11, _⟩ => ⟨S1x1x1x2048, .f32⟩
  | .local _ .vmem, ⟨12, _⟩ => ⟨S1x1x1x2048, .f32⟩
  | .local _ .vmem, ⟨13, _⟩ => ⟨S1x1x1x2048, .f32⟩
  | .local _ .vmem, ⟨14, _⟩ => ⟨S1x1x1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  let c0_i32_6 : BitVec 32 := 0#32
  ![v17.toNat, c2_i32.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let c0_i32_4 : BitVec 32 := 0#32
  let c0_i32_5 : BitVec 32 := 0#32
  let c0_i32_6 : BitVec 32 := 0#32
  ![v17.toNat, c3_i32.toNat, c0_i32_4.toNat, c0_i32_5.toNat]

def cc0_transform_8 (i : grid0.Coords) : Fin 4 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let c0_i32_4 : BitVec 32 := 0#32
  let c0_i32_5 : BitVec 32 := 0#32
  let c0_i32_6 : BitVec 32 := 0#32
  ![v17.toNat, c4_i32.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S32768x1024 : Shape := ⟨2, ![32768, 1024]⟩
abbrev S2048x2048 : Shape := ⟨2, ![2048, 2048]⟩
abbrev S32768x2048 : Shape := ⟨2, ![32768, 2048]⟩
abbrev S2048 : Shape := ⟨1, ![2048]⟩
abbrev S16x6x1x2048 : Shape := ⟨4, ![16, 6, 1, 2048]⟩
abbrev S8x1x1x2048 : Shape := ⟨4, ![8, 1, 1, 2048]⟩
abbrev S8x1x2048 : Shape := ⟨3, ![8, 1, 2048]⟩
abbrev S8x4096x1024 : Shape := ⟨3, ![8, 4096, 1024]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S16x6x1x2048, .f32⟩
  | .hbm, ⟨7, _⟩ => ⟨S8x1x1x2048, .f32⟩
  | .hbm, ⟨8, _⟩ => ⟨S8x1x2048, .f32⟩
  | .hbm, ⟨9, _⟩ => ⟨S8x1x1x2048, .f32⟩
  | .hbm, ⟨10, _⟩ => ⟨S8x1x2048, .f32⟩
  | .hbm, ⟨11, _⟩ => ⟨S8x1x1x2048, .f32⟩
  | .hbm, ⟨12, _⟩ => ⟨S8x1x2048, .f32⟩
  | .hbm, ⟨13, _⟩ => ⟨S32768x1024, .f32⟩
  | .hbm, ⟨14, _⟩ => ⟨S8x4096x1024, .f32⟩
  | .hbm, ⟨15, _⟩ => ⟨S32768x1024, .f32⟩
  | .hbm, ⟨16, _⟩ => ⟨S8x4096x1024, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x2048, .f32⟩
  | .hbm, ⟨32, _⟩ => ⟨S8x4096x2048, .f32⟩
  | .hbm, ⟨33, _⟩ => ⟨S1x1x2048, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S8x4096x2048, .f32⟩
  | .hbm, ⟨38, _⟩ => ⟨S8x4096x2048, .f32⟩
  | .hbm, ⟨39, _⟩ => ⟨S8x4096x2048, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x2048, .f32⟩
  | .hbm, ⟨51, _⟩ => ⟨S8x4096x2048, .f32⟩
  | .hbm, ⟨52, _⟩ => ⟨S1x1x2048, .f32⟩
  | .hbm, ⟨53, _⟩ => ⟨S8x4096x2048, .f32⟩
  | .hbm, ⟨54, _⟩ => ⟨S8x4096x2048, .f32⟩
  | .hbm, ⟨55, _⟩ => ⟨S_, .f32⟩
  | .hbm, ⟨56, _⟩ => ⟨S8x1x2048, .f32⟩
  | .hbm, ⟨57, _⟩ => ⟨S8x1x2048, .f32⟩
  | .hbm, ⟨58, _⟩ => ⟨S8x4096x2048, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S32768x2048, .f32⟩
  | .hbm, ⟨63, _⟩ => ⟨S8x4096x2048, .bf16⟩
  | .hbm, ⟨64, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Mods.lean ====
abbrev S16x2048 : Shape := ⟨2, ![16, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x16x12288 : Shape := ⟨3, ![2, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsRefIdeal.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S2x12288x16 : Shape := ⟨3, ![2, 12288, 16]⟩
abbrev S2x16x12288 : Shape := ⟨3, ![2, 16, 12288]⟩
abbrev S2x1x12288 : Shape := ⟨3, ![2, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S2x12288x16, .f32⟩
  | .hbm, ⟨13, _⟩ => ⟨S2x16x12288, .f32⟩
  | .hbm, ⟨14, _⟩ => ⟨S2x1x12288, .f32⟩
  | .hbm, ⟨15, _⟩ => ⟨S2x16x12288, .f32⟩
  | .hbm, ⟨16, _⟩ => ⟨S2x16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== CtxAttn.lean ====
abbrev S8x256x4096 : Shape := ⟨3, ![8, 256, 4096]⟩
abbrev S8x256x1024 : Shape := ⟨3, ![8, 256, 1024]⟩
abbrev S1x256x128 : Shape := ⟨3, ![1, 256, 128]⟩
abbrev S1x128 : Shape := ⟨2, ![1, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S8x256x4096, .bf16⟩
  | .hbm, ⟨1, _⟩ => ⟨S8x256x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | _, _ => ⟨S8x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxAttnRefIdeal.lean ====
abbrev S8x256x4096 : Shape := ⟨3, ![8, 256, 4096]⟩
abbrev S8x256x1024 : Shape := ⟨3, ![8, 256, 1024]⟩
abbrev S8x256x16x64 : Shape := ⟨4, ![8, 256, 16, 64]⟩
abbrev S8x16x256x256 : Shape := ⟨4, ![8, 16, 256, 256]⟩
abbrev S_ : Shape := ⟨0, ![]⟩
abbrev S8x16x256 : Shape := ⟨3, ![8, 16, 256]⟩
abbrev S8x16x256x1 : Shape := ⟨4, ![8, 16, 256, 1]⟩
abbrev S8x16x64x256 : Shape := ⟨4, ![8, 16, 64, 256]⟩

abbrev nBuf : Space → Nat
  | .hbm => 30
  | .vmem => 0
  | .smem => 0
  | _ => 0

abbrev bufTy : (tb : Table) → Fin (tcTables nBuf tb) → BufTy
  | .hbm, ⟨0, _⟩ => ⟨S8x256x4096, .bf16⟩
  | .hbm, ⟨1, _⟩ => ⟨S8x256x4096, .f32⟩
  | .hbm, ⟨2, _⟩ => ⟨S8x256x1024, .f32⟩
  | .hbm, ⟨3, _⟩ => ⟨S8x256x16x64, .f32⟩
  | .hbm, ⟨4, _⟩ => ⟨S8x256x1024, .f32⟩
  | .hbm, ⟨5, _⟩ => ⟨S8x256x16x64, .f32⟩
  | .hbm, ⟨6, _⟩ => ⟨S8x256x1024, .f32⟩
  | .hbm, ⟨7, _⟩ => ⟨S8x256x16x64, .f32⟩
  | .hbm, ⟨8, _⟩ => ⟨S8x16x256x256, .f32⟩
  | .hbm, ⟨9, _⟩ => ⟨S_, .f32⟩
  | .hbm, ⟨10, _⟩ => ⟨S8x16x256x256, .f32⟩
  | .hbm, ⟨11, _⟩ => ⟨S8x16x256x256, .f32⟩
  | .hbm, ⟨12, _⟩ => ⟨S_, .f32⟩
  | .hbm, ⟨13, _⟩ => ⟨S8x16x256, .f32⟩
  | .hbm, ⟨14, _⟩ => ⟨S_, .f32⟩
  | .hbm, ⟨15, _⟩ => ⟨S8x16x256, .f32⟩
  | .hbm, ⟨16, _⟩ => ⟨S8x16x256, .f32⟩
  | .hbm, ⟨17, _⟩ => ⟨S8x16x256x1, .f32⟩
  | .hbm, ⟨18, _⟩ => ⟨S8x16x256x256, .f32⟩
  | .hbm, ⟨19, _⟩ => ⟨S8x16x256x256, .f32⟩
  | .hbm, ⟨20, _⟩ => ⟨S8x16x256x256, .f32⟩
  | .hbm, ⟨21, _⟩ => ⟨S_, .f32⟩
  | .hbm, ⟨22, _⟩ => ⟨S8x16x256, .f32⟩
  | .hbm, ⟨23, _⟩ => ⟨S8x16x256x1, .f32⟩
  | .hbm, ⟨24, _⟩ => ⟨S8x16x256x256, .f32⟩
  | .hbm, ⟨25, _⟩ => ⟨S8x16x256x256, .f32⟩
  | .hbm, ⟨26, _⟩ => ⟨S8x16x64x256, .f32⟩
  | .hbm, ⟨27, _⟩ => ⟨S8x256x16x64, .f32⟩
  | .hbm, ⟨28, _⟩ => ⟨S8x256x1024, .f32⟩
  | .hbm, ⟨29, _⟩ => ⟨S8x256x1024, .bf16⟩
  | _, _ => ⟨S8x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Proof.RefFrames.lean ====
module

public import proofs.«01_k».proof.Defs
public import proofs.«01_k».proof.Proof.Gen.AttnRefIdeal.Run
public import proofs.«01_k».proof.Proof.Gen.FfnRefIdeal.Run
public import proofs.«01_k».proof.Proof.Gen.InProjRefIdeal.Run
public import proofs.«01_k».proof.Proof.Gen.OutProjRefIdeal.Run
public import Idealize.ShloMosaic.Lib.StableHlo.Run
public import Idealize.ShloMosaic.Lib.Tactic
public import Idealize.ShloMosaic.Lib.Pointwise
public import Idealize.ShloMosaic.Adequacy
public import Idealize.ShloMosaic.Init

@[expose] public section

noncomputable section

open Idealize.ShloMosaic Idealize.SL.Sem

/-! # The references end with their arguments as launched -/

namespace Cert.Proof

/-- The frame of `AttnRefIdeal`: its run read at the arguments; it declares no semaphore. -/
theorem frame_AttnRefIdeal : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run m ρ)

/-- The frame of `FfnRefIdeal`: its run read at the arguments; it declares no semaphore. -/
theorem frame_FfnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

/-- The frame of `InProjRefIdeal`: its run read at the arguments; it declares no semaphore. -/
theorem frame_InProjRefIdeal : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run m ρ)

/-- The frame of `OutProjRefIdeal`: its run read at the arguments; it declares no semaphore. -/
theorem frame_OutProjRefIdeal : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run m ρ)

end Cert.Proof
-- ==== Proof.InProjValue.lean ====
module

public import proofs.«01_k».proof.Proof.Gen.InProjIdeal.Value
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

/-! # The input projection: what the kernel's result array holds, index by index -/

namespace Cert.InProjIdeal.Hand

open Cert.InProjIdeal Cert.InProjIdeal.Gen Cert.InProjIdeal.Value

variable (m : (ℓ : Loc nD τ sig) → Buf (Elt Ideal) ℓ)

theorem hz : (![0, 0] : Fin 2 → Nat) = fun _ => 0 := funext fun a => by fin_cases a <;> rfl
theorem hz4 : (![0, 0, 0, 0] : Fin 4 → Nat) = fun _ => 0 := funext fun a => by fin_cases a <;> rfl

/-- At the first column tile of a row tile the scratch receives the normalised and modulated rows. -/
theorem sout_A (c : Dev nD) (t : Fin cfg0.N) (hc : cond0_0 (grid0.coords t))
    (x0 : Vec Ideal S512x2048 .f32) (x1 : Vec Ideal S1x2048 .f32) (x2 : Vec Ideal S1x1x1x2048 .f32) (x3 : Vec Ideal S1x1x1x2048 .f32) (x4 : Vec Ideal S2048x1024 .bf16) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc x0 x1 x2 x3 x4 = k0_pay1 x0 x1 x2 x3 := by
  unfold sout0_A_0
  rw [View.read_writes_eq_canon _ _ _ (scover0_A_0 c _ _ _ _ _ _ _ _ _ _ _ _ _ _ _ hc x0 x1 x2 x3 x4)]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S512x2048) hz, View.ld_unit_zero (S := S1x2048) hz, View.ld_unit_zero (S := S1x1x1x2048) hz4]

/-- … and the output block the product of those rows with the weights' columns. -/
theorem out_A (c : Dev nD) (t : Fin cfg0.N) (hc : cond0_0 (grid0.coords t))
    (x0 : Vec Ideal S512x2048 .f32) (x1 : Vec Ideal S1x2048 .f32) (x2 : Vec Ideal S1x1x1x2048 .f32) (x3 : Vec Ideal S1x1x1x2048 .f32) (x4 : Vec Ideal S2048x1024 .bf16) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc x0 x1 x2 x3 x4 = k0_pay2 (k0_pay1 x0 x1 x2 x3) x4 := by
  unfold out0_A_5
  rw [View.read_writes_eq_canon _ _ _ (cover0_A_5 c _ _ _ _ _ _ _ _ _ _ _ _ _ _ _ hc x0 x1 x2 x3 x4)]
  unfold kernelRun0_A
  dsimp only
  sl_unfold_words
  rw [View.canon_unit_zero hz, View.readCov_unit_zero (S := S512x2048) _ hz]
  simp only [View.readAt_eq_ld, (hs0_0 t).read_unread, (hs0_1 t).read_unread, (hs0_2 t).read_unread, (hs0_3 t).read_unread, (hs0_4 t).read_unread,
    View.ld_unit_zero (S := S512x2048) hz, View.ld_unit_zero (S := S1x2048) hz, View.ld_unit_zero (S := S1x1x1x2048) hz4, View.ld_unit_zero (S := S2048x1024) hz]

/-- At a later column tile the output block is the product of the scratch's rows with the weights' columns. -/
theorem out_B (c : Dev nD) (t : Fin cfg0.N) (hc : ¬cond0_0 (grid0.coords t))
    (x0 : Vec Ideal S512x2048 .f32) (x1 : Vec Ideal S1x2048 .f32) (x2 : Vec Ideal S1x1x1x2048 .f32) (x3 : Vec Ideal S1x1x1x2048 .f32) (x4 : Vec Ideal S2048x1024 .bf16) (s : Vec Ideal S512x2048 .bf16) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) hc x0 x1 x2 x3 x4 s = k0_pay2 s x4 := by
  unfold out0_B_5
  rw [View.read_writes_eq_canon _ _ _ (cover0_B_5 c _ _ _ _ _ _ _ _ _ _ _ _ _ _ _ hc x0 x1 x2 x3 x4 s)]
  unfold kernelRun0_B
  dsimp only
  sl_unfold_words
  rw [View.canon_unit_zero hz]
  simp only [View.readAt_eq_ld, (hs0_4 t).read_unread, (Memref.isWhole_whole _).read_unread,
    View.ld_unit_zero (S := S512x2048) hz, View.ld_unit_zero (S := S2048x1024) hz]

/-! ## The windows' blocks -/

/-- The launched rows. -/
abbrev xA (c : Dev nD) : Vec Ideal S32768x2048 .f32 := m ((c : Thread nD τ).loc main_arg0)
/-- The launched norm weight. -/
abbrev gA (c : Dev nD) : Vec Ideal S2048 .f32 := m ((c : Thread nD τ).loc main_arg1)
/-- The launched modulations. -/
abbrev mA (c : Dev nD) : Vec Ideal S16x6x1x2048 .f32 := m ((c : Thread nD τ).loc main_arg2)
/-- The launched projection weights. -/
abbrev wA (c : Dev nD) : Vec Ideal S2048x4096 .f32 := m ((c : Thread nD τ).loc main_arg3)

/-- Where each window stands at a point. -/
theorem idx_facts : ∀ t : Fin cfg0.N, win0_0.index t (0 : Fin 2) = t.val / 4 ∧ win0_0.index t (1 : Fin 2) = 0
    ∧ win0_1.index t (0 : Fin 2) = 0 ∧ win0_1.index t (1 : Fin 2) = 0
    ∧ (win0_2.index t (0 : Fin 4) = t.val / 32 ∧ win0_2.index t (1 : Fin 4) = 0 ∧ win0_2.index t (2 : Fin 4) = 0 ∧ win0_2.index t (3 : Fin 4) = 0)
    ∧ (win0_3.index t (0 : Fin 4) = t.val / 32 ∧ win0_3.index t (1 : Fin 4) = 1 ∧ win0_3.index t (2 : Fin 4) = 0 ∧ win0_3.index t (3 : Fin 4) = 0)
    ∧ win0_4.index t (0 : Fin 2) = 0 ∧ win0_4.index t (1 : Fin 2) = t.val % 4 :=
  (by decide +kernel : ∀ t : Fin grid0.N, _)

theorem t_lt (t : Fin cfg0.N) : t.val < 256 := lt_of_lt_of_eq t.isLt N_0

/-- Row `r` of the row tile of point `t`. -/
theorem blk0 (c : Dev nD) (t : Fin cfg0.N) (r : Fin 512) (k : Fin 2048) (R : Fin 32768) (hR : R.val = t.val / 4 * 512 + r.val) :
    (iblk m c 0 t : Vec Ideal S512x2048 .f32) (ix2 r k) = xA m c (ix2 R k) := by
  obtain ⟨h0, h1, -⟩ := idx_facts t
  show V m c main_arg0 (((cfg0.win 0).blk t).view.emb (ix2 r k)) = _
  rw [V_main_arg0]
  refine congrArg (xA m c) (funext fun a => Fin.ext ?_)
  match a with
  | ⟨0, _⟩ => show win0_0.index t (0 : Fin 2) * 512 + 1 * r.val = R.val; rw [h0]; omega
  | ⟨1, _⟩ => show win0_0.index t (1 : Fin 2) * 2048 + 1 * k.val = k.val; rw [h1]; omega

/-- The norm weight's block is the weight as one row. -/
theorem blk1 (c : Dev nD) (t : Fin cfg0.N) (k : Fin 2048) :
    (iblk m c 1 t : Vec Ideal S1x2048 .f32) (ix2 0 k) = gA m c (ix1 k) := by
  obtain ⟨-, -, h0, h1, -⟩ := idx_facts t
  have e : V m c main_v1 = shapeCast S1x2048 (gA m c) shapeCasts_S2048_S1x2048 := by
    unfold V; after_results <;> rfl
  show V m c main_v1 (((cfg0.win 1).blk t).view.emb (ix2 0 k)) = _
  have e2 : ((cfg0.win 1).blk t).view.emb (ix2 0 k) = (ix2 0 k : S1x2048.Idx) := funext fun a => Fin.ext (by
    match a with
    | ⟨0, _⟩ => show win0_1.index t (0 : Fin 2) * 1 + 1 * 0 = 0; rw [h0]
    | ⟨1, _⟩ => show win0_1.index t (1 : Fin 2) * 2048 + 1 * k.val = k.val; rw [h1]; omega)
  rw [e, e2]
  pointwise

/-- The shift's block. -/
theorem blk2 (c : Dev nD) (t : Fin cfg0.N) (k : Fin 2048) (b : Fin 16) (hb : b.val = t.val / 32) :
    (iblk m c 2 t : Vec Ideal S1x1x1x2048 .f32) (ix4 0 0 0 k) = mA m c (ix4 b 0 0 k) := by
  obtain ⟨-, -, -, -, ⟨h0, h1, h2, h3⟩, -⟩ := idx_facts t
  show V m c main_arg2 (((cfg0.win 2).blk t).view.emb (ix4 0 0 0 k)) = _
  rw [V_main_arg2]
  refine congrArg (mA m c) (funext fun a => Fin.ext ?_)
  match a with
  | ⟨0, _⟩ => show win0_2.index t (0 : Fin 4) * 1 + 1 * 0 = b.val; rw [h0]; omega
  | ⟨1, _⟩ => show win0_2.index t (1 : Fin 4) * 1 + 1 * 0 = 0; rw [h1]
  | ⟨2, _⟩ => show win0_2.index t (2 : Fin 4) * 1 + 1 * 0 = 0; rw [h2]
  | ⟨3, _⟩ => show win0_2.index t (3 : Fin 4) * 2048 + 1 * k.val = k.val; rw [h3]; omega

/-- The scale's block. -/
theorem blk3 (c : Dev nD) (t : Fin cfg0.N) (k : Fin 2048) (b : Fin 16) (hb : b.val = t.val / 32) :
    (iblk m c 3 t : Vec Ideal S1x1x1x2048 .f32) (ix4 0 0 0 k) = mA m c (ix4 b 1 0 k) := by
  obtain ⟨-, -, -, -, -, ⟨h0, h1, h2, h3⟩, -⟩ := idx_facts t
  show V m c main_arg2 (((cfg0.win 3).blk t).view.emb (ix4 0 0 0 k)) = _
  rw [V_main_arg2]
  refine congrArg (mA m c) (funext fun a => Fin.ext ?_)
  match a with
  | ⟨0, _⟩ => show win0_3.index t (0 : Fin 4) * 1 + 1 * 0 = b.val; rw [h0]; omega
  | ⟨1, _⟩ => show win0_3.index t (1 : Fin 4) * 1 + 1 * 0 = 1; rw [h1]
  | ⟨2, _⟩ => show win0_3.index t (2 : Fin 4) * 1 + 1 * 0 = 0; rw [h2]
  | ⟨3, _⟩ => show win0_3.index t (3 : Fin 4) * 2048 + 1 * k.val = k.val; rw [h3]; omega

/-- The weights' column tile. -/
theorem blk4 (c : Dev nD) (t : Fin cfg0.N) (k : Fin 2048) (l : Fin 1024) (C : Fin 4096) (hC : C.val = t.val % 4 * 1024 + l.val) :
    (iblk m c 4 t : Vec Ideal S2048x1024 .bf16) (ix2 k l) = wA m c (ix2 k C) := by
  obtain ⟨-, -, -, -, -, -, h0, h1⟩ := idx_facts t
  have e : V m c main_v0 = (truncf (F := Ideal) .bf16 (wA m c) bitsLt_bf16_f32 : Vec Ideal S2048x4096 .bf16) := by
    unfold V; after_results <;> rfl
  show V m c main_v0 (((cfg0.win 4).blk t).view.emb (ix2 k l)) = _
  have e2 : ((cfg0.win 4).blk t).view.emb (ix2 k l) = (ix2 k C : S2048x4096.Idx) := funext fun a => Fin.ext (by
    match a with
    | ⟨0, _⟩ => show win0_4.index t (0 : Fin 2) * 2048 + 1 * k.val = k.val; rw [h0]; omega
    | ⟨1, _⟩ => show win0_4.index t (1 : Fin 2) * 1024 + 1 * l.val = C.val; rw [h1]; omega)
  rw [e, e2]
  pointwise

/-! ## The rows and their product -/

/-- One entry of the normalised and modulated row `R` of the batch entry `b`. -/
def rowH (x : Vec Ideal S32768x2048 .f32) (g : Vec Ideal S2048 .f32) (md : Vec Ideal S16x6x1x2048 .f32) (R : Fin 32768) (b : Fin 16) (k : Fin 2048) : EReal :=
  x (ix2 R k) * Ideal.rsqrt (Ideal.div (∑ j : Fin 2048, x (ix2 R j) * x (ix2 R j)) (Ideal.ofBits .f32 0x45000000#32) + Ideal.ofBits .f32 0x358637BD#32)
    * g (ix1 k) * (1 + md (ix4 b 1 0 k)) + md (ix4 b 0 0 k)

theorem pay1_apply (c : Dev nD) (t : Fin cfg0.N) (r : Fin 512) (k : Fin 2048) (R : Fin 32768) (hR : R.val = t.val / 4 * 512 + r.val)
    (b : Fin 16) (hb : b.val = t.val / 32) :
    (k0_pay1 (iblk m c 0 t) (iblk m c 1 t) (iblk m c 2 t) (iblk m c 3 t) : Vec Ideal S512x2048 .bf16) (ix2 r k)
      = rowH (xA m c) (gA m c) (mA m c) R b k := by
  unfold rowH
  simp only [← blk0 m c t r _ R hR, ← blk1 m c t, ← blk2 m c t _ b hb, ← blk3 m c t _ b hb]
  generalize (iblk m c 0 t : Vec Ideal S512x2048 .f32) = X
  generalize (iblk m c 1 t : Vec Ideal S1x2048 .f32) = G
  generalize (iblk m c 2 t : Vec Ideal S1x1x1x2048 .f32) = A
  generalize (iblk m c 3 t : Vec Ideal S1x1x1x2048 .f32) = B
  pointwise [k0_pay1]

/-- The scratch after point `n` holds the rows of the point's row tile. -/
theorem scratch (c : Dev nD) : ∀ (n : ℕ) (h : n < cfg0.N) (r : Fin 512) (k : Fin 2048) (R : Fin 32768) (hR : R.val = n / 4 * 512 + r.val)
    (b : Fin 16) (hb : b.val = n / 32), (outsAt0 m c n h).2 (ix2 r k) = rowH (xA m c) (gA m c) (mA m c) R b k := by
  intro n
  induction n with
  | zero =>
    intro h r k R hR b hb
    rw [show outsAt0 m c 0 h = _ from outsAt0_A m c ⟨0, h⟩ rfl]
    dsimp only
    rw [sout_A c ⟨0, h⟩]
    exact pay1_apply m c ⟨0, h⟩ r k R hR b hb
  | succ n ih =>
    intro h r k R hR b hb
    by_cases h0 : (n + 1) % 4 = 0
    · rw [show outsAt0 m c (n + 1) h = _ from outsAt0_A m c ⟨n + 1, h⟩ h0]
      dsimp only
      rw [sout_A c ⟨n + 1, h⟩]
      exact pay1_apply m c ⟨n + 1, h⟩ r k R hR b hb
    · rw [show outsAt0 m c (n + 1) h = _ from outsAt0_B m c ⟨n + 1, h⟩ h0]
      dsimp only
      unfold sout0_B_0
      exact ih (Nat.lt_of_succ_lt h) r k R (by omega) b (by omega)

theorem pay2_apply (s : Vec Ideal S512x2048 .bf16) (w : Vec Ideal S2048x1024 .bf16) (r : Fin 512) (l : Fin 1024) :
    (k0_pay2 s w : Vec Ideal S512x1024 .bf16) (ix2 r l) = ∑ k : Fin 2048, s (ix2 r k) * w (ix2 k l) := by
  pointwise [k0_pay2]

/-- The result's entry: the row's product with the weights' column. -/
def outG (x : Vec Ideal S32768x2048 .f32) (g : Vec Ideal S2048 .f32) (md : Vec Ideal S16x6x1x2048 .f32) (w : Vec Ideal S2048x4096 .f32)
    (R : Fin 32768) (C : Fin 4096) : EReal :=
  ∑ k : Fin 2048, rowH x g md R ⟨R.val / 4096, by omega⟩ k * w (ix2 k C)

theorem outs_apply (c : Dev nD) (t : Fin cfg0.N) (r : Fin 512) (l : Fin 1024) (R : Fin 32768) (hR : R.val = t.val / 4 * 512 + r.val)
    (C : Fin 4096) (hC : C.val = t.val % 4 * 1024 + l.val) :
    (outsAt0 m c t.val t.isLt).1 (ix2 r l) = outG (xA m c) (gA m c) (mA m c) (wA m c) R C := by
  have e : (outsAt0 m c t.val t.isLt).1 = k0_pay2 (outsAt0 m c t.val t.isLt).2 (iblk m c 4 t) := by
    by_cases h0 : t.val % 4 = 0
    · rw [outsAt0_A m c t h0]
      dsimp only
      rw [out_A, sout_A]
    · rw [outsAt0_B m c t h0]
      dsimp only
      rw [out_B]
      rfl
  rw [e, pay2_apply]
  unfold outG
  refine Finset.sum_congr rfl fun k _ => ?_
  rw [scratch m c t.val t.isLt r k R hR ⟨R.val / 4096, by omega⟩ (by have := t_lt t; show R.val / 4096 = _; omega), blk4 m c t k l C hC]

/-- The result array after the run. -/
theorem G_apply (c : Dev nD) (R : Fin 32768) (C : Fin 4096) :
    (G5 m c : Vec Ideal S32768x4096 .bf16) (ix2 R C) = outG (xA m c) (gA m c) (mA m c) (wA m c) R C := by
  have hp : pt5Of (ix2 R C) = 4 * (R.val / 512) + C.val / 1024 := by
    show 4 * (R.val / 512 - 0) + 1 * (C.val / 1024 - 0) = _; omega
  have hlt : pt5Of (ix2 R C) < cfg0.N := lt_of_lt_of_eq (by rw [hp]; omega) N_0.symm
  unfold G5
  rw [dif_pos hlt, ← outsAt0_sweep m c (pt5Of (ix2 R C)) hlt]
  have hl : loc5Of (ix2 R C) = (ix2 ⟨R.val % 512, by omega⟩ ⟨C.val % 1024, by omega⟩ : S512x1024.Idx) := funext fun a => by
    match a with
    | ⟨0, _⟩ => rfl
    | ⟨1, _⟩ => rfl
  rw [hl]
  exact outs_apply m c ⟨pt5Of (ix2 R C), hlt⟩ _ _ R (by show R.val = pt5Of (ix2 R C) / 4 * 512 + R.val % 512; rw [hp]; omega) C
    (by show C.val = pt5Of (ix2 R C) % 4 * 1024 + C.val % 1024; rw [hp]; omega)

end Cert.InProjIdeal.Hand
-- ==== Proof.InProj.lean ====
module

public import proofs.«01_k».proof.Proof.InProjValue
public import proofs.«01_k».proof.Proof.Gen.InProjRefIdeal.Run
public import Idealize.ShloMosaic.Lib.Tactic.CleanTypes

@[expose] public section

set_option maxRecDepth 16384

noncomputable section

open Idealize.ShloMosaic Idealize.ShloMosaic.TcCoe Idealize.SL.Sem

/-! # The input projection: the kernel's result is the reference's -/

namespace Cert.InProjRefIdeal.Hand

open Cert.InProjRefIdeal Cert.InProjRefIdeal.Gen Cert.InProjIdeal.Hand

variable (m : (ℓ : Loc nD τ sig) → Buf (Elt Ideal) ℓ) (ρ : Dev nD → PrngReg)

/-- The reference's run: its result holds the row products. -/
theorem run : θ_run defs (onTc (τ := τ) (main (F := Ideal))) ⟨m, fun _ => 0, ρ⟩ fun r => ∀ c : Dev nD,
      (∀ (R : Fin 32768) (C : Fin 4096), (r.2.mem ((c : Thread nD τ).loc main_v26) : Vec Ideal S32768x4096 .bf16) (ix2 R C)
        = outG (m ((c : Thread nD τ).loc main_arg0)) (m ((c : Thread nD τ).loc main_arg1)) (m ((c : Thread nD τ).loc main_arg2)) (m ((c : Thread nD τ).loc main_arg3)) R C)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨fun R C => ?_, (h c).2⟩) (Value.run m ρ)
  refine (congrFun (h c).1 (ix2 R C)).trans ?_
  generalize m ((c : Thread nD τ).loc main_arg0) = x
  generalize m ((c : Thread nD τ).loc main_arg1) = g
  generalize m ((c : Thread nD τ).loc main_arg2) = md
  generalize m ((c : Thread nD τ).loc main_arg3) = w
  clear h
  clean_types
  unfold outG rowH
  pointwise

end Cert.InProjRefIdeal.Hand
-- ==== Proof.Rows.lean ====
module

public import Idealize.ShloMosaic.Lib.Pointwise

@[expose] public section

noncomputable section

open Idealize.ShloMosaic

/-! # The reciprocal root mean square of a row of 2048 entries -/

namespace Cert.Rows

/-- The reciprocal square root of a row's mean square, the small constant added. -/
def rn (v : Fin 2048 → EReal) : EReal :=
  Ideal.rsqrt (Ideal.div (∑ j : Fin 2048, v j * v j) (Ideal.ofBits .f32 0x45000000#32) + Ideal.ofBits .f32 0x358637BD#32)

end Cert.Rows
-- ==== Proof.OutProjValue.lean ====
module

public import proofs.«01_k».proof.Proof.Gen.OutProjIdeal.Value
public import proofs.«01_k».proof.Proof.Rows
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

/-! # The output projection: what the kernel's two result arrays hold, index by index -/

namespace Cert.OutProjIdeal.Hand

open Cert.OutProjIdeal Cert.OutProjIdeal.Gen Cert.OutProjIdeal.Value Cert.Rows

variable (m : (ℓ : Loc nD τ sig) → Buf (Elt Ideal) ℓ)

theorem hz : (![0, 0] : Fin 2 → Nat) = fun _ => 0 := funext fun a => by fin_cases a <;> rfl

/-- The launched attention rows. -/
abbrev aA (c : Dev nD) : Vec Ideal S32768x1024 .bf16 := m ((c : Thread nD τ).loc main_arg0)
/-- The launched fourier rows. -/
abbrev fA (c : Dev nD) : Vec Ideal S32768x1024 .bf16 := m ((c : Thread nD τ).loc main_arg1)
/-- The launched projection weights. -/
abbrev wA (c : Dev nD) : Vec Ideal S2048x2048 .f32 := m ((c : Thread nD τ).loc main_arg2)
/-- The launched residual rows. -/
abbrev xA (c : Dev nD) : Vec Ideal S32768x2048 .f32 := m ((c : Thread nD τ).loc main_arg3)
/-- The launched weight of the norm after the projection. -/
abbrev gA (c : Dev nD) : Vec Ideal S2048 .f32 := m ((c : Thread nD τ).loc main_arg4)
/-- The launched weight of the norm before the next block. -/
abbrev pA (c : Dev nD) : Vec Ideal S2048 .f32 := m ((c : Thread nD τ).loc main_arg5)
/-- The launched modulations. -/
abbrev mA (c : Dev nD) : Vec Ideal S16x6x1x2048 .f32 := m ((c : Thread nD τ).loc main_arg6)

/-! ## The values -/

/-- One entry of the projected row. -/
def mixE (a f : Vec Ideal S32768x1024 .bf16) (w : Vec Ideal S2048x2048 .f32) (R : Fin 32768) (j : Fin 2048) : EReal :=
  (∑ k : Fin 1024, a (ix2 R k) * w (ix2 ⟨k.val, by omega⟩ j)) + ∑ k : Fin 1024, f (ix2 R k) * w (ix2 ⟨1024 + k.val, by omega⟩ j)

/-- The residual row with the gated, normalised projection added. -/
def yE (mix : Fin 2048 → EReal) (x g gt : Fin 2048 → EReal) (j : Fin 2048) : EReal :=
  x j + gt j * (mix j * rn mix * g j)

/-- A row normalised and modulated. -/
def hE (y : Fin 2048 → EReal) (g sc sh : Fin 2048 → EReal) (j : Fin 2048) : EReal :=
  y j * rn y * g j * (1 + sc j) + sh j

/-- The first result's entry. -/
def outY (a f : Vec Ideal S32768x1024 .bf16) (w : Vec Ideal S2048x2048 .f32) (x : Vec Ideal S32768x2048 .f32) (g : Vec Ideal S2048 .f32)
    (md : Vec Ideal S16x6x1x2048 .f32) (R : Fin 32768) (j : Fin 2048) : EReal :=
  yE (mixE a f w R) (fun j => x (ix2 R j)) (fun j => g (ix1 j)) (fun j => md (ix4 ⟨R.val / 4096, by omega⟩ 2 0 j)) j

/-- The second result's entry. -/
def outH (a f : Vec Ideal S32768x1024 .bf16) (w : Vec Ideal S2048x2048 .f32) (x : Vec Ideal S32768x2048 .f32) (g p : Vec Ideal S2048 .f32)
    (md : Vec Ideal S16x6x1x2048 .f32) (R : Fin 32768) (j : Fin 2048) : EReal :=
  hE (outY a f w x g md R) (fun j => p (ix1 j)) (fun j => md (ix4 ⟨R.val / 4096, by omega⟩ 4 0 j)) (fun j => md (ix4 ⟨R.val / 4096, by omega⟩ 3 0 j)) j

/-! ## The windows' blocks -/

/-- Where each window stands at a point. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 4) = t.val / 8 ∧ win0_5.index t (1 : Fin 4) = 2 ∧ win0_5.index t (2 : Fin 4) = 0 ∧ win0_5.index t (3 : Fin 4) = 0)
    ∧ (win0_6.index t (0 : Fin 2) = 0 ∧ win0_6.index t (1 : Fin 2) = 0)
    ∧ (win0_7.index t (0 : Fin 4) = t.val / 8 ∧ win0_7.index t (1 : Fin 4) = 3 ∧ win0_7.index t (2 : Fin 4) = 0 ∧ win0_7.index t (3 : Fin 4) = 0)
    ∧ (win0_8.index t (0 : Fin 4) = t.val / 8 ∧ win0_8.index t (1 : Fin 4) = 4 ∧ win0_8.index t (2 : Fin 4) = 0 ∧ win0_8.index t (3 : Fin 4) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem blk0 (c : Dev nD) (t : Fin cfg0.N) (r : Fin 512) (k : Fin 1024) (R : Fin 32768) (hR : R.val = t.val * 512 + r.val) :
    (iblk m c 0 t : Vec Ideal S512x1024 .bf16) (ix2 r k) = aA m c (ix2 R k) := by
  obtain ⟨⟨h0, h1⟩, -⟩ := idx_facts t
  show V m c main_arg0 (((cfg0.win 0).blk t).view.emb (ix2 r k)) = _
  rw [V_main_arg0]
  refine congrArg (aA m c) (funext fun a => Fin.ext ?_)
  match a with
  | ⟨0, _⟩ => show win0_0.index t (0 : Fin 2) * 512 + 1 * r.val = R.val; rw [h0]; omega
  | ⟨1, _⟩ => show win0_0.index t (1 : Fin 2) * 1024 + 1 * k.val = k.val; rw [h1]; omega

theorem blk1 (c : Dev nD) (t : Fin cfg0.N) (r : Fin 512) (k : Fin 1024) (R : Fin 32768) (hR : R.val = t.val * 512 + r.val) :
    (iblk m c 1 t : Vec Ideal S512x1024 .bf16) (ix2 r k) = fA m c (ix2 R k) := by
  obtain ⟨-, ⟨h0, h1⟩, -⟩ := idx_facts t
  show V m c main_arg1 (((cfg0.win 1).blk t).view.emb (ix2 r k)) = _
  rw [V_main_arg1]
  refine congrArg (fA m c) (funext fun a => Fin.ext ?_)
  match a with
  | ⟨0, _⟩ => show win0_1.index t (0 : Fin 2) * 512 + 1 * r.val = R.val; rw [h0]; omega
  | ⟨1, _⟩ => show win0_1.index t (1 : Fin 2) * 1024 + 1 * k.val = k.val; rw [h1]; omega

theorem blk2 (c : Dev nD) (t : Fin cfg0.N) (k : Fin 2048) (j : Fin 2048) :
    (iblk m c 2 t : Vec Ideal S2048x2048 .bf16) (ix2 k j) = wA m c (ix2 k j) := by
  obtain ⟨-, -, ⟨h0, h1⟩, -⟩ := idx_facts t
  have e : V m c main_v0 = (truncf (F := Ideal) .bf16 (wA m c) bitsLt_bf16_f32 : Vec Ideal S2048x2048 .bf16) := by
    unfold V; after_results <;> rfl
  show V m c main_v0 (((cfg0.win 2).blk t).view.emb (ix2 k j)) = _
  have e2 : ((cfg0.win 2).blk t).view.emb (ix2 k j) = (ix2 k j : S2048x2048.Idx) := funext fun a => Fin.ext (by
    match a with
    | ⟨0, _⟩ => show win0_2.index t (0 : Fin 2) * 2048 + 1 * k.val = k.val; rw [h0]; omega
    | ⟨1, _⟩ => show win0_2.index t (1 : Fin 2) * 2048 + 1 * j.val = j.val; rw [h1]; omega)
  rw [e, e2]
  pointwise

theorem blk3 (c : Dev nD) (t : Fin cfg0.N) (r : Fin 512) (k : Fin 2048) (R : Fin 32768) (hR : R.val = t.val * 512 + r.val) :
    (iblk m c 3 t : Vec Ideal S512x2048 .f32) (ix2 r k) = xA m c (ix2 R k) := by
  obtain ⟨-, -, -, ⟨h0, h1⟩, -⟩ := idx_facts t
  show V m c main_arg3 (((cfg0.win 3).blk t).view.emb (ix2 r k)) = _
  rw [V_main_arg3]
  refine congrArg (xA m c) (funext fun a => Fin.ext ?_)
  match a with
  | ⟨0, _⟩ => show win0_3.index t (0 : Fin 2) * 512 + 1 * r.val = R.val; rw [h0]; omega
  | ⟨1, _⟩ => show win0_3.index t (1 : Fin 2) * 2048 + 1 * k.val = k.val; rw [h1]; omega

theorem blk4 (c : Dev nD) (t : Fin cfg0.N) (k : Fin 2048) :
    (iblk m c 4 t : Vec Ideal S1x2048 .f32) (ix2 0 k) = gA m c (ix1 k) := by
  obtain ⟨-, -, -, -, ⟨h0, h1⟩, -⟩ := idx_facts t
  have e : V m c main_v1 = shapeCast S1x2048 (gA m c) shapeCasts_S2048_S1x2048 := by
    unfold V; after_results <;> rfl
  show V m c main_v1 (((cfg0.win 4).blk t).view.emb (ix2 0 k)) = _
  have e2 : ((cfg0.win 4).blk t).view.emb (ix2 0 k) = (ix2 0 k : S1x2048.Idx) := funext fun a => Fin.ext (by
    match a with
    | ⟨0, _⟩ => show win0_4.index t (0 : Fin 2) * 1 + 1 * 0 = 0; rw [h0]
    | ⟨1, _⟩ => show win0_4.index t (1 : Fin 2) * 2048 + 1 * k.val = k.val; rw [h1]; omega)
  rw [e, e2]
  pointwise

theorem blk6 (c : Dev nD) (t : Fin cfg0.N) (k : Fin 2048) :
    (iblk m c 6 t : Vec Ideal S1x2048 .f32) (ix2 0 k) = pA m c (ix1 k) := by
  obtain ⟨-, -, -, -, -, -, ⟨h0, h1⟩, -⟩ := idx_facts t
  have e : V m c main_v2 = shapeCast S1x2048 (pA m c) shapeCasts_S2048_S1x2048 := by
    unfold V; after_results <;> rfl
  show V m c main_v2 (((cfg0.win 6).blk t).view.emb (ix2 0 k)) = _
  have e2 : ((cfg0.win 6).blk t).view.emb (ix2 0 k) = (ix2 0 k : S1x2048.Idx) := funext fun a => Fin.ext (by
    match a with
    | ⟨0, _⟩ => show win0_6.index t (0 : Fin 2) * 1 + 1 * 0 = 0; rw [h0]
    | ⟨1, _⟩ => show win0_6.index t (1 : Fin 2) * 2048 + 1 * k.val = k.val; rw [h1]; omega)
  rw [e, e2]
  pointwise

theorem blk5 (c : Dev nD) (t : Fin cfg0.N) (k : Fin 2048) (b : Fin 16) (hb : b.val = t.val / 8) :
    (iblk m c 5 t : Vec Ideal S1x1x1x2048 .f32) (ix4 0 0 0 k) = mA m c (ix4 b 2 0 k) := by
  obtain ⟨-, -, -, -, -, ⟨h0, h1, h2, h3⟩, -⟩ := idx_facts t
  show V m c main_arg6 (((cfg0.win 5).blk t).view.emb (ix4 0 0 0 k)) = _
  rw [V_main_arg6]
  refine congrArg (mA m c) (funext fun a => Fin.ext ?_)
  match a with
  | ⟨0, _⟩ => show win0_5.index t (0 : Fin 4) * 1 + 1 * 0 = b.val; rw [h0]; omega
  | ⟨1, _⟩ => show win0_5.index t (1 : Fin 4) * 1 + 1 * 0 = 2; rw [h1]
  | ⟨2, _⟩ => show win0_5.index t (2 : Fin 4) * 1 + 1 * 0 = 0; rw [h2]
  | ⟨3, _⟩ => show win0_5.index t (3 : Fin 4) * 2048 + 1 * k.val = k.val; rw [h3]; omega

theorem blk7 (c : Dev nD) (t : Fin cfg0.N) (k : Fin 2048) (b : Fin 16) (hb : b.val = t.val / 8) :
    (iblk m c 7 t : Vec Ideal S1x1x1x2048 .f32) (ix4 0 0 0 k) = mA m c (ix4 b 3 0 k) := by
  obtain ⟨-, -, -, -, -, -, -, ⟨h0, h1, h2, h3⟩, -⟩ := idx_facts t
  show V m c main_arg6 (((cfg0.win 7).blk t).view.emb (ix4 0 0 0 k)) = _
  rw [V_main_arg6]
  refine congrArg (mA m c) (funext fun a => Fin.ext ?_)
  match a with
  | ⟨0, _⟩ => show win0_7.index t (0 : Fin 4) * 1 + 1 * 0 = b.val; rw [h0]; omega
  | ⟨1, _⟩ => show win0_7.index t (1 : Fin 4) * 1 + 1 * 0 = 3; rw [h1]
  | ⟨2, _⟩ => show win0_7.index t (2 : Fin 4) * 1 + 1 * 0 = 0; rw [h2]
  | ⟨3, _⟩ => show win0_7.index t (3 : Fin 4) * 2048 + 1 * k.val = k.val; rw [h3]; omega

theorem blk8 (c : Dev nD) (t : Fin cfg0.N) (k : Fin 2048) (b : Fin 16) (hb : b.val = t.val / 8) :
    (iblk m c 8 t : Vec Ideal S1x1x1x2048 .f32) (ix4 0 0 0 k) = mA m c (ix4 b 4 0 k) := by
  obtain ⟨-, -, -, -, -, -, -, -, ⟨h0, h1, h2, h3⟩, -⟩ := idx_facts t
  show V m c main_arg6 (((cfg0.win 8).blk t).view.emb (ix4 0 0 0 k)) = _
  rw [V_main_arg6]
  refine congrArg (mA m c) (funext fun a => Fin.ext ?_)
  match a with
  | ⟨0, _⟩ => show win0_8.index t (0 : Fin 4) * 1 + 1 * 0 = b.val; rw [h0]; omega
  | ⟨1, _⟩ => show win0_8.index t (1 : Fin 4) * 1 + 1 * 0 = 4; rw [h1]
  | ⟨2, _⟩ => show win0_8.index t (2 : Fin 4) * 1 + 1 * 0 = 0; rw [h2]
  | ⟨3, _⟩ => show win0_8.index t (3 : Fin 4) * 2048 + 1 * k.val = k.val; rw [h3]; omega

/-! ## What a point writes back -/

/-- The payload of the first store, read at an entry over arbitrary blocks. -/
theorem pay2_apply (a f : Vec Ideal S512x1024 .bf16) (w : Vec Ideal S2048x2048 .bf16) (x : Vec Ideal S512x2048 .f32) (gt : Vec Ideal S1x1x1x2048 .f32)
    (g : Vec Ideal S1x2048 .f32) (r : Fin 512) (j : Fin 2048) :
    (k0_pay2 (View.ld a r0_0) (View.ld w r0_1) (View.ld f r0_0) (View.ld w r0_2) (View.ld x r0_3) (View.ld gt r0_4) (View.ld g r0_5) : Vec Ideal S512x2048 .f32) (ix2 r j)
      = yE (fun j => (∑ k : Fin 1024, a (ix2 r k) * w (ix2 ⟨k.val, by omega⟩ j)) + ∑ k : Fin 1024, f (ix2 r k) * w (ix2 ⟨1024 + k.val, by omega⟩ j))
          (fun j => x (ix2 r j)) (fun j => g (ix2 0 j)) (fun j => gt (ix4 0 0 0 j)) j := by
  unfold yE rn
  pointwise [k0_pay2, r0_0, r0_1, r0_2, r0_3, r0_4, r0_5]

/-- The payload of the second store, read at an entry over arbitrary blocks. -/
theorem pay1_apply (y : Vec Ideal S512x2048 .f32) (g : Vec Ideal S1x2048 .f32) (sh sc : Vec Ideal S1x1x1x2048 .f32) (r : Fin 512) (j : Fin 2048) :
    (k0_pay1 y (k0_pay3 (View.ld g r0_5)) (View.ld sh r0_4) (View.ld sc r0_4) : Vec Ideal S512x2048 .bf16) (ix2 r j)
      = hE (fun j => y (ix2 r j)) (fun j => g (ix2 0 j)) (fun j => sc (ix4 0 0 0 j)) (fun j => sh (ix4 0 0 0 j)) j := by
  unfold hE rn
  pointwise [k0_pay1, k0_pay3, r0_4, r0_5]

theorem t_lt (t : Fin cfg0.N) : t.val < 64 := lt_of_lt_of_eq t.isLt N_0

theorem y_block (c : Dev nD) (t : Fin cfg0.N) (r : Fin 512) (j : Fin 2048) (R : Fin 32768) (hR : R.val = t.val * 512 + r.val) :
    (k0_pay2 (View.ld (iblk m c 0 t) r0_0) (View.ld (iblk m c 2 t) r0_1) (View.ld (iblk m c 1 t) r0_0) (View.ld (iblk m c 2 t) r0_2) (View.ld (iblk m c 3 t) r0_3) (View.ld (iblk m c 5 t) r0_4) (View.ld (iblk m c 4 t) r0_5) : Vec Ideal S512x2048 .f32) (ix2 r j)
      = outY (aA m c) (fA m c) (wA m c) (xA m c) (gA m c) (mA m c) R j := by
  refine (pay2_apply (iblk m c 0 t) (iblk m c 1 t) (iblk m c 2 t) (iblk m c 3 t) (iblk m c 5 t) (iblk m c 4 t) r j).trans ?_
  have hb : (⟨R.val / 4096, by omega⟩ : Fin 16).val = t.val / 8 := by have := t_lt t; show R.val / 4096 = _; omega
  simp only [blk0 m c t r _ R hR, blk1 m c t r _ R hR, blk2 m c t, blk3 m c t r _ R hR, blk4 m c t, blk5 m c t _ _ hb]
  rfl

theorem out9_apply (c : Dev nD) (t : Fin cfg0.N) (r : Fin 512) (j : Fin 2048) (R : Fin 32768) (hR : R.val = t.val * 512 + r.val) :
    (out0_9 (iblk m c 0 t) (iblk m c 1 t) (iblk m c 2 t) (iblk m c 3 t) (iblk m c 4 t) (iblk m c 5 t) (iblk m c 6 t) (iblk m c 7 t) (iblk m c 8 t) : Vec Ideal S512x2048 .f32) (ix2 r j)
      = outY (aA m c) (fA m c) (wA m c) (xA m c) (gA m c) (mA m c) R j := by
  unfold out0_9
  refine (congrFun (View.canon_unit_zero hz _ _) (ix2 r j)).trans ?_
  exact y_block m c t r j R hR

theorem out10_apply (c : Dev nD) (t : Fin cfg0.N) (r : Fin 512) (j : Fin 2048) (R : Fin 32768) (hR : R.val = t.val * 512 + r.val) :
    (out0_10 (iblk m c 0 t) (iblk m c 1 t) (iblk m c 2 t) (iblk m c 3 t) (iblk m c 4 t) (iblk m c 5 t) (iblk m c 6 t) (iblk m c 7 t) (iblk m c 8 t) : Vec Ideal S512x2048 .bf16) (ix2 r j)
      = outH (aA m c) (fA m c) (wA m c) (xA m c) (gA m c) (pA m c) (mA m c) R j := by
  unfold out0_10
  refine (congrFun (View.canon_unit_zero hz _ _) (ix2 r j)).trans ?_
  refine (pay1_apply _ (iblk m c 6 t) (iblk m c 7 t) (iblk m c 8 t) r j).trans ?_
  have hb : (⟨R.val / 4096, by omega⟩ : Fin 16).val = t.val / 8 := by have := t_lt t; show R.val / 4096 = _; omega
  simp only [blk6 m c t, blk7 m c t _ _ hb, blk8 m c t _ _ hb]
  unfold outH
  congr 1
  funext j
  exact y_block m c t r j R hR

/-! ## The result arrays -/

theorem emb9 (t : Fin cfg0.N) (r : Fin 512) (j : Fin 2048) (R : Fin 32768) (hR : R.val = t.val * 512 + r.val) :
    ((cfg0.win 9).blk t).view.emb (ix2 r j) = (ix2 R j : S32768x2048.Idx) := by
  obtain ⟨-, -, -, -, -, -, -, -, -, ⟨h0, h1⟩, -⟩ := idx_facts t
  exact funext fun a => Fin.ext (by
    match a with
    | ⟨0, _⟩ => show win0_9.index t (0 : Fin 2) * 512 + 1 * r.val = R.val; rw [h0]; omega
    | ⟨1, _⟩ => show win0_9.index t (1 : Fin 2) * 2048 + 1 * j.val = j.val; rw [h1]; omega)

theorem emb10 (t : Fin cfg0.N) (r : Fin 512) (j : Fin 2048) (R : Fin 32768) (hR : R.val = t.val * 512 + r.val) :
    ((cfg0.win 10).blk t).view.emb (ix2 r j) = (ix2 R j : S32768x2048.Idx) := by
  obtain ⟨-, -, -, -, -, -, -, -, -, -, ⟨h0, h1⟩⟩ := idx_facts t
  exact funext fun a => Fin.ext (by
    match a with
    | ⟨0, _⟩ => show win0_10.index t (0 : Fin 2) * 512 + 1 * r.val = R.val; rw [h0]; omega
    | ⟨1, _⟩ => show win0_10.index t (1 : Fin 2) * 2048 + 1 * j.val = j.val; rw [h1]; omega)

theorem arr9 (c : Dev nD) (R : Fin 32768) (j : Fin 2048) :
    ((dats m 0 c).arrAt 9 cfg0.N : Vec Ideal S32768x2048 .f32) (ix2 R j) = outY (aA m c) (fA m c) (wA m c) (xA m c) (gA m c) (mA m c) R j := by
  have ht : R.val / 512 < cfg0.N := lt_of_lt_of_eq (by omega) N_0.symm
  have e := congrFun (blocks9 m c ⟨R.val / 512, ht⟩ (flush0_9 _)) (ix2 ⟨R.val % 512, by omega⟩ j : S512x2048.Idx)
  rw [flushed9] at e
  rw [View.read_apply, emb9 ⟨R.val / 512, ht⟩ ⟨R.val % 512, by omega⟩ j R (by show R.val = R.val / 512 * 512 + R.val % 512; omega)] at e
  exact e.trans (out9_apply m c ⟨R.val / 512, ht⟩ ⟨R.val % 512, by omega⟩ j R (by show R.val = R.val / 512 * 512 + R.val % 512; omega))

theorem arr10 (c : Dev nD) (R : Fin 32768) (j : Fin 2048) :
    ((dats m 0 c).arrAt 10 cfg0.N : Vec Ideal S32768x2048 .bf16) (ix2 R j) = outH (aA m c) (fA m c) (wA m c) (xA m c) (gA m c) (pA m c) (mA m c) R j := by
  have ht : R.val / 512 < cfg0.N := lt_of_lt_of_eq (by omega) N_0.symm
  have e := congrFun (blocks10 m c ⟨R.val / 512, ht⟩ (flush0_10 _)) (ix2 ⟨R.val % 512, by omega⟩ j : S512x2048.Idx)
  rw [flushed10] at e
  rw [View.read_apply, emb10 ⟨R.val / 512, ht⟩ ⟨R.val % 512, by omega⟩ j R (by show R.val = R.val / 512 * 512 + R.val % 512; omega)] at e
  exact e.trans (out10_apply m c ⟨R.val / 512, ht⟩ ⟨R.val % 512, by omega⟩ j R (by show R.val = R.val / 512 * 512 + R.val % 512; omega))

end Cert.OutProjIdeal.Hand
-- ==== Proof.OutProj.lean ====
module

public import proofs.«01_k».proof.Proof.OutProjValue
public import proofs.«01_k».proof.Proof.Gen.OutProjRefIdeal.Run
public import Idealize.ShloMosaic.Lib.Tactic.CleanTypes

@[expose] public section

set_option maxRecDepth 16384

noncomputable section

open Idealize.ShloMosaic Idealize.ShloMosaic.TcCoe Idealize.SL.Sem

/-! # The output projection: the kernel's results are the reference's -/

namespace Cert.OutProjRefIdeal.Hand

open Cert.OutProjRefIdeal Cert.OutProjRefIdeal.Gen Cert.OutProjIdeal.Hand Cert.Rows

variable (m : (ℓ : Loc nD τ sig) → Buf (Elt Ideal) ℓ) (ρ : Dev nD → PrngReg)

/-- The reference's run: its results hold the residual rows and their normalised rows. -/
theorem run : θ_run defs (onTc (τ := τ) (main (F := Ideal))) ⟨m, fun _ => 0, ρ⟩ fun r => ∀ c : Dev nD,
      (∀ (R : Fin 32768) (C : Fin 2048), (r.2.mem ((c : Thread nD τ).loc main_v48) : Vec Ideal S32768x2048 .f32) (ix2 R C)
        = outY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) R C)
      ∧ (∀ (R : Fin 32768) (C : Fin 2048), (r.2.mem ((c : Thread nD τ).loc main_v50) : Vec Ideal S32768x2048 .bf16) (ix2 R C)
        = outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) R C)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ⟨fun R C => ?_, fun R C => ?_, (h c).2.2⟩) (Value.run m ρ)
  · refine (congrFun (h c).1 (ix2 R C)).trans ?_
    generalize m ((c : Thread nD τ).loc main_arg0) = a
    generalize m ((c : Thread nD τ).loc main_arg1) = f
    generalize m ((c : Thread nD τ).loc main_arg2) = w
    generalize m ((c : Thread nD τ).loc main_arg3) = x
    generalize m ((c : Thread nD τ).loc main_arg4) = g
    generalize m ((c : Thread nD τ).loc main_arg6) = md
    clear h
    clean_types
    unfold outY yE mixE rn
    pointwise
    done
  · refine (congrFun (h c).2.1 (ix2 R C)).trans ?_
    unfold Value.res_main_v50
    generalize m ((c : Thread nD τ).loc main_arg0) = a
    generalize m ((c : Thread nD τ).loc main_arg1) = f
    generalize m ((c : Thread nD τ).loc main_arg2) = w
    generalize m ((c : Thread nD τ).loc main_arg3) = x
    generalize m ((c : Thread nD τ).loc main_arg4) = g
    generalize m ((c : Thread nD τ).loc main_arg5) = p
    generalize m ((c : Thread nD τ).loc main_arg6) = md
    clear h
    clean_types
    unfold outH hE outY yE mixE rn
    pointwise
    done

end Cert.OutProjRefIdeal.Hand
-- ==== Proof.ProjClaims.lean ====
module

public import proofs.«01_k».proof.Defs
public import proofs.«01_k».proof.Proof.InProj
public import proofs.«01_k».proof.Proof.OutProj
public import Idealize.ShloMosaic.Lib.StableHlo.Run
public import Idealize.ShloMosaic.Lib.Tactic
public import Idealize.ShloMosaic.Lib.Pointwise
public import Idealize.ShloMosaic.Adequacy
public import Idealize.ShloMosaic.Init

@[expose] public section

noncomputable section

open Idealize.ShloMosaic Idealize.SL.Sem

/-! # The value claims of the two projections -/

namespace Cert.Proof

/-- The input projection's two programs end with equal results. -/
theorem algebraic_in : Cert.algebraic_InProjIdeal_InProjRefIdeal := fun m ρ m' ρ' _ hag =>
  ⟨fun c => Cert.InProjIdeal.Value.G5 m c, Cert.InProjIdeal.Value.run m ρ,
    (θ_run _ _ _).mono (fun r h c => ⟨funext fun (i : Cert.InProjIdeal.S32768x4096.Idx) => by
        idx_vars i
        refine ((h c).1 i0 i1).trans ?_
        rw [(hag c).1, (hag c).2.1, (hag c).2.2.1, (hag c).2.2.2]
        exact (Cert.InProjIdeal.Hand.G_apply m c i0 i1).symm, (h c).2⟩) (Cert.InProjRefIdeal.Hand.run m' ρ')⟩

/-- The output projection's two programs end with equal results. -/
theorem algebraic_out : Cert.algebraic_OutProjIdeal_OutProjRefIdeal := fun m ρ m' ρ' _ hag =>
  ⟨fun c => (Cert.OutProjIdeal.Gen.dats m 0 c).arrAt 9 Cert.OutProjIdeal.cfg0.N, fun c => (Cert.OutProjIdeal.Gen.dats m 0 c).arrAt 10 Cert.OutProjIdeal.cfg0.N,
    Cert.OutProjIdeal.Value.run_blocks m ρ,
    (θ_run _ _ _).mono (fun r h c => ⟨funext fun (i : Cert.OutProjIdeal.S32768x2048.Idx) => by
        idx_vars i
        refine ((h c).1 i0 i1).trans ?_
        obtain ⟨e0, e1, e2, e3, e4, e5, e6⟩ := hag c
        rw [e0, e1, e2, e3, e4, e6]
        exact (Cert.OutProjIdeal.Hand.arr9 m c i0 i1).symm, funext fun (i : Cert.OutProjIdeal.S32768x2048.Idx) => by
        idx_vars i
        refine ((h c).2.1 i0 i1).trans ?_
        obtain ⟨e0, e1, e2, e3, e4, e5, e6⟩ := hag c
        rw [e0, e1, e2, e3, e4, e5, e6]
        exact (Cert.OutProjIdeal.Hand.arr10 m c i0 i1).symm, (h c).2.2⟩) (Cert.OutProjRefIdeal.Hand.run m' ρ')⟩

end Cert.Proof
-- ==== Proof.FfnPoint.lean ====
module

public import proofs.«01_k».proof.Proof.Gen.FfnIdeal.Frame
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

/-! # The gated convolution: what one grid point leaves in the scratches and in the output block -/

namespace Cert.FfnIdeal.Hand

open Cert.FfnIdeal Cert.FfnIdeal.Gen

variable (m : (ℓ : Loc nD τ sig) → Buf (Elt Ideal) ℓ)

theorem hz : (![0, 0] : Fin 2 → Nat) = fun _ => 0 := funext fun a => by fin_cases a <;> rfl
theorem hz4 : (![0, 0, 0, 0] : Fin 4 → Nat) = fun _ => 0 := funext fun a => by fin_cases a <;> rfl

/-- A load of the whole of what a list of stores left reads what they left. -/
theorem readCov_whole {κ : Kind} {sp : Space} {S : Shape} {e : EltTy} (v : View sig κ sp S e) (L : List (View.Piece (Elt Ideal) S e))
    {off : Fin S.rank → Nat} (h : off = fun _ => 0) (inb : ∀ a, off a + S.size a ≤ S.size a) :
    v.readCov L (Rect.unit off S.size inb).toLoadRect = View.canon L :=
  (View.readCov_eq_canon' v L _).trans (View.ld_unit_zero (X := View.canon L) h inb)

/-- One column tile's step of the accumulator: the two projections of the haloed rows, their convolutions, the gate, and
    the product with the down projection's rows added. -/
def step (H : Vec Ideal S544x2048 .bf16) (wa wg : Vec Ideal S2048x512 .bf16) (ca cg : Vec Ideal S3x512 .f32)
    (ba bg : Vec Ideal S1x512 .f32) (wd : Vec Ideal S512x2048 .bf16) (acc : Vec Ideal S512x2048 .f32) : Vec Ideal S512x2048 .f32 :=
  k0_pay1 (k0_pay7 H wa ca ba) (k0_pay9 H wg cg) (k0_pay10 H wg) (k0_pay11 cg) bg acc wd

/-- At the first column tile of a row tile the accumulator restarts from zero, over the haloed rows just stored. -/
theorem acc_A (c : Dev nD) (t : Fin cfg0.N) (h0 : t.val % 11 = 0) (h1 : ¬t.val % 11 = 10) :
    (outsAt0 m c t.val t.isLt).2.2 = step (outsAt0 m c t.val t.isLt).2.1 (iblk m c 3 t) (iblk m c 4 t) (iblk m c 5 t) (iblk m c 6 t)
      (iblk m c 7 t) (iblk m c 8 t) (iblk m c 9 t) (k0_pay6 (F := Ideal)) := by
  rw [outsAt0_A m c t h0 h1]
  dsimp only
  unfold sout0_A_1 sout0_A_0
  rw [View.read_writes_junk_eq_canon, View.read_writes_junk_eq_canon]
  unfold kernelRun0_A step
  dsimp only
  sl_unfold_words
  rw [View.canon_cons_unit_zero hz]
  simp only [readCov_whole (S := S544x2048) _ _ hz, readCov_whole (S := S512x2048) _ _ hz, View.canon_unit_zero (S := S512x2048) hz, View.readAt_eq_ld, (hs0_3 t).read_unread, (hs0_4 t).read_unread, (hs0_5 t).read_unread, (hs0_6 t).read_unread,
    (hs0_7 t).read_unread, (hs0_8 t).read_unread, (hs0_9 t).read_unread,
    View.ld_unit_zero (S := S512x2048) hz, View.ld_unit_zero (S := S2048x512) hz, View.ld_unit_zero (S := S1x512) hz, View.ld_unit_zero (S := S3x512) hz,
    View.ld_unit_zero (S := S544x2048) hz]

/-- At a later column tile the haloed rows stay … -/
theorem hext_B (c : Dev nD) (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]
    rfl
  · rw [outsAt0_B m c t h0 h1]
    rfl

/-- … and the accumulator takes one step. -/
theorem acc_B (c : Dev nD) (t : Fin cfg0.N) (h0 : ¬t.val % 11 = 0) :
    (outsAt0 m c t.val t.isLt).2.2 = step (outsAt0 m c (t.val - 1) (Nat.lt_of_le_of_lt (Nat.sub_le _ _) t.isLt)).2.1 (iblk m c 3 t) (iblk m c 4 t) (iblk m c 5 t) (iblk m c 6 t)
      (iblk m c 7 t) (iblk m c 8 t) (iblk m c 9 t) (outsAt0 m c (t.val - 1) (Nat.lt_of_le_of_lt (Nat.sub_le _ _) t.isLt)).2.2 := by
  by_cases h1 : t.val % 11 = 10
  · rw [outsAt0_C m c t h0 h1]
    dsimp only
    generalize (outsAt0 m c (t.val - 1) (Nat.lt_of_le_of_lt (Nat.sub_le _ _) t.isLt)) = s
    unfold sout0_C_1
    rw [View.read_writes_junk_eq_canon]
    unfold kernelRun0_C step
    dsimp only
    sl_unfold_words
    rw [View.canon_cons_unit_zero hz]
    simp only [View.readAt_eq_ld, (hs0_3 t).read_unread, (hs0_4 t).read_unread, (hs0_5 t).read_unread, (hs0_6 t).read_unread,
      (hs0_7 t).read_unread, (hs0_8 t).read_unread, (hs0_9 t).read_unread, (Memref.isWhole_whole _).read_unread,
      View.ld_unit_zero (S := S512x2048) hz, View.ld_unit_zero (S := S2048x512) hz, View.ld_unit_zero (S := S1x512) hz, View.ld_unit_zero (S := S3x512) hz,
      View.ld_unit_zero (S := S544x2048) hz]
  · rw [outsAt0_B m c t h0 h1]
    dsimp only
    generalize (outsAt0 m c (t.val - 1) (Nat.lt_of_le_of_lt (Nat.sub_le _ _) t.isLt)) = s
    unfold sout0_B_1
    rw [View.read_writes_junk_eq_canon]
    unfold kernelRun0_B step
    dsimp only
    sl_unfold_words
    rw [View.canon_cons_unit_zero hz]
    simp only [View.readAt_eq_ld, (hs0_3 t).read_unread, (hs0_4 t).read_unread, (hs0_5 t).read_unread, (hs0_6 t).read_unread,
      (hs0_7 t).read_unread, (hs0_8 t).read_unread, (hs0_9 t).read_unread, (Memref.isWhole_whole _).read_unread,
      View.ld_unit_zero (S := S512x2048) hz, View.ld_unit_zero (S := S2048x512) hz, View.ld_unit_zero (S := S1x512) hz, View.ld_unit_zero (S := S3x512) hz,
      View.ld_unit_zero (S := S544x2048) hz]

/-- At the last column tile the output block is the residual row plus the gated norm of the finished accumulator. -/
theorem out_C (c : Dev nD) (t : Fin cfg0.N) (h0 : ¬t.val % 11 = 0) (h1 : t.val % 11 = 10) :
    (outsAt0 m c t.val t.isLt).1 = k0_pay2 (iblk m c 10 t) (iblk m c 11 t) (outsAt0 m c t.val t.isLt).2.2 (iblk m c 12 t) := by
  rw [outsAt0_C m c t h0 h1]
  dsimp only
  generalize (outsAt0 m c (t.val - 1) (Nat.lt_of_le_of_lt (Nat.sub_le _ _) t.isLt)) = s
  unfold out0_C_13 sout0_C_1
  rw [View.read_writes_junk_eq_canon, View.read_writes_junk_eq_canon]
  unfold kernelRun0_C
  dsimp only
  sl_unfold_words
  rw [View.canon_cons_unit_zero hz, View.canon_cons_unit_zero hz]
  simp only [readCov_whole (S := S512x2048) _ _ hz, View.canon_unit_zero (S := S512x2048) hz, View.readAt_eq_ld, (hs0_10 t).read_unread, (hs0_11 t).read_unread, (hs0_12 t).read_unread,
      View.ld_unit_zero (S := S512x2048) hz, View.ld_unit_zero (S := S1x2048) hz, View.ld_unit_zero (S := S1x1x1x2048) hz4]

/-- Whether the first row of the tile numbered `a` begins a sequence, as the kernel computes it. -/
def atStart (a : BitVec 32) : BitVec 1 :=
  let v63 : BitVec 32 := Scalar.muli a 512#32
  let v65 : BitVec 32 := Scalar.select (Scalar.cmpi .eq 4096#32 0#32) 1#32 4096#32
  let v66 : BitVec 32 := Scalar.remsi v63 v65
  Scalar.cmpi .eq (Scalar.select (Scalar.andi (Scalar.xori (Scalar.cmpi .slt v66 0#32) (Scalar.cmpi .slt v65 0#32)) (Scalar.cmpi .ne v66 0#32)) (Scalar.addi v66 v65) v66) 0#32

theorem atStart_eq : ∀ i : Fin 65, atStart (BitVec.ofNat 32 i.val) = if i.val % 8 = 0 then 1#1 else 0#1 := by decide +kernel

theorem pay3_eq (a : BitVec 32) (x : Vec Ideal S16x2048 .bf16) (r : Fin 16) (k : Fin 2048) :
    (k0_pay3 a x : Vec Ideal S16x2048 .bf16) (ix2 r k) = if atStart a = 1#1 then (0 : EReal) else x (ix2 r k) := by
  unfold k0_pay3
  pointwise
  rfl

theorem pay5_eq (v : BitVec 1) (x : Vec Ideal S16x2048 .bf16) (r : Fin 16) (k : Fin 2048) :
    (k0_pay5 v x : Vec Ideal S16x2048 .bf16) (ix2 r k) = if v = 1#1 then (0 : EReal) else x (ix2 r k) := by
  unfold k0_pay5
  pointwise
  rfl

/-- At the first column tile the haloed rows are three stores: the halo before, the tile's rows, the halo after. -/
theorem hext_A (c : Dev nD) (t : Fin cfg0.N) (h0 : t.val % 11 = 0) (h1 : ¬t.val % 11 = 10) :
    (outsAt0 m c t.val t.isLt).2.1 = View.canon (Val := Elt Ideal)
      [⟨Rect.unit (s := S544x2048) ![528, 0] S16x2048.size inb_S544x2048_S16x2048_528_0, k0_pay5 (atStart (Scalar.addi (BitVec.ofNat 32 (grid0.coords t 0).val) 1#32)) (iblk m c 2 t)⟩,
       ⟨Rect.unit (s := S544x2048) ![16, 0] S512x2048.size inb_S544x2048_S512x2048_16_0, k0_pay4 (iblk m c 0 t)⟩,
       ⟨Rect.unit (s := S544x2048) ![0, 0] S16x2048.size inb_S544x2048_S16x2048_0_0, k0_pay3 (BitVec.ofNat 32 (grid0.coords t 0).val) (iblk m c 1 t)⟩] := by
  rw [outsAt0_A m c t h0 h1]
  dsimp only
  unfold sout0_A_0
  rw [View.read_writes_junk_eq_canon]
  unfold kernelRun0_A
  dsimp only
  sl_unfold_words
  simp only [View.readAt_eq_ld, (hs0_0 t).read_unread, (hs0_1 t).read_unread, (hs0_2 t).read_unread,
    View.ld_unit_zero (S := S512x2048) hz, View.ld_unit_zero (S := S16x2048) hz]
  rfl

end Cert.FfnIdeal.Hand
-- ==== Proof.FfnBlocks.lean ====
module

public import proofs.«01_k».proof.Proof.FfnPoint
public import proofs.«01_k».proof.Proof.Rows
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

/-! # The gated convolution: the blocks a grid point reads -/

namespace Cert.FfnIdeal.Hand

open Cert.FfnIdeal Cert.FfnIdeal.Gen

variable (m : (ℓ : Loc nD τ sig) → Buf (Elt Ideal) ℓ)

/-- The launched normalised rows. -/
abbrev hA (c : Dev nD) : Vec Ideal S32768x2048 .bf16 := m ((c : Thread nD τ).loc main_arg0)
/-- The launched up projection. -/
abbrev uA (c : Dev nD) : Vec Ideal S2048x11264 .f32 := m ((c : Thread nD τ).loc main_arg1)
/-- The launched convolution taps. -/
abbrev kA (c : Dev nD) : Vec Ideal S3x11264 .f32 := m ((c : Thread nD τ).loc main_arg2)
/-- The launched convolution bias. -/
abbrev bA (c : Dev nD) : Vec Ideal S11264 .f32 := m ((c : Thread nD τ).loc main_arg3)
/-- The launched down projection. -/
abbrev dA (c : Dev nD) : Vec Ideal S5632x2048 .f32 := m ((c : Thread nD τ).loc main_arg4)
/-- The launched residual rows. -/
abbrev xA (c : Dev nD) : Vec Ideal S32768x2048 .f32 := m ((c : Thread nD τ).loc main_arg5)
/-- The launched norm weight. -/
abbrev gA (c : Dev nD) : Vec Ideal S2048 .f32 := m ((c : Thread nD τ).loc main_arg6)
/-- The launched modulations. -/
abbrev mA (c : Dev nD) : Vec Ideal S16x6x1x2048 .f32 := m ((c : Thread nD τ).loc main_arg7)

theorem t_lt (t : Fin cfg0.N) : t.val < 704 := lt_of_lt_of_eq t.isLt N_0

/-- The row tile of a point. -/
theorem coord_row : ∀ t : Fin cfg0.N, (grid0.coords t 0).val = t.val / 11 := (by decide +kernel : ∀ t : Fin grid0.N, _)

/-- Where each window over the rows stands at a point. -/
theorem idx_rows : ∀ t : Fin cfg0.N, (win0_0.index t (0 : Fin 2) = t.val / 11 ∧ win0_0.index t (1 : Fin 2) = 0)
    ∧ (win0_1.index t (0 : Fin 2) = t.val / 11 * 32 - 1 ∧ win0_1.index t (1 : Fin 2) = 0)
    ∧ (win0_2.index t (0 : Fin 2) = min ((t.val / 11 + 1) * 32) 2047 ∧ win0_2.index t (1 : Fin 2) = 0)
    ∧ (win0_10.index t (0 : Fin 2) = t.val / 11 ∧ win0_10.index t (1 : Fin 2) = 0)
    ∧ (win0_11.index t (0 : Fin 4) = t.val / 88 ∧ win0_11.index t (1 : Fin 4) = 5 ∧ win0_11.index t (2 : Fin 4) = 0 ∧ win0_11.index t (3 : Fin 4) = 0)
    ∧ (win0_12.index t (0 : Fin 2) = 0 ∧ win0_12.index t (1 : Fin 2) = 0)
    ∧ (win0_13.index t (0 : Fin 2) = t.val / 11 ∧ win0_13.index t (1 : Fin 2) = 0) :=
  (by decide +kernel : ∀ t : Fin grid0.N, _)

/-- Where each window over the hidden columns stands at a point. -/
theorem idx_cols : ∀ t : Fin cfg0.N, (win0_3.index t (0 : Fin 2) = 0 ∧ win0_3.index t (1 : Fin 2) = t.val % 11)
    ∧ (win0_4.index t (0 : Fin 2) = 0 ∧ win0_4.index t (1 : Fin 2) = 11 + t.val % 11)
    ∧ (win0_5.index t (0 : Fin 2) = 0 ∧ win0_5.index t (1 : Fin 2) = t.val % 11)
    ∧ (win0_6.index t (0 : Fin 2) = 0 ∧ win0_6.index t (1 : Fin 2) = 11 + t.val % 11)
    ∧ (win0_7.index t (0 : Fin 2) = 0 ∧ win0_7.index t (1 : Fin 2) = t.val % 11)
    ∧ (win0_8.index t (0 : Fin 2) = 0 ∧ win0_8.index t (1 : Fin 2) = 11 + t.val % 11)
    ∧ (win0_9.index t (0 : Fin 2) = t.val % 11 ∧ win0_9.index t (1 : Fin 2) = 0) :=
  (by decide +kernel : ∀ t : Fin grid0.N, _)

/-- The converted up projection holds the launched one's entries. -/
theorem V_up (c : Dev nD) (k : Fin 2048) (N : Fin 11264) : (V m c main_v0 : Vec Ideal S2048x11264 .bf16) (ix2 k N) = uA m c (ix2 k N) := by
  have e : V m c main_v0 = (truncf (F := Ideal) .bf16 (uA m c) bitsLt_bf16_f32 : Vec Ideal S2048x11264 .bf16) := by
    unfold V; after_results <;> rfl
  rw [e]
  pointwise

/-- The converted down projection holds the launched one's entries. -/
theorem V_down (c : Dev nD) (f : Fin 5632) (C : Fin 2048) : (V m c main_v1 : Vec Ideal S5632x2048 .bf16) (ix2 f C) = dA m c (ix2 f C) := by
  have e : V m c main_v1 = (truncf (F := Ideal) .bf16 (dA m c) bitsLt_bf16_f32 : Vec Ideal S5632x2048 .bf16) := by
    unfold V; after_results <;> rfl
  rw [e]
  pointwise

/-- The bias as one row holds the launched bias's entries. -/
theorem V_bias (c : Dev nD) (N : Fin 11264) : (V m c main_v2 : Vec Ideal S1x11264 .f32) (ix2 0 N) = bA m c (ix1 N) := by
  have e : V m c main_v2 = shapeCast S1x11264 (bA m c) shapeCasts_S11264_S1x11264 := by
    unfold V; after_results <;> rfl
  rw [e]
  pointwise

/-- The norm weight as one row holds the launched weight's entries. -/
theorem V_norm (c : Dev nD) (C : Fin 2048) : (V m c main_v3 : Vec Ideal S1x2048 .f32) (ix2 0 C) = gA m c (ix1 C) := by
  have e : V m c main_v3 = shapeCast S1x2048 (gA m c) shapeCasts_S2048_S1x2048 := by
    unfold V; after_results <;> rfl
  rw [e]
  pointwise

/-- Row `r` of the row tile. -/
theorem blk0 (c : Dev nD) (t : Fin cfg0.N) (r : Fin 512) (k : Fin 2048) (R : Fin 32768) (hR : R.val = t.val / 11 * 512 + r.val) :
    (iblk m c 0 t : Vec Ideal S512x2048 .bf16) (ix2 r k) = hA m c (ix2 R k) := by
  obtain ⟨⟨h0, h1⟩, -⟩ := idx_rows t
  show V m c main_arg0 (((cfg0.win 0).blk t).view.emb (ix2 r k)) = _
  have e : ((cfg0.win 0).blk t).view.emb (ix2 r k) = (ix2 R k : S32768x2048.Idx) := funext fun a => Fin.ext (by
    match a with
    | ⟨0, _⟩ => show win0_0.index t (0 : Fin 2) * 512 + 1 * r.val = R.val; rw [h0]; omega
    | ⟨1, _⟩ => show win0_0.index t (1 : Fin 2) * 2048 + 1 * k.val = k.val; rw [h1]; omega)
  rw [e, V_main_arg0]

/-- Row `r` of the halo before. -/
theorem blk1 (c : Dev nD) (t : Fin cfg0.N) (r : Fin 16) (k : Fin 2048) (R : Fin 32768) (hR : R.val = (t.val / 11 * 32 - 1) * 16 + r.val) :
    (iblk m c 1 t : Vec Ideal S16x2048 .bf16) (ix2 r k) = hA m c (ix2 R k) := by
  obtain ⟨-, ⟨h0, h1⟩, -⟩ := idx_rows t
  show V m c main_arg0 (((cfg0.win 1).blk t).view.emb (ix2 r k)) = _
  have e : ((cfg0.win 1).blk t).view.emb (ix2 r k) = (ix2 R k : S32768x2048.Idx) := funext fun a => Fin.ext (by
    match a with
    | ⟨0, _⟩ => show win0_1.index t (0 : Fin 2) * 16 + 1 * r.val = R.val; rw [h0]; omega
    | ⟨1, _⟩ => show win0_1.index t (1 : Fin 2) * 2048 + 1 * k.val = k.val; rw [h1]; omega)
  rw [e, V_main_arg0]

/-- Row `r` of the halo after. -/
theorem blk2 (c : Dev nD) (t : Fin cfg0.N) (r : Fin 16) (k : Fin 2048) (R : Fin 32768) (hR : R.val = min ((t.val / 11 + 1) * 32) 2047 * 16 + r.val) :
    (iblk m c 2 t : Vec Ideal S16x2048 .bf16) (ix2 r k) = hA m c (ix2 R k) := by
  obtain ⟨-, -, ⟨h0, h1⟩, -⟩ := idx_rows t
  show V m c main_arg0 (((cfg0.win 2).blk t).view.emb (ix2 r k)) = _
  have e : ((cfg0.win 2).blk t).view.emb (ix2 r k) = (ix2 R k : S32768x2048.Idx) := funext fun a => Fin.ext (by
    match a with
    | ⟨0, _⟩ => show win0_2.index t (0 : Fin 2) * 16 + 1 * r.val = R.val; rw [h0]; omega
    | ⟨1, _⟩ => show win0_2.index t (1 : Fin 2) * 2048 + 1 * k.val = k.val; rw [h1]; omega)
  rw [e, V_main_arg0]

/-- The up projection's columns of the first half. -/
theorem blk3 (c : Dev nD) (t : Fin cfg0.N) (k : Fin 2048) (l : Fin 512) (N : Fin 11264) (hN : N.val = t.val % 11 * 512 + l.val) :
    (iblk m c 3 t : Vec Ideal S2048x512 .bf16) (ix2 k l) = uA m c (ix2 k N) := by
  obtain ⟨⟨h0, h1⟩, -⟩ := idx_cols t
  show V m c main_v0 (((cfg0.win 3).blk t).view.emb (ix2 k l)) = _
  have e : ((cfg0.win 3).blk t).view.emb (ix2 k l) = (ix2 k N : S2048x11264.Idx) := funext fun a => Fin.ext (by
    match a with
    | ⟨0, _⟩ => show win0_3.index t (0 : Fin 2) * 2048 + 1 * k.val = k.val; rw [h0]; omega
    | ⟨1, _⟩ => show win0_3.index t (1 : Fin 2) * 512 + 1 * l.val = N.val; rw [h1]; omega)
  rw [e]
  exact V_up m c k N
/-- The up projection's columns of the second half. -/
theorem blk4 (c : Dev nD) (t : Fin cfg0.N) (k : Fin 2048) (l : Fin 512) (N : Fin 11264) (hN : N.val = 5632 + t.val % 11 * 512 + l.val) :
    (iblk m c 4 t : Vec Ideal S2048x512 .bf16) (ix2 k l) = uA m c (ix2 k N) := by
  obtain ⟨-, ⟨h0, h1⟩, -⟩ := idx_cols t
  show V m c main_v0 (((cfg0.win 4).blk t).view.emb (ix2 k l)) = _
  have e : ((cfg0.win 4).blk t).view.emb (ix2 k l) = (ix2 k N : S2048x11264.Idx) := funext fun a => Fin.ext (by
    match a with
    | ⟨0, _⟩ => show win0_4.index t (0 : Fin 2) * 2048 + 1 * k.val = k.val; rw [h0]; omega
    | ⟨1, _⟩ => show win0_4.index t (1 : Fin 2) * 512 + 1 * l.val = N.val; rw [h1]; omega)
  rw [e]
  exact V_up m c k N
/-- The taps of the first half. -/
theorem blk5 (c : Dev nD) (t : Fin cfg0.N) (q : Fin 3) (l : Fin 512) (N : Fin 11264) (hN : N.val = t.val % 11 * 512 + l.val) :
    (iblk m c 5 t : Vec Ideal S3x512 .f32) (ix2 q l) = kA m c (ix2 q N) := by
  obtain ⟨-, -, ⟨h0, h1⟩, -⟩ := idx_cols t
  show V m c main_arg2 (((cfg0.win 5).blk t).view.emb (ix2 q l)) = _
  have e : ((cfg0.win 5).blk t).view.emb (ix2 q l) = (ix2 q N : S3x11264.Idx) := funext fun a => Fin.ext (by
    match a with
    | ⟨0, _⟩ => show win0_5.index t (0 : Fin 2) * 3 + 1 * q.val = q.val; rw [h0]; omega
    | ⟨1, _⟩ => show win0_5.index t (1 : Fin 2) * 512 + 1 * l.val = N.val; rw [h1]; omega)
  rw [e, V_main_arg2]

/-- The taps of the second half. -/
theorem blk6 (c : Dev nD) (t : Fin cfg0.N) (q : Fin 3) (l : Fin 512) (N : Fin 11264) (hN : N.val = 5632 + t.val % 11 * 512 + l.val) :
    (iblk m c 6 t : Vec Ideal S3x512 .f32) (ix2 q l) = kA m c (ix2 q N) := by
  obtain ⟨-, -, -, ⟨h0, h1⟩, -⟩ := idx_cols t
  show V m c main_arg2 (((cfg0.win 6).blk t).view.emb (ix2 q l)) = _
  have e : ((cfg0.win 6).blk t).view.emb (ix2 q l) = (ix2 q N : S3x11264.Idx) := funext fun a => Fin.ext (by
    match a with
    | ⟨0, _⟩ => show win0_6.index t (0 : Fin 2) * 3 + 1 * q.val = q.val; rw [h0]; omega
    | ⟨1, _⟩ => show win0_6.index t (1 : Fin 2) * 512 + 1 * l.val = N.val; rw [h1]; omega)
  rw [e, V_main_arg2]

/-- The bias of the first half. -/
theorem blk7 (c : Dev nD) (t : Fin cfg0.N) (l : Fin 512) (N : Fin 11264) (hN : N.val = t.val % 11 * 512 + l.val) :
    (iblk m c 7 t : Vec Ideal S1x512 .f32) (ix2 0 l) = bA m c (ix1 N) := by
  obtain ⟨-, -, -, -, ⟨h0, h1⟩, -⟩ := idx_cols t
  show V m c main_v2 (((cfg0.win 7).blk t).view.emb (ix2 0 l)) = _
  have e : ((cfg0.win 7).blk t).view.emb (ix2 0 l) = (ix2 0 N : S1x11264.Idx) := funext fun a => Fin.ext (by
    match a with
    | ⟨0, _⟩ => show win0_7.index t (0 : Fin 2) * 1 + 1 * 0 = 0; rw [h0]
    | ⟨1, _⟩ => show win0_7.index t (1 : Fin 2) * 512 + 1 * l.val = N.val; rw [h1]; omega)
  rw [e]
  exact V_bias m c N
/-- The bias of the second half. -/
theorem blk8 (c : Dev nD) (t : Fin cfg0.N) (l : Fin 512) (N : Fin 11264) (hN : N.val = 5632 + t.val % 11 * 512 + l.val) :
    (iblk m c 8 t : Vec Ideal S1x512 .f32) (ix2 0 l) = bA m c (ix1 N) := by
  obtain ⟨-, -, -, -, -, ⟨h0, h1⟩, -⟩ := idx_cols t
  show V m c main_v2 (((cfg0.win 8).blk t).view.emb (ix2 0 l)) = _
  have e : ((cfg0.win 8).blk t).view.emb (ix2 0 l) = (ix2 0 N : S1x11264.Idx) := funext fun a => Fin.ext (by
    match a with
    | ⟨0, _⟩ => show win0_8.index t (0 : Fin 2) * 1 + 1 * 0 = 0; rw [h0]
    | ⟨1, _⟩ => show win0_8.index t (1 : Fin 2) * 512 + 1 * l.val = N.val; rw [h1]; omega)
  rw [e]
  exact V_bias m c N
/-- The down projection's rows. -/
theorem blk9 (c : Dev nD) (t : Fin cfg0.N) (l : Fin 512) (C : Fin 2048) (f : Fin 5632) (hf : f.val = t.val % 11 * 512 + l.val) :
    (iblk m c 9 t : Vec Ideal S512x2048 .bf16) (ix2 l C) = dA m c (ix2 f C) := by
  obtain ⟨-, -, -, -, -, -, ⟨h0, h1⟩⟩ := idx_cols t
  show V m c main_v1 (((cfg0.win 9).blk t).view.emb (ix2 l C)) = _
  have e : ((cfg0.win 9).blk t).view.emb (ix2 l C) = (ix2 f C : S5632x2048.Idx) := funext fun a => Fin.ext (by
    match a with
    | ⟨0, _⟩ => show win0_9.index t (0 : Fin 2) * 512 + 1 * l.val = f.val; rw [h0]; omega
    | ⟨1, _⟩ => show win0_9.index t (1 : Fin 2) * 2048 + 1 * C.val = C.val; rw [h1]; omega)
  rw [e]
  exact V_down m c f C
/-- Row `r` of the residual tile. -/
theorem blk10 (c : Dev nD) (t : Fin cfg0.N) (r : Fin 512) (k : Fin 2048) (R : Fin 32768) (hR : R.val = t.val / 11 * 512 + r.val) :
    (iblk m c 10 t : Vec Ideal S512x2048 .f32) (ix2 r k) = xA m c (ix2 R k) := by
  obtain ⟨-, -, -, ⟨h0, h1⟩, -⟩ := idx_rows t
  show V m c main_arg5 (((cfg0.win 10).blk t).view.emb (ix2 r k)) = _
  have e : ((cfg0.win 10).blk t).view.emb (ix2 r k) = (ix2 R k : S32768x2048.Idx) := funext fun a => Fin.ext (by
    match a with
    | ⟨0, _⟩ => show win0_10.index t (0 : Fin 2) * 512 + 1 * r.val = R.val; rw [h0]; omega
    | ⟨1, _⟩ => show win0_10.index t (1 : Fin 2) * 2048 + 1 * k.val = k.val; rw [h1]; omega)
  rw [e, V_main_arg5]

/-- The gate's block. -/
theorem blk11 (c : Dev nD) (t : Fin cfg0.N) (k : Fin 2048) (b : Fin 16) (hb : b.val = t.val / 88) :
    (iblk m c 11 t : Vec Ideal S1x1x1x2048 .f32) (ix4 0 0 0 k) = mA m c (ix4 b 5 0 k) := by
  obtain ⟨-, -, -, -, ⟨h0, h1, h2, h3⟩, -⟩ := idx_rows t
  show V m c main_arg7 (((cfg0.win 11).blk t).view.emb (ix4 0 0 0 k)) = _
  rw [V_main_arg7]
  refine congrArg (mA m c) (funext fun a => Fin.ext ?_)
  match a with
  | ⟨0, _⟩ => show win0_11.index t (0 : Fin 4) * 1 + 1 * 0 = b.val; rw [h0]; omega
  | ⟨1, _⟩ => show win0_11.index t (1 : Fin 4) * 1 + 1 * 0 = 5; rw [h1]
  | ⟨2, _⟩ => show win0_11.index t (2 : Fin 4) * 1 + 1 * 0 = 0; rw [h2]
  | ⟨3, _⟩ => show win0_11.index t (3 : Fin 4) * 2048 + 1 * k.val = k.val; rw [h3]; omega

/-- The norm weight's block. -/
theorem blk12 (c : Dev nD) (t : Fin cfg0.N) (k : Fin 2048) :
    (iblk m c 12 t : Vec Ideal S1x2048 .f32) (ix2 0 k) = gA m c (ix1 k) := by
  obtain ⟨-, -, -, -, -, ⟨h0, h1⟩, -⟩ := idx_rows t
  show V m c main_v3 (((cfg0.win 12).blk t).view.emb (ix2 0 k)) = _
  have e : ((cfg0.win 12).blk t).view.emb (ix2 0 k) = (ix2 0 k : S1x2048.Idx) := funext fun a => Fin.ext (by
    match a with
    | ⟨0, _⟩ => show win0_12.index t (0 : Fin 2) * 1 + 1 * 0 = 0; rw [h0]
    | ⟨1, _⟩ => show win0_12.index t (1 : Fin 2) * 2048 + 1 * k.val = k.val; rw [h1]; omega)
  rw [e]
  exact V_norm m c k
/-- Where the output block of a point sits in the result. -/
theorem emb13 (t : Fin cfg0.N) (r : Fin 512) (j : Fin 2048) (R : Fin 32768) (hR : R.val = t.val / 11 * 512 + r.val) :
    ((cfg0.win 13).blk t).view.emb (ix2 r j) = (ix2 R j : S32768x2048.Idx) := by
  obtain ⟨-, -, -, -, -, -, ⟨h0, h1⟩⟩ := idx_rows t
  exact funext fun a => Fin.ext (by
    match a with
    | ⟨0, _⟩ => show win0_13.index t (0 : Fin 2) * 512 + 1 * r.val = R.val; rw [h0]; omega
    | ⟨1, _⟩ => show win0_13.index t (1 : Fin 2) * 2048 + 1 * j.val = j.val; rw [h1]; omega)

end Cert.FfnIdeal.Hand
-- ==== Proof.FfnValue.lean ====
module

public import proofs.«01_k».proof.Proof.FfnBlocks
public import proofs.«01_k».proof.Proof.Rows
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

/-! # The gated convolution: what the kernel's result array holds, index by index -/

namespace Cert.FfnIdeal.Hand

open Cert.FfnIdeal Cert.FfnIdeal.Gen Cert.Rows

/-- The gate: the linear unit of `g` by the logistic, times `a`. -/
def glu (g a : EReal) : EReal := g * Ideal.logistic g * a

section Math
variable (h : Vec Ideal S32768x2048 .bf16) (w : Vec Ideal S2048x11264 .f32) (ck : Vec Ideal S3x11264 .f32) (b : Vec Ideal S11264 .f32)
  (d : Vec Ideal S5632x2048 .f32) (x : Vec Ideal S32768x2048 .f32) (g : Vec Ideal S2048 .f32) (mo : Vec Ideal S16x6x1x2048 .f32)

/-- A row's up projection. -/
def pr (R : Fin 32768) (N : Fin 11264) : EReal := ∑ k : Fin 2048, h (ix2 R k) * w (ix2 k N)
/-- The up projection of the row before, zero at a sequence's first row. -/
def prUp (R : Fin 32768) (N : Fin 11264) : EReal := if hR : R.val % 4096 = 0 then 0 else pr h w ⟨R.val - 1, by omega⟩ N
/-- The up projection of the row after, zero at a sequence's last row. -/
def prDn (R : Fin 32768) (N : Fin 11264) : EReal := if hR : R.val % 4096 = 4095 then 0 else pr h w ⟨R.val + 1, by omega⟩ N
/-- The depthwise convolution over three rows. -/
def conv (R : Fin 32768) (N : Fin 11264) : EReal :=
  prUp h w R N * ck (ix2 0 N) + pr h w R N * ck (ix2 1 N) + prDn h w R N * ck (ix2 2 N) + b (ix1 N)
/-- The gated hidden entry. -/
def act (R : Fin 32768) (f : Fin 5632) : EReal :=
  glu (conv h w ck b R ⟨5632 + f.val, by omega⟩) (conv h w ck b R ⟨f.val, by omega⟩)
/-- The down projection. -/
def mix (R : Fin 32768) (C : Fin 2048) : EReal := ∑ f : Fin 5632, act h w ck b R f * d (ix2 f C)
/-- The result: the residual plus the gated normalised row. -/
def outF (R : Fin 32768) (C : Fin 2048) : EReal :=
  x (ix2 R C) + mo (ix4 ⟨R.val / 4096, by omega⟩ 5 0 C) * (mix h w ck b d R C * rn (fun j => mix h w ck b d R j) * g (ix1 C))
end Math

/-- A haloed row's product with a weight column. -/
def lin (H : Vec Ideal S544x2048 .bf16) (w : Vec Ideal S2048x512 .bf16) (q : Fin 544) (l : Fin 512) : EReal :=
  ∑ k : Fin 2048, H (ix2 q k) * w (ix2 k l)

/-- Three haloed rows convolved. -/
def convH (H : Vec Ideal S544x2048 .bf16) (w : Vec Ideal S2048x512 .bf16) (c : Vec Ideal S3x512 .f32) (b : Vec Ideal S1x512 .f32) (r l : Fin 512) : EReal :=
  lin H w ⟨15 + r.val, by omega⟩ l * c (ix2 0 l) + lin H w ⟨16 + r.val, by omega⟩ l * c (ix2 1 l)
    + lin H w ⟨17 + r.val, by omega⟩ l * c (ix2 2 l) + b (ix2 0 l)

/-- One step, read at an entry. -/
theorem step_apply (H : Vec Ideal S544x2048 .bf16) (wa wg : Vec Ideal S2048x512 .bf16) (ca cg : Vec Ideal S3x512 .f32)
    (ba bg : Vec Ideal S1x512 .f32) (wd : Vec Ideal S512x2048 .bf16) (acc : Vec Ideal S512x2048 .f32) (r : Fin 512) (C : Fin 2048) :
    (step H wa wg ca cg ba bg wd acc : Vec Ideal S512x2048 .f32) (ix2 r C)
      = acc (ix2 r C) + ∑ l : Fin 512, glu (convH H wg cg bg r l) (convH H wa ca ba r l) * wd (ix2 l C) := by
  unfold step glu convH lin
  pointwise [k0_pay1, k0_pay7, k0_pay8, k0_pay9, k0_pay10, k0_pay11]

/-- The last payload, read at an entry. -/
theorem pay2_apply (x : Vec Ideal S512x2048 .f32) (gt : Vec Ideal S1x1x1x2048 .f32) (a : Vec Ideal S512x2048 .f32) (g : Vec Ideal S1x2048 .f32)
    (r : Fin 512) (j : Fin 2048) :
    (k0_pay2 x gt a g : Vec Ideal S512x2048 .f32) (ix2 r j)
      = x (ix2 r j) + gt (ix4 0 0 0 j) * (a (ix2 r j) * rn (fun j => a (ix2 r j)) * g (ix2 0 j)) := by
  unfold rn
  pointwise [k0_pay2]

variable (m : (ℓ : Loc nD τ sig) → Buf (Elt Ideal) ℓ)

/-- The point of row tile `i` and column tile `j`. -/
def pt (i : Fin 64) (j : Fin 11) : Fin cfg0.N := ⟨11 * i.val + j.val, lt_of_lt_of_eq (by omega) N_0.symm⟩

/-! ## The haloed rows -/

section Halo
variable (p2 p0 : Vec Ideal S16x2048 .bf16) (p1 : Vec Ideal S512x2048 .bf16)

/-- The three stored parts read as one array. -/
def halo : Vec Ideal S544x2048 .bf16 :=
  View.canon (Val := Elt Ideal)
      [⟨Rect.unit (s := S544x2048) ![528, 0] S16x2048.size inb_S544x2048_S16x2048_528_0, p2⟩,
       ⟨Rect.unit (s := S544x2048) ![16, 0] S512x2048.size inb_S544x2048_S512x2048_16_0, p1⟩,
       ⟨Rect.unit (s := S544x2048) ![0, 0] S16x2048.size inb_S544x2048_S16x2048_0_0, p0⟩]

/-- The three parts fill it. -/
theorem halo_cover (y : S544x2048.Idx) : ∃ p ∈ ([⟨Rect.unit (s := S544x2048) ![528, 0] S16x2048.size inb_S544x2048_S16x2048_528_0, p2⟩,
       ⟨Rect.unit (s := S544x2048) ![16, 0] S512x2048.size inb_S544x2048_S512x2048_16_0, p1⟩,
       ⟨Rect.unit (s := S544x2048) ![0, 0] S16x2048.size inb_S544x2048_S16x2048_0_0, p0⟩] : List (View.Piece (Elt Ideal) S544x2048 .bf16)), y ∈ p.1.set :=
  View.cover_of_tiledBy _ ![16, 2048] (by sl_kernel_rfl) y

/-- A rank-two index with given coordinates. -/
theorem idx2_eq {a b : Nat} (x : (⟨2, ![a, b]⟩ : Shape).Idx) (i : Fin a) (j : Fin b) (h0 : (x 0).val = i.val) (h1 : (x 1).val = j.val) : x = ix2 i j :=
  funext fun q => Fin.ext (match q with | ⟨0, _⟩ => h0 | ⟨1, _⟩ => h1)

/-- An entry of the three stored parts: in the halo before, -/
theorem halo_lo (q : Fin 544) (k : Fin 2048) (r : Fin 16) (hq : q.val = r.val) : halo p2 p0 p1 (ix2 q k) = p0 (ix2 r k) := by
  unfold halo
  canon_tiles x h using halo_cover p2 p0 p1 _ <;> replace h0 : q.val = _ := h0 <;> replace h1 : k.val = _ := h1
  · omega
  · omega
  · exact congrArg p0 (idx2_eq x _ _ (by omega) (by omega))

/-- in the tile's rows, -/
theorem halo_mid (q : Fin 544) (k : Fin 2048) (r : Fin 512) (hq : q.val = 16 + r.val) : halo p2 p0 p1 (ix2 q k) = p1 (ix2 r k) := by
  unfold halo
  canon_tiles x h using halo_cover p2 p0 p1 _ <;> replace h0 : q.val = _ := h0 <;> replace h1 : k.val = _ := h1
  · omega
  · exact congrArg p1 (idx2_eq x _ _ (by omega) (by omega))
  · omega

/-- in the halo after. -/
theorem halo_hi (q : Fin 544) (k : Fin 2048) (r : Fin 16) (hq : q.val = 528 + r.val) : halo p2 p0 p1 (ix2 q k) = p2 (ix2 r k) := by
  unfold halo
  canon_tiles x h using halo_cover p2 p0 p1 _ <;> replace h0 : q.val = _ := h0 <;> replace h1 : k.val = _ := h1
  · exact congrArg p2 (idx2_eq x _ _ (by omega) (by omega))
  · omega
  · omega

end Halo

/-- The haloed rows at any point of a row tile are those stored at its first point. -/
theorem hext_const (c : Dev nD) (i : Fin 64) : ∀ (j : ℕ) (hj : j < 11),
    (outsAt0 m c (pt i ⟨j, hj⟩).val (pt i ⟨j, hj⟩).isLt).2.1 = (outsAt0 m c (pt i 0).val (pt i 0).isLt).2.1 := by
  intro j
  induction j with
  | zero => intro hj; rfl
  | succ j ih =>
    intro hj
    refine (hext_B m c (pt i ⟨j + 1, hj⟩) (by show ¬(11 * i.val + (j + 1)) % 11 = 0; omega)).trans ?_
    exact ih (by omega)

/-- The haloed rows of a row tile. -/
theorem hext_eq (c : Dev nD) (i : Fin 64) (j : Fin 11) :
    (outsAt0 m c (pt i j).val (pt i j).isLt).2.1
      = halo (k0_pay5 (atStart (BitVec.ofNat 32 (i.val + 1))) (iblk m c 2 (pt i 0))) (k0_pay3 (BitVec.ofNat 32 i.val) (iblk m c 1 (pt i 0))) (k0_pay4 (iblk m c 0 (pt i 0))) := by
  refine (hext_const m c i j.val j.isLt).trans ((hext_A m c (pt i 0) (by show (11 * i.val + 0) % 11 = 0; omega) (by show ¬(11 * i.val + 0) % 11 = 10; omega)).trans ?_)
  have hi : (grid0.coords (pt i 0) 0).val = i.val := (coord_row _).trans (by show (11 * i.val + 0) / 11 = _; omega)
  have ha : Scalar.addi (BitVec.ofNat 32 i.val) 1#32 = BitVec.ofNat 32 (i.val + 1) := (BitVec.ofNat_add i.val 1).symm
  rw [hi, ha]
  rfl

/-- The row before a tile's row, as stored: its product with a weight column is the up projection of the row before. -/
theorem lin_up (c : Dev nD) (i : Fin 64) (j : Fin 11) (w : Vec Ideal S2048x512 .bf16) (N : Fin 11264) (l r : Fin 512)
    (hw : ∀ k, w (ix2 k l) = uA m c (ix2 k N)) (R : Fin 32768) (hR : R.val = i.val * 512 + r.val) :
    lin (outsAt0 m c (pt i j).val (pt i j).isLt).2.1 w ⟨15 + r.val, by omega⟩ l = prUp (hA m c) (uA m c) R N := by
  rw [hext_eq]
  unfold lin prUp pr
  simp only [hw]
  have hi := i.isLt
  have hp : (pt i 0).val / 11 = i.val := by show (11 * i.val + 0) / 11 = _; omega
  by_cases h0 : r.val = 0
  · have hs : atStart (BitVec.ofNat 32 i.val) = if i.val % 8 = 0 then 1#1 else 0#1 := atStart_eq ⟨i.val, by omega⟩
    by_cases h8 : i.val % 8 = 0
    · rw [dif_pos (by omega)]
      refine Finset.sum_eq_zero fun k _ => ?_
      rw [halo_lo _ _ _ _ k 15 (by show 15 + r.val = 15; omega), pay3_eq, hs, if_pos h8, if_pos rfl]
      exact zero_mul _
    · rw [dif_neg (by omega)]
      refine Finset.sum_congr rfl fun k _ => ?_
      rw [halo_lo _ _ _ _ k 15 (by show 15 + r.val = 15; omega), pay3_eq, hs, if_neg h8, if_neg (by decide),
        blk1 m c (pt i 0) 15 k ⟨R.val - 1, by omega⟩ (by rw [hp]; show R.val - 1 = (i.val * 32 - 1) * 16 + 15; omega)]
  · rw [dif_neg (by omega)]
    refine Finset.sum_congr rfl fun k _ => ?_
    rw [halo_mid _ _ _ _ k ⟨r.val - 1, by omega⟩ (by show 15 + r.val = 16 + (r.val - 1); omega)]
    unfold k0_pay4
    rw [shapeCast_self]
    rw [blk0 m c (pt i 0) _ k ⟨R.val - 1, by omega⟩ (by rw [hp]; show R.val - 1 = i.val * 512 + (r.val - 1); omega)]

/-- The tile's own row. -/
theorem lin_mid (c : Dev nD) (i : Fin 64) (j : Fin 11) (w : Vec Ideal S2048x512 .bf16) (N : Fin 11264) (l r : Fin 512)
    (hw : ∀ k, w (ix2 k l) = uA m c (ix2 k N)) (R : Fin 32768) (hR : R.val = i.val * 512 + r.val) :
    lin (outsAt0 m c (pt i j).val (pt i j).isLt).2.1 w ⟨16 + r.val, by omega⟩ l = pr (hA m c) (uA m c) R N := by
  rw [hext_eq]
  unfold lin pr
  simp only [hw]
  have hp : (pt i 0).val / 11 = i.val := by show (11 * i.val + 0) / 11 = _; omega
  refine Finset.sum_congr rfl fun k _ => ?_
  rw [halo_mid _ _ _ _ k r rfl]
  unfold k0_pay4
  rw [shapeCast_self]
  rw [blk0 m c (pt i 0) r k R (by rw [hp]; exact hR)]

/-- The row after a tile's row, as stored. -/
theorem lin_dn (c : Dev nD) (i : Fin 64) (j : Fin 11) (w : Vec Ideal S2048x512 .bf16) (N : Fin 11264) (l r : Fin 512)
    (hw : ∀ k, w (ix2 k l) = uA m c (ix2 k N)) (R : Fin 32768) (hR : R.val = i.val * 512 + r.val) :
    lin (outsAt0 m c (pt i j).val (pt i j).isLt).2.1 w ⟨17 + r.val, by omega⟩ l = prDn (hA m c) (uA m c) R N := by
  rw [hext_eq]
  unfold lin prDn pr
  simp only [hw]
  have hi := i.isLt
  have hp : (pt i 0).val / 11 = i.val := by show (11 * i.val + 0) / 11 = _; omega
  by_cases h0 : r.val = 511
  · have hs : atStart (BitVec.ofNat 32 (i.val + 1)) = if (i.val + 1) % 8 = 0 then 1#1 else 0#1 := atStart_eq ⟨i.val + 1, by omega⟩
    by_cases h8 : (i.val + 1) % 8 = 0
    · rw [dif_pos (by omega)]
      refine Finset.sum_eq_zero fun k _ => ?_
      rw [halo_hi _ _ _ _ k 0 (by show 17 + r.val = 528 + 0; omega), pay5_eq, hs, if_pos h8, if_pos rfl]
      exact zero_mul _
    · rw [dif_neg (by omega)]
      refine Finset.sum_congr rfl fun k _ => ?_
      rw [halo_hi _ _ _ _ k 0 (by show 17 + r.val = 528 + 0; omega), pay5_eq, hs, if_neg h8, if_neg (by decide),
        blk2 m c (pt i 0) 0 k ⟨R.val + 1, by omega⟩ (by rw [hp]; show R.val + 1 = min ((i.val + 1) * 32) 2047 * 16 + 0; omega)]
  · rw [dif_neg (by omega)]
    refine Finset.sum_congr rfl fun k _ => ?_
    rw [halo_mid _ _ _ _ k ⟨r.val + 1, by omega⟩ (by show 17 + r.val = 16 + (r.val + 1); omega)]
    unfold k0_pay4
    rw [shapeCast_self]
    rw [blk0 m c (pt i 0) _ k ⟨R.val + 1, by omega⟩ (by rw [hp]; show R.val + 1 = i.val * 512 + (r.val + 1); omega)]

/-- The convolution at a tile's row and a hidden column. -/
theorem convH_eq (c : Dev nD) (i : Fin 64) (j : Fin 11) (w : Vec Ideal S2048x512 .bf16) (ck : Vec Ideal S3x512 .f32) (b : Vec Ideal S1x512 .f32)
    (N : Fin 11264) (l r : Fin 512) (hw : ∀ k, w (ix2 k l) = uA m c (ix2 k N)) (hk : ∀ q, ck (ix2 q l) = kA m c (ix2 q N))
    (hb : b (ix2 0 l) = bA m c (ix1 N)) (R : Fin 32768) (hR : R.val = i.val * 512 + r.val) :
    convH (outsAt0 m c (pt i j).val (pt i j).isLt).2.1 w ck b r l = conv (hA m c) (uA m c) (kA m c) (bA m c) R N := by
  unfold convH conv
  rw [lin_up m c i j w N l r hw R hR, lin_mid m c i j w N l r hw R hR, lin_dn m c i j w N l r hw R hR, hk, hk, hk, hb]

/-! ## The accumulator -/

/-- One hidden column's share of the down projection, over plain numbers. -/
def share (c : Dev nD) (R f : ℕ) (C : Fin 2048) : EReal :=
  if h : R < 32768 ∧ f < 5632 then act (hA m c) (uA m c) (kA m c) (bA m c) ⟨R, h.1⟩ ⟨f, h.2⟩ * dA m c (ix2 ⟨f, h.2⟩ C) else 0

/-- A column tile's share of the down projection. -/
def tileShare (c : Dev nD) (i j : ℕ) (y : S512x2048.Idx) : EReal :=
  ∑ l : Fin 512, share m c (i * 512 + (y 0).val) (j * 512 + l.val) (y 1)

/-- A step at a point adds the column tile's share. -/
theorem step_share (c : Dev nD) (i : Fin 64) (j : Fin 11) (acc : Vec Ideal S512x2048 .f32) (r : Fin 512) (C : Fin 2048) :
    (step (outsAt0 m c (pt i j).val (pt i j).isLt).2.1 (iblk m c 3 (pt i j)) (iblk m c 4 (pt i j)) (iblk m c 5 (pt i j)) (iblk m c 6 (pt i j))
      (iblk m c 7 (pt i j)) (iblk m c 8 (pt i j)) (iblk m c 9 (pt i j)) acc : Vec Ideal S512x2048 .f32) (ix2 r C)
      = acc (ix2 r C) + tileShare m c i.val j.val (ix2 r C) := by
  rw [step_apply]
  unfold tileShare
  refine congrArg (acc (ix2 r C) + ·) (Finset.sum_congr rfl fun l _ => ?_)
  have hp : (pt i j).val % 11 = j.val := by show (11 * i.val + j.val) % 11 = _; omega
  have hR : i.val * 512 + r.val < 32768 := by omega
  have hf : j.val * 512 + l.val < 5632 := by omega
  show _ = share m c (i.val * 512 + r.val) (j.val * 512 + l.val) C
  unfold share
  rw [dif_pos ⟨hR, hf⟩]
  unfold act
  rw [blk9 m c (pt i j) l C ⟨j.val * 512 + l.val, hf⟩ (by rw [hp])]
  congr 2
  · exact convH_eq m c i j _ _ _ ⟨5632 + (j.val * 512 + l.val), by omega⟩ l r
      (fun k => blk4 m c _ k l _ (by rw [hp]; show 5632 + (j.val * 512 + l.val) = _; omega))
      (fun q => blk6 m c _ q l _ (by rw [hp]; show 5632 + (j.val * 512 + l.val) = _; omega))
      (blk8 m c _ l _ (by rw [hp]; show 5632 + (j.val * 512 + l.val) = _; omega)) ⟨_, hR⟩ rfl
  · exact convH_eq m c i j _ _ _ ⟨j.val * 512 + l.val, by omega⟩ l r
      (fun k => blk3 m c _ k l _ (by rw [hp])) (fun q => blk5 m c _ q l _ (by rw [hp])) (blk7 m c _ l _ (by rw [hp])) ⟨_, hR⟩ rfl

/-- A point is the point of its row tile and column tile. -/
theorem pt_eq (t : Fin cfg0.N) : t = pt ⟨t.val / 11, by have := t_lt t; omega⟩ ⟨t.val % 11, by omega⟩ :=
  Fin.ext (by show t.val = 11 * (t.val / 11) + t.val % 11; omega)

theorem pt_div (i : Fin 64) (j : Fin 11) : (pt i j).val / 11 = i.val := by show (11 * i.val + j.val) / 11 = _; omega
theorem pt_mod (i : Fin 64) (j : Fin 11) : (pt i j).val % 11 = j.val := by show (11 * i.val + j.val) % 11 = _; omega

/-- At the last column tile the accumulator holds the whole down projection. -/
theorem acc_last (c : Dev nD) (i : Fin 64) (r : Fin 512) (C : Fin 2048) (R : Fin 32768) (hR : R.val = i.val * 512 + r.val) :
    (outsAt0 m c (pt i 10).val (pt i 10).isLt).2.2 (ix2 r C) = mix (hA m c) (uA m c) (kA m c) (bA m c) (dA m c) R C := by
  have e := Pipeline.eq_sum_of_reset_step_apply_divmod (M := EReal) (N := cfg0.N) (fun n h (y : S512x2048.Idx) => ((outsAt0 m c n h).2.2 : Vec Ideal S512x2048 .f32) y) 11 (fun _ => 0) (fun i j y => tileShare m c i j y)
    (fun t h y => by
      idx_vars y
      rw [acc_A m c t h (by omega)]
      obtain ⟨i, j, rfl⟩ : ∃ i j, t = pt i j := ⟨_, _, pt_eq t⟩
      rw [step_share, pt_div, pt_mod]
      refine congrArg (· + _) ?_
      pointwise [k0_pay6])
    (fun t h y => by
      idx_vars y
      rw [acc_B m c t h, ← hext_B m c t h]
      obtain ⟨i, j, rfl⟩ : ∃ i j, t = pt i j := ⟨_, _, pt_eq t⟩
      rw [step_share, pt_div, pt_mod])
    (pt i 10) (ix2 r C)
  refine e.trans ?_
  rw [pt_div, pt_mod]
  unfold mix tileShare
  rw [zero_add, Finset.sum_range]
  refine (Fin.sum_univ_univ_mul_add 11 512 (fun f => share m c (i.val * 512 + r.val) f C)).trans ?_
  refine Finset.sum_congr rfl fun f _ => ?_
  unfold share
  rw [dif_pos ⟨by omega, f.isLt⟩]
  have hRR : (⟨i.val * 512 + r.val, by omega⟩ : Fin 32768) = R := Fin.ext hR.symm
  rw [hRR]

/-! ## The result array -/

/-- The block written back at the last column tile. -/
theorem out_last (c : Dev nD) (i : Fin 64) (r : Fin 512) (C : Fin 2048) (R : Fin 32768) (hR : R.val = i.val * 512 + r.val) :
    ((outsAt0 m c (pt i 10).val (pt i 10).isLt).1 : Vec Ideal S512x2048 .f32) (ix2 r C)
      = outF (hA m c) (uA m c) (kA m c) (bA m c) (dA m c) (xA m c) (gA m c) (mA m c) R C := by
  have hp : (pt i 10).val / 11 = i.val := pt_div i 10
  have hb : (⟨R.val / 4096, by omega⟩ : Fin 16).val = (pt i 10).val / 88 := by
    show R.val / 4096 = (11 * i.val + 10) / 88; omega
  rw [out_C m c (pt i 10) (by rw [pt_mod]; decide) (pt_mod i 10), pay2_apply]
  unfold outF
  rw [blk10 m c _ r C R (by rw [hp]; exact hR), blk11 m c _ C _ hb, blk12 m c _ C, acc_last m c i r C R hR]
  simp only [fun j => acc_last m c i r j R hR]

/-- The result, as an array. -/
def G (c : Dev nD) : Vec Ideal S32768x2048 .f32 :=
  fun y => outF (hA m c) (uA m c) (kA m c) (bA m c) (dA m c) (xA m c) (gA m c) (mA m c) (y 0) (y 1)

theorem flushed13 (c : Dev nD) (t : Fin cfg0.N) :
    (dats m 0 c).flushed 13 t = (cfg0.win 13).cut (grid0.coords t) ((outsAt0 m c t.val t.isLt).1) := by
  show (cfg0.win 13).cut (grid0.coords t) ((dats m 0 c).after 13 t) = _
  rw [after0_13]

/-- The result array after the run. -/
theorem final13 (c : Dev nD) : (dats m 0 c).arrAt 13 cfg0.N = G m c := by
  refine (dats m 0 c).arrAt_eq_of_cover 13 (G m c) (fun t hf => ?_) (fun y => ?_)
  · obtain ⟨i, j, rfl⟩ : ∃ i j, t = pt i j := ⟨_, _, pt_eq t⟩
    have hj : j = 10 := Fin.ext ((pt_mod i j).symm.trans ((flush0_13 _).mp hf))
    subst hj
    rw [flushed13]
    funext y
    show (outsAt0 m c (pt i 10).val (pt i 10).isLt).1 y = G m c (((cfg0.win 13).blk (pt i 10)).view.emb y)
    obtain ⟨r, C, rfl⟩ : ∃ (r : Fin 512) (C : Fin 2048), y = ix2 r C := ⟨y 0, y 1, idx2_eq y _ _ rfl rfl⟩
    rw [emb13 (pt i 10) r C ⟨i.val * 512 + r.val, by omega⟩ (by rw [pt_div])]
    exact out_last m c i r C _ rfl
  · obtain ⟨R, C, rfl⟩ : ∃ (R : Fin 32768) (C : Fin 2048), y = ix2 R C := ⟨y 0, y 1, idx2_eq y _ _ rfl rfl⟩
    refine ⟨pt ⟨R.val / 512, by omega⟩ 10, (flush0_13 _).mpr (pt_mod _ 10), ?_⟩
    have e := emb13 (pt ⟨R.val / 512, by omega⟩ 10) ⟨R.val % 512, by omega⟩ C R (by rw [pt_div]; show R.val = R.val / 512 * 512 + R.val % 512; omega)
    rw [← e]
    exact View.emb_mem_set _ _

/-- The kernel's run: the result array holds `G`, the arguments are as launched. -/
theorem run (ρ : Dev nD → PrngReg) : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  have hmain : θ_run defs (onTc (τ := τ) (main (F := Ideal))) ⟨m, fun _ => 0, ρ⟩ fun r => ∀ c : Dev nD, r.2.mem ((c : Thread nD τ).loc main_v4) = G m c :=
    (θ_run defs _ _).mono (fun r h c => ((h c).1 13).trans (final13 m c)) (run_main m ρ)
  exact (θ_run defs _ _).mono (fun r h c => ⟨h.1 c, h.2.1 c⟩) (θ_run_and hmain (frame m ρ))

end Cert.FfnIdeal.Hand
-- ==== Proof.Ffn.lean ====
module

public import proofs.«01_k».proof.Proof.FfnValue
public import proofs.«01_k».proof.Proof.Gen.FfnRefIdeal.Run
public import Idealize.ShloMosaic.Lib.Tactic.CleanTypes

@[expose] public section

set_option maxRecDepth 16384

noncomputable section

open Idealize.ShloMosaic Idealize.ShloMosaic.TcCoe Idealize.SL.Sem

/-! # The gated convolution: the kernel's result is the reference's -/

namespace Cert.FfnRefIdeal.Hand

open Cert.FfnRefIdeal Cert.FfnRefIdeal.Gen Cert.FfnIdeal.Hand Cert.Rows

variable (m : (ℓ : Loc nD τ sig) → Buf (Elt Ideal) ℓ) (ρ : Dev nD → PrngReg)

section Terms
variable (h : Vec Ideal S32768x2048 .bf16) (w : Vec Ideal S2048x11264 .f32) (ck : Vec Ideal S3x11264 .f32) (b : Vec Ideal S11264 .f32)

/-- The reference's up projection. -/
def upT : FVec Ideal S8x4096x11264 .f32 :=
  Host.dotGeneral (φ₁ := .f32) (φ₂ := .f32) dot_S8x4096x2048_S2048x11264_S8x4096x11264_2_0_01_1_n_n none (shapeCast _ (extf (F := Ideal) .f32 h bitsLt_bf16_f32) shapeCasts_S32768x2048_S8x4096x2048) w

/-- The reference's up projection with a zero row before and after each sequence. -/
def padT : FVec Ideal S8x4098x11264 .f32 :=
  pad S8x4098x11264 ![0, 1, 0] ![0, 1, 0] ![0, 0, 0] (upT h w) (sitofp (F := Ideal) .f32 (constantI S_ 32 0#32)) pads_S8x4096x11264_S8x4098x11264_000_110_000 h_S_

/-- The reference's convolution, as its program composes it. -/
def convT : FVec Ideal S8x4096x11264 .f32 :=
  addf (addf (addf (mulf (extractStridedSlice S8x4096x11264 ![0, 0, 0] (padT h w) slices_S8x4098x11264_S8x4096x11264_0_0_0) (broadcastInDim S8x4096x11264 ![0, 1, 2] bcast_S1x1x11264_S8x4096x11264_0_1_2 (broadcastInDim S1x1x11264 ![2] bcast_S11264_S1x1x11264_2 (shapeCast _ (extractStridedSlice S1x11264 ![0, 0] ck slices_S3x11264_S1x11264_0_0) shapeCasts_S1x11264_S11264)))) (mulf (extractStridedSlice S8x4096x11264 ![0, 1, 0] (padT h w) slices_S8x4098x11264_S8x4096x11264_0_1_0) (broadcastInDim S8x4096x11264 ![0, 1, 2] bcast_S1x1x11264_S8x4096x11264_0_1_2 (broadcastInDim S1x1x11264 ![2] bcast_S11264_S1x1x11264_2 (shapeCast _ (extractStridedSlice S1x11264 ![1, 0] ck slices_S3x11264_S1x11264_1_0) shapeCasts_S1x11264_S11264))))) (mulf (extractStridedSlice S8x4096x11264 ![0, 2, 0] (padT h w) slices_S8x4098x11264_S8x4096x11264_0_2_0) (broadcastInDim S8x4096x11264 ![0, 1, 2] bcast_S1x1x11264_S8x4096x11264_0_1_2 (broadcastInDim S1x1x11264 ![2] bcast_S11264_S1x1x11264_2 (shapeCast _ (extractStridedSlice S1x11264 ![2, 0] ck slices_S3x11264_S1x11264_2_0) shapeCasts_S1x11264_S11264))))) (broadcastInDim S8x4096x11264 ![0, 1, 2] bcast_S1x1x11264_S8x4096x11264_0_1_2 (broadcastInDim S1x1x11264 ![2] bcast_S11264_S1x1x11264_2 b))

theorem upT_apply (a : Fin 8) (s : Fin 4096) (N : Fin 11264) (R : Fin 32768) (hR : R.val = a.val * 4096 + s.val) :
    upT h w (ix3 a s N) = pr h w R N := by
  obtain ⟨Rv, hv⟩ := R
  replace hR : Rv = a.val * 4096 + s.val := hR
  subst hR
  unfold upT pr
  pointwise
  done

theorem padT_apply (a : Fin 8) (s : Fin 4098) (N : Fin 11264) :
    padT h w (ix3 a s N) = if hs : 1 ≤ s.val ∧ s.val - 1 < 4096 then upT h w (ix3 a ⟨s.val - 1, by omega⟩ N) else 0 := by
  have h0 : (FloatOps.sitofp (F := Ideal) FTy.f32 0#32 : EReal) = 0 := by
    show (((0#32 : BitVec 32).toInt : ℝ) : EReal) = 0
    simp
  unfold padT
  generalize upT h w = u
  pointwise
  rw [h0]

theorem convT_apply (a : Fin 8) (s : Fin 4096) (N : Fin 11264) (R : Fin 32768) (hR : R.val = a.val * 4096 + s.val) :
    convT h w ck b (ix3 a s N) = conv h w ck b R N := by
  have e : convT h w ck b (ix3 a s N) = padT h w (ix3 a ⟨s.val, by omega⟩ N) * ck (ix2 0 N) + padT h w (ix3 a ⟨1 + s.val, by omega⟩ N) * ck (ix2 1 N)
      + padT h w (ix3 a ⟨2 + s.val, by omega⟩ N) * ck (ix2 2 N) + b (ix1 N) := by
    unfold convT
    generalize padT h w = p
    pointwise
  rw [e, padT_apply, padT_apply, padT_apply]
  unfold conv prUp prDn
  have e1 : (if hs : 1 ≤ s.val ∧ s.val - 1 < 4096 then upT h w (ix3 a ⟨s.val - 1, by omega⟩ N) else 0)
      = if hR : R.val % 4096 = 0 then 0 else pr h w ⟨R.val - 1, by omega⟩ N := by
    by_cases h0 : s.val = 0
    · rw [dif_neg (by omega), dif_pos (by omega)]
    · rw [dif_pos (by omega), dif_neg (by omega)]
      exact upT_apply h w a _ N _ (by show R.val - 1 = a.val * 4096 + (s.val - 1); omega)
  have e2 : (if hs : 1 ≤ 1 + s.val ∧ 1 + s.val - 1 < 4096 then upT h w (ix3 a ⟨1 + s.val - 1, by omega⟩ N) else 0) = pr h w R N := by
    rw [dif_pos (by omega)]
    exact upT_apply h w a _ N _ (by show R.val = a.val * 4096 + (1 + s.val - 1); omega)
  have e3 : (if hs : 1 ≤ 2 + s.val ∧ 2 + s.val - 1 < 4096 then upT h w (ix3 a ⟨2 + s.val - 1, by omega⟩ N) else 0)
      = if hR : R.val % 4096 = 4095 then 0 else pr h w ⟨R.val + 1, by omega⟩ N := by
    by_cases h0 : s.val = 4095
    · rw [dif_neg (by omega), dif_pos (by omega)]
    · rw [dif_pos (by omega), dif_neg (by omega)]
      exact upT_apply h w a _ N _ (by show R.val + 1 = a.val * 4096 + (2 + s.val - 1); omega)
  rw [e1, e2, e3]
end Terms

/-- The reference's run: its result holds the kernel's formula. -/
theorem run : θ_run defs (onTc (τ := τ) (main (F := Ideal))) ⟨m, fun _ => 0, ρ⟩ fun r => ∀ c : Dev nD,
      (∀ (R : Fin 32768) (C : Fin 2048), (r.2.mem ((c : Thread nD τ).loc main_v51) : Vec Ideal S32768x2048 .f32) (ix2 R C)
        = outF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R C)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨fun R C => ?_, (h c).2⟩) (Value.run m ρ)
  refine (congrFun (h c).1 (ix2 R C)).trans ?_
  unfold Value.res_main_v51
  generalize m ((c : Thread nD τ).loc main_arg0) = hh
  generalize m ((c : Thread nD τ).loc main_arg1) = w
  generalize m ((c : Thread nD τ).loc main_arg2) = ck
  generalize m ((c : Thread nD τ).loc main_arg3) = b
  generalize m ((c : Thread nD τ).loc main_arg4) = d
  generalize m ((c : Thread nD τ).loc main_arg5) = x
  generalize m ((c : Thread nD τ).loc main_arg6) = g
  generalize m ((c : Thread nD τ).loc main_arg7) = md
  clear h
  clean_types
  rw [← upT.eq_1, ← padT.eq_1, ← convT.eq_1]
  have hc : ∀ (a : Fin 8) (s : Fin 4096) (N : Fin 11264), convT hh w ck b (ix3 a s N) = conv hh w ck b ⟨a.val * 4096 + s.val, by omega⟩ N :=
    fun a s N => convT_apply hh w ck b a s N _ rfl
  generalize convT hh w ck b = T at hc ⊢
  unfold outF mix act glu rn
  generalize conv hh w ck b = K at hc ⊢
  pointwise
  have hr : ∀ N : Fin 11264, T (ix3 ⟨R.val / 4096, by omega⟩ ⟨R.val % 4096, by omega⟩ N) = K R N := fun N =>
    (hc _ _ N).trans (congrArg (K · N) (Fin.ext (by show R.val / 4096 * 4096 + R.val % 4096 = R.val; omega)))
  simp only [hr]
  rfl

end Cert.FfnRefIdeal.Hand
-- ==== Proof.FfnClaim.lean ====
module

public import proofs.«01_k».proof.Defs
public import proofs.«01_k».proof.Proof.FfnValue
public import proofs.«01_k».proof.Proof.Ffn
public import Idealize.ShloMosaic.Lib.StableHlo.Run
public import Idealize.ShloMosaic.Lib.Tactic
public import Idealize.ShloMosaic.Adequacy
public import Idealize.ShloMosaic.Init

@[expose] public section

noncomputable section

open Idealize.ShloMosaic Idealize.SL.Sem

/-! # The value claim of the feed-forward -/

namespace Cert.Proof

/-- The feed-forward's two programs end with equal results. -/
theorem algebraic_ffn : Cert.algebraic_FfnIdeal_FfnRefIdeal := fun m ρ m' ρ' _ hag =>
  ⟨fun c => Cert.FfnIdeal.Hand.G m c, Cert.FfnIdeal.Hand.run m ρ,
    (θ_run _ _ _).mono (fun r h c => ⟨funext fun (i : Cert.FfnIdeal.S32768x2048.Idx) => by
        idx_vars i
        refine ((h c).1 i0 i1).trans ?_
        obtain ⟨e0, e1, e2, e3, e4, e5, e6, e7⟩ := hag c
        rw [e0, e1, e2, e3, e4, e5, e6, e7]
        rfl, (h c).2⟩) (Cert.FfnRefIdeal.Hand.run m' ρ')⟩

end Cert.Proof

end
-- ==== Proof.AttnPoint.lean ====
module

public import proofs.«01_k».proof.Proof.Gen.AttnIdeal.Value
public import Idealize.ShloMosaic.Lib.Pipeline.Value
public import Idealize.ShloMosaic.Lib.Pipeline.ValueKit
public import Idealize.ShloMosaic.Lib.Pointwise
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

/-! # The neighbourhood attention: what one grid point leaves in the output block -/

namespace Cert.AttnIdeal.Hand

open Cert.AttnIdeal Cert.AttnIdeal.Gen

variable (m : (ℓ : Loc nD τ sig) → Buf (Elt Ideal) ℓ)

theorem hz3 : (![0, 0, 0] : Fin 3 → Nat) = fun _ => 0 := funext fun a => by fin_cases a <;> rfl

/-- What one trip stores: two heads' attention of a tile of queries, from the tile's queries `q`, its window of keys `k` and
    values `v`, the context's keys `kc` and values `vc`, and the two heads' biases `t0`, `t1`. -/
def tileOut (q : Vec Ideal S1x256x128 .bf16) (k v : Vec Ideal S1x704x128 .bf16) (kc vc : Vec Ideal S1x256x128 .bf16)
    (t0 t1 : Vec Ideal S1x1x256x704 .f32) : Vec Ideal S1x256x128 .bf16 :=
  k0_pay5 vc (k0_pay8 v) (k0_pay13 (k0_pay4 vc) (k0_pay8 v) (k0_pay10 k0_pay1 q k t0) (k0_pay11 k0_pay1 (k0_pay3 kc) q) (k0_pay12 k0_pay1 q k t0))
    (k0_pay16 k0_pay2 (k0_pay3 kc) (k0_pay6 q)) (k0_pay17 k0_pay2 (k0_pay3 kc) (k0_pay6 q) (k0_pay7 k) t1) (k0_pay18 k0_pay2 (k0_pay3 kc) (k0_pay6 q) (k0_pay7 k) t1)

/-- Trip `k`'s tile of a block of rows … -/
abbrev rows1 (k : Fin k0_t1_loop.trips) : Rect S1x4096x128 := Rect.unit (s := S1x4096x128) (k0_off1 k) S1x256x128.size (k0_off1_inb k)
/-- … its window of keys … -/
abbrev rows2 (k : Fin k0_t1_loop.trips) : Rect S1x4096x128 := Rect.unit (s := S1x4096x128) (k0_off2 k) S1x704x128.size (k0_off2_inb k)
/-- … and the two heads' biases. -/
abbrev rows3 (k : Fin k0_t1_loop.trips) : Rect S3x2x256x704 := Rect.unit (s := S3x2x256x704) (k0_off3 k) S1x1x256x704.size (k0_off3_inb k)
abbrev rows4 (k : Fin k0_t1_loop.trips) : Rect S3x2x256x704 := Rect.unit (s := S3x2x256x704) (k0_off4 k) S1x1x256x704.size (k0_off4_inb k)

/-- What trip `k` stores, from the blocks. -/
def tripOut (x0 x1 x2 : Vec Ideal S1x4096x128 .bf16) (x3 x4 : Vec Ideal S1x256x128 .bf16) (x5 : Vec Ideal S3x2x256x704 .f32)
    (k : Fin k0_t1_loop.trips) : Vec Ideal S1x256x128 .bf16 :=
  tileOut (View.ld x0 (rows1 k)) (View.ld x1 (rows2 k)) (View.ld x2 (rows2 k)) x3 x4 (View.ld x5 (rows3 k)) (View.ld x5 (rows4 k))

/-- One trip stores one tile. -/
theorem trip_list (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S3x2x256x704 .f32) (harg7 : arg7.IsWhole) (arg8 : Memref sig .tc .vmem S1x4096x128 .bf16) (harg8 : arg8.IsWhole)
    (x0 x1 x2 : Vec Ideal S1x4096x128 .bf16) (x3 x4 : Vec Ideal S1x256x128 .bf16) (x5 : Vec Ideal S3x2x256x704 .f32)
    (k : Fin k0_t1_loop.trips) :
    tripL_k0_t1 (F := Ideal) Variants.none c none i arg2 harg2 arg3 harg3 arg4 harg4 arg5 harg5 arg6 harg6 arg7 harg7 arg8 harg8 x3 x4
      (harg2.unread x0) (harg3.unread x1) (harg4.unread x2) (harg7.unread x5) k = [⟨rows1 k, tripOut x0 x1 x2 x3 x4 x5 k⟩] := by
  unfold tripL_k0_t1
  rw [trip_k0_t1]
  dsimp only
  sl_unfold_words
  simp only [View.readAt_eq_ld, harg2.read_unread, harg3.read_unread, harg4.read_unread, harg7.read_unread]
  rfl

theorem trips_eq : k0_t1_loop.trips = 16 := by decide +kernel

/-- The output block after all trips: the row numbered `y 1` is in tile `y 1 / 256`. -/
def blockOut (x0 x1 x2 : Vec Ideal S1x4096x128 .bf16) (x3 x4 : Vec Ideal S1x256x128 .bf16) (x5 : Vec Ideal S3x2x256x704 .f32) :
    Vec Ideal S1x4096x128 .bf16 := fun y =>
  tripOut x0 x1 x2 x3 x4 x5 ⟨(y 1).val / 256, by have h : (y 1).val < 4096 := (y 1).isLt; rw [trips_eq]; omega⟩
    (ix3 (0 : Fin 1) (⟨(y 1).val % 256, Nat.mod_lt _ (by decide)⟩ : Fin 256) (y 2))

/-- Each tile stored agrees with the block. -/
theorem trip_agrees (x0 x1 x2 : Vec Ideal S1x4096x128 .bf16) (x3 x4 : Vec Ideal S1x256x128 .bf16) (x5 : Vec Ideal S3x2x256x704 .f32)
    (k : Fin k0_t1_loop.trips) (x : (rows1 k).shape.Idx) :
    tripOut x0 x1 x2 x3 x4 x5 k x = blockOut x0 x1 x2 x3 x4 x5 ((rows1 k).emb x) := by
  have h0 : (x 0).val < 1 := (x 0).isLt
  have h1 : (x 1).val < 256 := (x 1).isLt
  have e1 : (((rows1 k).emb x) 1).val = 256 * k.val + (x 1).val := by
    rw [Rect.emb_apply]
    show k0_off1 k 1 + 1 * (x 1).val = _
    rw [k0_off1_eq k]
    show 256 * k.val + 1 * (x 1).val = _
    omega
  have e2 : (((rows1 k).emb x) 2).val = (x 2).val := by
    rw [Rect.emb_apply]
    show k0_off1 k 2 + 1 * (x 2).val = _
    rw [k0_off1_eq k]
    show 0 + 1 * (x 2).val = _
    omega
  unfold blockOut
  have hk : (⟨(((rows1 k).emb x) 1).val / 256, by have h : (((rows1 k).emb x) 1).val < 4096 := (((rows1 k).emb x) 1).isLt; rw [trips_eq]; omega⟩ : Fin k0_t1_loop.trips) = k :=
    Fin.ext (by show (((rows1 k).emb x) 1).val / 256 = k.val; rw [e1]; omega)
  rw [hk]
  refine congrArg (tripOut x0 x1 x2 x3 x4 x5 k) (funext fun a => Fin.ext ?_)
  match a with
  | ⟨0, _⟩ => show (x 0).val = 0; omega
  | ⟨1, _⟩ => show (x 1).val = (((rows1 k).emb x) 1).val % 256; rw [e1]; omega
  | ⟨2, _⟩ => exact e2.symm

/-- So do all the tiles stored before trip `n`. -/
theorem pieces_agree (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x256x128 .bf16) (harg5 : arg5.IsWhole) (arg6 : Memref sig .tc .vmem S1x256x128 .bf16) (harg6 : arg6.IsWhole) (arg7 : Memref sig .tc .vmem S3x2x256x704 .f32) (harg7 : arg7.IsWhole) (arg8 : Memref sig .tc .vmem S1x4096x128 .bf16) (harg8 : arg8.IsWhole)
    (x0 x1 x2 : Vec Ideal S1x4096x128 .bf16) (x3 x4 : Vec Ideal S1x256x128 .bf16) (x5 : Vec Ideal S3x2x256x704 .f32) :
    ∀ n : ℕ, n ≤ k0_t1_loop.trips → ∀ p ∈ pb_k0_t1 (F := Ideal) Variants.none c none i arg2 harg2 arg3 harg3 arg4 harg4 arg5 harg5 arg6 harg6 arg7 harg7 arg8 harg8 x3 x4
      (harg2.unread x0) (harg3.unread x1) (harg4.unread x2) (harg7.unread x5) n, ∀ x : p.1.shape.Idx, p.2 x = blockOut x0 x1 x2 x3 x4 x5 (p.1.emb x)
  | 0, _, p, hp, _ => absurd hp List.not_mem_nil
  | n + 1, hn, p, hp, x => by
    rw [pb_k0_t1_succ _ _ _ _ _ _ _ _ _ _ _ _ _ _ _ _ _ _ _ _ _ _ _ _ ⟨n, hn⟩, trip_list] at hp
    rcases List.mem_append.mp hp with hp | hp
    · obtain rfl := List.mem_singleton.mp hp
      exact trip_agrees x0 x1 x2 x3 x4 x5 _ x
    · exact pieces_agree c i arg2 harg2 arg3 harg3 arg4 harg4 arg5 harg5 arg6 harg6 arg7 harg7 arg8 harg8 x0 x1 x2 x3 x4 x5 n (Nat.le_of_succ_le hn) p hp x

/-- What a grid point leaves in the output block. -/
theorem out_eq (c : Dev nD) (t : Fin cfg0.N) : outsAt0 m c t = blockOut (iblk m c 0 t) (iblk m c 1 t) (iblk m c 2 t) (iblk m c 3 t) (iblk m c 4 t) (iblk m c 5 t) := by
  funext y
  have hc := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) y
  unfold outsAt0 out0_A_6
  rw [View.read_writes_junk_eq_canon]
  revert hc
  unfold kernelRun0_A
  dsimp only
  sl_unfold_words
  simp only [View.readAt_eq_ld, (hs0_3 t).read_unread, (hs0_4 t).read_unread, View.ld_unit_zero (S := S1x256x128) hz3]
  intro hc
  have h := View.canon_apply_of_pieces _ _ (pieces_agree c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t) _ le_rfl) y hc
  exact h

end Cert.AttnIdeal.Hand

end
-- ==== Proof.AttnTable.lean ====
module

public import proofs.«01_k».proof.Proof.Gen.AttnIdeal.Value
public import Idealize.ShloMosaic.Lib.Pointwise
public import Idealize.ShloMosaic.Lib.Pipeline.ValueKit
public import Idealize.ShloMosaic.Lib.StableHlo.Run
public import Idealize.ShloMosaic.Lib.Tactic

@[expose] public section

set_option maxRecDepth 16384

noncomputable section

open Idealize.ShloMosaic Idealize.ShloMosaic.TcCoe Idealize.SL.Sem

/-! # The attention's bias table: what the host operations before the kernel leave in it -/

namespace Cert.AttnIdeal.Hand

open Cert.AttnIdeal Cert.AttnIdeal.Gen Cert.AttnIdeal.Value

variable (m : (ℓ : Loc nD τ sig) → Buf (Elt Ideal) ℓ)

/-- The first key column of a query column's window. -/
def tCs : IVec S64x1 32 :=
  minsi (broadcastInDim S64x1 ![] bcast_S_S64x1 (constantI S_ 32 48#32))
    (maxsi (broadcastInDim S64x1 ![] bcast_S_S64x1 (constantI S_ 32 0#32))
      (subi (broadcastInDim S64x1 ![0] bcast_S64_S64x1_0 (iotaInDim S64 32 0)) (broadcastInDim S64x1 ![] bcast_S_S64x1 (constantI S_ 32 8#32))))

/-- The window's mask, from the columns and the window's first column. -/
def okOf (v3 : IVec S1x64 32) (v6 : IVec S64x1 32) : IVec S64x64 1 :=
  andi (cmpi .sge (broadcastInDim S64x64 ![0, 1] bcast_S1x64_S64x64_0_1 v3) (broadcastInDim S64x64 ![0, 1] bcast_S64x1_S64x64_0_1 v6))
    (cmpi .slt (broadcastInDim S64x64 ![0, 1] bcast_S1x64_S64x64_0_1 v3) (broadcastInDim S64x64 ![0, 1] bcast_S64x1_S64x64_0_1 (addi v6 (broadcastInDim S64x1 ![] bcast_S_S64x1 (constantI S_ 32 16#32)))))

/-- The one-hot array, likewise. -/
def hotOf (v1 : IVec S64x1 32) (v3 : IVec S1x64 32) (v6 : IVec S64x1 32) : FVec Ideal S31x64x64 .f32 :=
  uitofp .f32 (andi (broadcastInDim S31x64x64 ![0, 1, 2] bcast_S1x64x64_S31x64x64_0_1_2 (broadcastInDim S1x64x64 ![1, 2] bcast_S64x64_S1x64x64_1_2 (okOf v3 v6)))
    (cmpi .eq (broadcastInDim S31x64x64 ![0, 1, 2] bcast_S1x64x64_S31x64x64_0_1_2 (broadcastInDim S1x64x64 ![1, 2] bcast_S64x64_S1x64x64_1_2
        (subi (addi (subi (broadcastInDim S64x64 ![0, 1] bcast_S1x64_S64x64_0_1 v3) (broadcastInDim S64x64 ![0, 1] bcast_S64x1_S64x64_0_1 v1))
          (broadcastInDim S64x64 ![] bcast_S_S64x64 (constantI S_ 32 16#32))) (broadcastInDim S64x64 ![] bcast_S_S64x64 (constantI S_ 32 1#32)))))
      (broadcastInDim S31x64x64 ![0, 1, 2] bcast_S31x1x1_S31x64x64_0_1_2 (broadcastInDim S31x1x1 ![0] bcast_S31_S31x1x1_0 (iotaInDim S31 32 0)))))

/-- The columns, down and across. -/
def tRow : IVec S64x1 32 := broadcastInDim S64x1 ![0] bcast_S64_S64x1_0 (iotaInDim S64 32 0)
def tCol : IVec S1x64 32 := broadcastInDim S1x64 ![1] bcast_S64_S1x64_1 (iotaInDim S64 32 0)

/-- Whether a key column is in the query column's window. -/
def tOk : IVec S64x64 1 := okOf tCol tCs

/-- The one-hot array of the column offsets. -/
def tHot : FVec Ideal S31x64x64 .f32 := hotOf tRow tCol tCs

/-- A slab of biases per row offset, and one of −∞. -/
def tSlab (r : Vec Ideal S16x15x31 .f32) : FVec Ideal S16x16x64x64 .f32 :=
  concatenate S16x16x64x64 1 [⟨S16x15x64x64, select
      (broadcastInDim S16x15x64x64 ![0, 1, 2, 3] bcast_S1x1x64x64_S16x15x64x64_0_1_2_3 (broadcastInDim S1x1x64x64 ![2, 3] bcast_S64x64_S1x1x64x64_2_3 tOk))
      (Host.dotGeneral (F := Ideal) (φ₁ := .f32) (φ₂ := .f32) dot_S16x15x31_S31x64x64_S16x15x64x64_2_0_01_12_n_n (some .fp32) r tHot)
      (broadcastInDim S16x15x64x64 ![] bcast_S_S16x15x64x64 (constant (F := Ideal) S_ .f32 0xFF800000#32))⟩,
    ⟨S16x1x64x64, broadcastInDim S16x1x64x64 ![] bcast_S_S16x1x64x64 (constant (F := Ideal) S_ .f32 0xFF800000#32)⟩] concatenates_S16x15x64x64_S16x1x64x64_S16x16x64x64_d1

/-- The slabs' numbers, by pattern, query row and key row. -/
def tIx : IVec S132x1 32 :=
  broadcastInDim S132x1 ![0] bcast_S132_S132x1_0 (select (cmpi .slt (fun i => lit0 (S132.rowMajor i)) (broadcastInDim S132 ![] bcast_S_S132 (constantI S_ 32 0#32)))
    (addi (fun i => lit0 (S132.rowMajor i)) (broadcastInDim S132 ![] bcast_S_S132 (constantI S_ 32 16#32))) (fun i => lit0 (S132.rowMajor i)))

/-- Whether a number is that of a slab. -/
def tIn : IVec S132 1 :=
  Host.reduce IntOp.andi (andi (cmpi .sge tIx (broadcastInDim S132x1 ![] bcast_S_S132x1 (constantI S_ 32 0#32)))
    (cmpi .sle tIx (broadcastInDim S132x1 ![0, 1] bcast_S1x1_S132x1_0_1 (broadcastInDim S1x1 ![1] bcast_S1_S1x1_1 (constantI S1 32 15#32)))))
    (constantI S_ 1 1#1) reducesTo_S132x1_S132_d1 h_S_

/-- The slabs taken. -/
def tTaken (r : Vec Ideal S16x15x31 .f32) : FVec Ideal S16x132x64x64 .f32 :=
  select (broadcastInDim S16x132x64x64 ![1] bcast_S132_S16x132x64x64_1 tIn)
    (Host.gather gather_S16x16x64x64_S132x1_S16x132x64x64_023_1_n_n_1_1_1616464 (tSlab r) tIx)
    (broadcastInDim S16x132x64x64 ![] bcast_S_S16x132x64x64 (constant (F := Ideal) S_ .f32 0x7FC00000#32))

/-- The table. -/
def table (r : Vec Ideal S16x15x31 .f32) : Vec Ideal S3x16x256x704 .f32 :=
  shapeCast S3x16x256x704 (transpose S3x16x4x64x11x64 [1, 0, 2, 4, 3, 5] (shapeCast S16x3x4x11x64x64 (tTaken r) shapeCasts_S16x132x64x64_S16x3x4x11x64x64)
    transposes_S16x3x4x11x64x64_S3x16x4x64x11x64_1_0_2_4_3_5) shapeCasts_S3x16x4x64x11x64_S3x16x256x704

/-- The launched biases. -/
abbrev rA (c : Dev nD) : Vec Ideal S16x15x31 .f32 := m ((c : Thread nD τ).loc main_arg2)

/-- The contents of a core's buffers. -/
abbrev Vals : Type := Valuation τ sig (Elt Ideal)

theorem after_append : ∀ (l₁ l₂ : List (HloOp τ sig (Elt Ideal))) (F : Vals), StableHlo.after (l₁ ++ l₂) F = StableHlo.after l₂ (StableHlo.after l₁ F)
  | [], _, _ => rfl
  | _ :: l₁, l₂, F => after_append l₁ l₂ _

/-- The first stretch of host operations: iotas and constants. -/
theorem st0 (F : Vals) : StableHlo.after hostOps0 F (Proc.devRef .tc main_v1) = broadcastInDim S64x1 ![0] bcast_S64_S64x1_0 (iotaInDim S64 32 0)
    ∧ StableHlo.after hostOps0 F (Proc.devRef .tc main_v3) = broadcastInDim S1x64 ![1] bcast_S64_S1x64_1 (iotaInDim S64 32 0)
    ∧ StableHlo.after hostOps0 F (Proc.devRef .tc main_v5) = subi (broadcastInDim S64x1 ![0] bcast_S64_S64x1_0 (iotaInDim S64 32 0)) (broadcastInDim S64x1 ![] bcast_S_S64x1 (constantI S_ 32 8#32))
    ∧ StableHlo.after hostOps0 F (Proc.devRef .tc main_c_1) = constantI S_ 32 0#32
    ∧ StableHlo.after hostOps0 F (Proc.devRef .tc main_c_2) = constantI S_ 32 48#32
    ∧ StableHlo.after hostOps0 F (Proc.devRef .tc main_c) = (fun i => lit0 (S132.rowMajor i))
    ∧ StableHlo.after hostOps0 F (Proc.devRef .tc main_arg2) = F (Proc.devRef .tc main_arg2) := by
  refine ⟨?_, ?_, ?_, ?_, ?_, ?_, ?_⟩ <;> (simp only [hostOps0]; after_results <;> rfl)

/-- The clip. -/
theorem st1 (F : Vals) : StableHlo.after hostOps0_1 F (Proc.devRef .tc main_v6) = minsi (broadcastInDim S64x1 ![] bcast_S_S64x1 (F (Proc.devRef .tc main_c_2)))
      (maxsi (broadcastInDim S64x1 ![] bcast_S_S64x1 (F (Proc.devRef .tc main_c_1))) (F (Proc.devRef .tc main_v5)))
    ∧ StableHlo.after hostOps0_1 F (Proc.devRef .tc main_v1) = F (Proc.devRef .tc main_v1)
    ∧ StableHlo.after hostOps0_1 F (Proc.devRef .tc main_v3) = F (Proc.devRef .tc main_v3)
    ∧ StableHlo.after hostOps0_1 F (Proc.devRef .tc main_c) = F (Proc.devRef .tc main_c)
    ∧ StableHlo.after hostOps0_1 F (Proc.devRef .tc main_arg2) = F (Proc.devRef .tc main_arg2) := by
  refine ⟨?_, ?_, ?_, ?_, ?_⟩ <;> (simp only [hostOps0_1]; after_results <;> rfl)

/-- The biases spread over the columns. -/
theorem st2 (F : Vals) : StableHlo.after hostOps0_2 F (Proc.devRef .tc main_v33) = Host.dotGeneral (F := Ideal) (φ₁ := .f32) (φ₂ := .f32) dot_S16x15x31_S31x64x64_S16x15x64x64_2_0_01_12_n_n (some .fp32)
      (F (Proc.devRef .tc main_arg2)) (hotOf (F (Proc.devRef .tc main_v1)) (F (Proc.devRef .tc main_v3)) (F (Proc.devRef .tc main_v6)))
    ∧ StableHlo.after hostOps0_2 F (Proc.devRef .tc main_v34) = broadcastInDim S1x1x64x64 ![2, 3] bcast_S64x64_S1x1x64x64_2_3 (okOf (F (Proc.devRef .tc main_v3)) (F (Proc.devRef .tc main_v6)))
    ∧ StableHlo.after hostOps0_2 F (Proc.devRef .tc main_cst) = constant (F := Ideal) S_ .f32 0xFF800000#32
    ∧ StableHlo.after hostOps0_2 F (Proc.devRef .tc main_c) = F (Proc.devRef .tc main_c) := by
  refine ⟨?_, ?_, ?_, ?_⟩ <;> (simp only [hostOps0_2]; after_results <;> rfl)

/-- The biases, −∞ outside the window. -/
theorem st3 (F : Vals) : StableHlo.after hostOps0_3 F (Proc.devRef .tc main_v35) = select
      (broadcastInDim S16x15x64x64 ![0, 1, 2, 3] bcast_S1x1x64x64_S16x15x64x64_0_1_2_3 (F (Proc.devRef .tc main_v34))) (F (Proc.devRef .tc main_v33))
      (broadcastInDim S16x15x64x64 ![] bcast_S_S16x15x64x64 (F (Proc.devRef .tc main_cst)))
    ∧ StableHlo.after hostOps0_3 F (Proc.devRef .tc main_c) = F (Proc.devRef .tc main_c) := by
  refine ⟨?_, ?_⟩ <;> (simp only [hostOps0_3]; after_results <;> rfl)

/-- The slab of −∞ appended. -/
theorem st4 (F : Vals) : StableHlo.after hostOps0_4 F (Proc.devRef .tc main_v37) = concatenate S16x16x64x64 1 [⟨S16x15x64x64, F (Proc.devRef .tc main_v35)⟩,
    ⟨S16x1x64x64, broadcastInDim S16x1x64x64 ![] bcast_S_S16x1x64x64 (constant (F := Ideal) S_ .f32 0xFF800000#32)⟩] concatenates_S16x15x64x64_S16x1x64x64_S16x16x64x64_d1
    ∧ StableHlo.after hostOps0_4 F (Proc.devRef .tc main_c) = F (Proc.devRef .tc main_c) := by
  refine ⟨?_, ?_⟩ <;> (simp only [hostOps0_4]; after_results <;> rfl)

/-- The slabs taken. -/
theorem st5 (F : Vals) (hc : F (Proc.devRef .tc main_c) = (fun i => lit0 (S132.rowMajor i))) : StableHlo.after hostOps0_5 F (Proc.devRef .tc main_v38) =
    select (broadcastInDim S16x132x64x64 ![1] bcast_S132_S16x132x64x64_1 tIn)
    (Host.gather gather_S16x16x64x64_S132x1_S16x132x64x64_023_1_n_n_1_1_1616464 (F (Proc.devRef .tc main_v37)) tIx)
    (broadcastInDim S16x132x64x64 ![] bcast_S_S16x132x64x64 (constant (F := Ideal) S_ .f32 0x7FC00000#32)) := by
  simp only [hostOps0_5]
  after_results_simp
  rw [hc]
  simp only [StableHlo.TRef.ofBuf_toBuf]
  unfold tIn tIx
  rfl

/-- The slabs laid out. -/
theorem st6 (F : Vals) : StableHlo.after hostOps0_6 F (Proc.devRef .tc main_v41) =
    shapeCast S3x16x256x704 (transpose S3x16x4x64x11x64 [1, 0, 2, 4, 3, 5] (shapeCast S16x3x4x11x64x64 (F (Proc.devRef .tc main_v38)) shapeCasts_S16x132x64x64_S16x3x4x11x64x64)
    transposes_S16x3x4x11x64x64_S3x16x4x64x11x64_1_0_2_4_3_5) shapeCasts_S3x16x4x64x11x64_S3x16x256x704 := by
  simp only [hostOps0_6]
  after_results <;> rfl

/-- The host operations leave the table in the kernel's sixth argument. -/
theorem V_table (c : Dev nD) : V m c main_v41 = table (rA m c) := by
  show StableHlo.after (hostOps0 ++ (hostOps0_1 ++ (hostOps0_2 ++ (hostOps0_3 ++ (hostOps0_4 ++ (hostOps0_5 ++ hostOps0_6)))))) (fun b => m (c, b)) (Proc.devRef .tc main_v41) = _
  rw [after_append, after_append, after_append, after_append, after_append, after_append]
  obtain ⟨a1, a3, a5, ac1, ac2, ac, aa⟩ := st0 (fun b => m (c, b))
  generalize StableHlo.after hostOps0 (fun b => m (c, b)) = F0 at a1 a3 a5 ac1 ac2 ac aa ⊢
  obtain ⟨b6, b1, b3, bc, ba⟩ := st1 F0
  generalize StableHlo.after hostOps0_1 F0 = F1 at b6 b1 b3 bc ba ⊢
  obtain ⟨c33, c34, cc, c0⟩ := st2 F1
  generalize StableHlo.after hostOps0_2 F1 = F2 at c33 c34 cc c0 ⊢
  obtain ⟨d35, d0⟩ := st3 F2
  generalize StableHlo.after hostOps0_3 F2 = F3 at d35 d0 ⊢
  obtain ⟨e37, e0⟩ := st4 F3
  generalize StableHlo.after hostOps0_4 F3 = F4 at e37 e0 ⊢
  rw [st6, st5 F4 (by rw [e0, d0, c0, bc, ac]), e37, d35, c33, c34, cc, b6, b1, b3, ba, a1, a3, a5, ac1, ac2, aa]
  rfl

end Cert.AttnIdeal.Hand

end
-- ==== Proof.AttnBias.lean ====
module

public import proofs.«01_k».proof.Proof.AttnTable

@[expose] public section

set_option maxRecDepth 16384

noncomputable section

open Idealize.ShloMosaic Idealize.ShloMosaic.TcCoe Idealize.SL.Sem

/-! # The attention's bias table, entry by entry -/

namespace Cert.AttnIdeal.Hand

open Cert.AttnIdeal Cert.AttnIdeal.Gen Cert.AttnIdeal.Value

/-- The pattern 0xFF800000 is −∞. -/
theorem negInf_f32 : Ideal.ofBits .f32 4286578688#32 = (⊥ : EReal) := by simp [Ideal.ofBits, Ideal.ieee]

/-- A key column is in the query column's window. -/
def ColIn (qc kc : Fin 64) : Prop := min (qc.val - 8) 48 ≤ kc.val ∧ kc.val < min (qc.val - 8) 48 + 16

instance (qc kc : Fin 64) : Decidable (ColIn qc kc) := inferInstanceAs (Decidable (_ ∧ _))

theorem cs_bits : ∀ qc : Fin 64, IntOp.minsi (48#32) (IntOp.maxsi (0#32) (IntOp.subi (BitVec.ofNat 32 qc.val) 8#32)) = BitVec.ofNat 32 (min (qc.val - 8) 48) := by
  decide +kernel

theorem ok_bits : ∀ qc kc : Fin 64, IntOp.andi (IntOp.cmpi CmpIPredicate.sge (BitVec.ofNat 32 kc.val) (BitVec.ofNat 32 (min (qc.val - 8) 48)))
      (IntOp.cmpi CmpIPredicate.slt (BitVec.ofNat 32 kc.val) (IntOp.addi (BitVec.ofNat 32 (min (qc.val - 8) 48)) 16#32)) = if ColIn qc kc then 1#1 else 0#1 := by
  decide +kernel

theorem dc_bits : ∀ qc kc : Fin 64, ColIn qc kc → IntOp.subi (IntOp.addi (IntOp.subi (BitVec.ofNat 32 kc.val) (BitVec.ofNat 32 qc.val)) 16#32) 1#32 = BitVec.ofNat 32 (kc.val + 15 - qc.val) := by
  decide +kernel

theorem tCs_apply (qc : Fin 64) : tCs (ix2 qc 0) = BitVec.ofNat 32 (min (qc.val - 8) 48) := by
  unfold tCs
  pointwise
  exact cs_bits qc

theorem tOk_apply (qc kc : Fin 64) : tOk (ix2 qc kc) = if ColIn qc kc then 1#1 else 0#1 := by
  unfold tOk okOf tCol
  pointwise [tCs_apply]
  exact ok_bits qc kc

theorem dcIn (qc kc : Fin 64) (h : ColIn qc kc) : kc.val + 15 - qc.val < 31 := by
  have := h.1; have := h.2; have := qc.isLt; have := kc.isLt; omega

/-- The one-hot array under the mask. -/
theorem tHot_apply (d : Fin 31) (qc kc : Fin 64) (h : ColIn qc kc) : tHot (ix3 d qc kc) = if d = ⟨kc.val + 15 - qc.val, dcIn qc kc h⟩ then (1 : EReal) else 0 := by
  have e : okOf tCol tCs (ix2 qc kc) = 1#1 := (tOk_apply qc kc).trans (if_pos h)
  unfold tHot hotOf
  pointwise [e]
  unfold tCol tRow
  pointwise
  rw [dc_bits qc kc h]
  have hb := dcIn qc kc h
  by_cases hd : d = ⟨kc.val + 15 - qc.val, hb⟩
  · rw [if_pos hd, hd]
    have : IntOp.andi (1#1) (IntOp.cmpi CmpIPredicate.eq (BitVec.ofNat 32 (kc.val + 15 - qc.val)) (BitVec.ofNat 32 (kc.val + 15 - qc.val))) = 1#1 := by
      simp [IntOp.andi, IntOp.cmpi]
    show (((IntOp.andi (1#1) (IntOp.cmpi CmpIPredicate.eq (BitVec.ofNat 32 (kc.val + 15 - qc.val)) (BitVec.ofNat 32 (kc.val + 15 - qc.val)))).toNat : ℝ) : EReal) = 1
    rw [this]
    simp
  · rw [if_neg hd]
    have hne : BitVec.ofNat 32 (kc.val + 15 - qc.val) ≠ BitVec.ofNat 32 d.val := fun e => hd (Fin.ext (by
      have e' := congrArg BitVec.toNat e
      rw [BitVec.toNat_ofNat, BitVec.toNat_ofNat] at e'
      have := d.isLt
      show d.val = kc.val + 15 - qc.val
      omega))
    have : IntOp.andi (1#1) (IntOp.cmpi CmpIPredicate.eq (BitVec.ofNat 32 (kc.val + 15 - qc.val)) (BitVec.ofNat 32 d.val)) = 0#1 := by
      show 1#1 &&& BitVec.ofBool (BitVec.ofNat 32 (kc.val + 15 - qc.val) == BitVec.ofNat 32 d.val) = 0#1
      rw [beq_false_of_ne hne]
      rfl
    show (((IntOp.andi (1#1) (IntOp.cmpi CmpIPredicate.eq (BitVec.ofNat 32 (kc.val + 15 - qc.val)) (BitVec.ofNat 32 d.val))).toNat : ℝ) : EReal) = 0
    rw [this]
    simp

/-- A slab's entry in the window. -/
theorem tSlab_in (r : Vec Ideal S16x15x31 .f32) (h : Fin 16) (z : Fin 16) (qc kc : Fin 64) (hz : z.val < 15) (hc : ColIn qc kc) :
    tSlab r (ix4 h z qc kc) = r (ix3 h ⟨z.val, hz⟩ ⟨kc.val + 15 - qc.val, dcIn qc kc hc⟩) := by
  unfold tSlab
  pointwise [tOk_apply, tHot_apply _ _ _ hc]
  rw [dif_pos hz, if_pos hc]
  show (∑ x, r (ix3 h ⟨z.val, hz⟩ x) * if x = ⟨kc.val + 15 - qc.val, _⟩ then 1 else 0) = _
  rw [Finset.sum_eq_single (⟨kc.val + 15 - qc.val, dcIn qc kc hc⟩ : Fin 31) (fun x _ hx => by rw [if_neg hx, mul_zero]) (fun hx => absurd (Finset.mem_univ _) hx), if_pos rfl, mul_one]

/-- A slab's entry outside the window. -/
theorem tSlab_out (r : Vec Ideal S16x15x31 .f32) (h : Fin 16) (z : Fin 16) (qc kc : Fin 64) (hz : ¬ (z.val < 15 ∧ ColIn qc kc)) :
    tSlab r (ix4 h z qc kc) = (⊥ : EReal) := by
  unfold tSlab
  pointwise [tOk_apply]
  by_cases h15 : z.val < 15
  · rw [dif_pos h15, if_neg fun hc => hz ⟨h15, hc⟩]
    exact negInf_f32
  · rw [dif_neg h15]
    exact negInf_f32

/-- The first key row of the block that tile `t` of four query rows sees, and of the window of query row `r`. -/
def kRow0 (t : ℕ) : ℕ := min (4 * t - 4) 53
def wRow0 (r : ℕ) : ℕ := min (r - 4) 56

/-- The slab a key row of a tile's block takes. -/
def slabNo (t qr kr : ℕ) : ℕ :=
  if wRow0 (4 * t + qr) ≤ kRow0 t + kr ∧ kRow0 t + kr < wRow0 (4 * t + qr) + 8 then kRow0 t + kr + 7 - (4 * t + qr) else 15

/-- The tile a pattern was made for. -/
def patTile (p : Fin 3) : ℕ := if p = 0 then 0 else if p = 1 then 1 else 15
/-- The pattern a tile takes. -/
def tilePat (t : Fin 16) : Fin 3 := if t = 0 then 0 else if t = 15 then 2 else 1

theorem slabNo_pat : ∀ (t : Fin 16) (qr : Fin 4) (kr : Fin 11), slabNo (patTile (tilePat t)) qr.val kr.val = slabNo t.val qr.val kr.val := by decide +kernel

theorem ix_bits : ∀ (p : Fin 3) (qr : Fin 4) (kr : Fin 11), lit0 (S132.rowMajor (ix1 (⟨p.val * 44 + qr.val * 11 + kr.val, by omega⟩ : Fin 132))) = BitVec.ofNat 32 (slabNo (patTile p) qr.val kr.val) := by
  decide +kernel

theorem in_bits : ∀ j : Fin 132, IntOp.cmpi CmpIPredicate.slt (lit0 (S132.rowMajor (ix1 j))) 0#32 = 0#1
    ∧ IntOp.andi (IntOp.andi (IntOp.cmpi CmpIPredicate.sge (lit0 (S132.rowMajor (ix1 j))) 0#32) (IntOp.cmpi CmpIPredicate.sle (lit0 (S132.rowMajor (ix1 j))) 15#32)) 1#1 = 1#1 := by
  decide +kernel

theorem tIx_apply (j : Fin 132) : tIx (ix2 j 0) = lit0 (S132.rowMajor (ix1 j)) := by
  unfold tIx
  pointwise [(in_bits j).1]

theorem tIn_apply (j : Fin 132) : tIn (ix1 j) = 1#1 := by
  unfold tIn
  pointwise
  rw [Finset.univ_unique, Finset.fold_singleton]
  rw [show (default : Fin 1) = 0 from rfl, tIx_apply]
  exact (in_bits j).2

theorem siT (h : Fin 16) (j : Fin 132) (qc kc : Fin 64) :
    (gather_S16x16x64x64_S132x1_S16x132x64x64_023_1_n_n_1_1_1616464).siIdx (ix4 h j qc kc) ⟨0, by decide⟩ = ix2 j 0 := by
  funext x
  refine Fin.ext ?_
  match x with
  | ⟨0, _⟩ => rfl
  | ⟨1, _⟩ => rfl

/-- The take read at an index. -/
theorem gT_apply (k : FVec Ideal S16x16x64x64 .f32) (I : IVec S132x1 32) (h : Fin 16) (j : Fin 132) (qc kc : Fin 64) :
    Host.gather gather_S16x16x64x64_S132x1_S16x132x64x64_023_1_n_n_1_1_1616464 k I (ix4 h j qc kc)
      = k (ix4 h (⟨min (I (ix2 j 0)).toInt.toNat 15, by omega⟩ : Fin 16) qc kc) := by
  unfold Host.gather
  refine congrArg k (funext fun x => Fin.ext ?_)
  have s0 := siT h j qc kc
  match x with
  | ⟨0, _⟩ => exact Eq.trans (b := 0 + 0 + h.val) rfl (by show 0 + 0 + h.val = h.val; omega)
  | ⟨1, _⟩ => show _ = min (I (ix2 j 0)).toInt.toNat 15; rw [← s0]; rfl
  | ⟨2, _⟩ => exact Eq.trans (b := 0 + 0 + qc.val) rfl (by show 0 + 0 + qc.val = qc.val; omega)
  | ⟨3, _⟩ => exact Eq.trans (b := 0 + 0 + kc.val) rfl (by show 0 + 0 + kc.val = kc.val; omega)

theorem slabNo_lt (t qr kr : ℕ) : slabNo t qr kr < 16 := by
  unfold slabNo wRow0 kRow0
  split <;> omega

theorem slab_min : ∀ (p : Fin 3) (qr : Fin 4) (kr : Fin 11), min (BitVec.ofNat 32 (slabNo (patTile p) qr.val kr.val)).toInt.toNat 15 = slabNo (patTile p) qr.val kr.val := by
  decide +kernel

/-- The table's entry is that of a slab. -/
theorem table_apply (r : Vec Ideal S16x15x31 .f32) (t : Fin 16) (h : Fin 16) (qr : Fin 4) (qc : Fin 64) (kr : Fin 11) (kc : Fin 64) (i : Fin 256) (j : Fin 704)
    (hi : i.val = 64 * qr.val + qc.val) (hj : j.val = 64 * kr.val + kc.val) :
    table r (ix4 (tilePat t) h i j) = tSlab r (ix4 h ⟨slabNo t.val qr.val kr.val, slabNo_lt _ _ _⟩ qc kc) := by
  have e1 : i.val / 64 = qr.val := by omega
  have e2 : j.val / 64 = kr.val := by omega
  have e3 : i.val % 64 = qc.val := by omega
  have e4 : j.val % 64 = kc.val := by omega
  unfold table
  pointwise [e1, e2, e3, e4]
  unfold tTaken
  pointwise [tIn_apply, gT_apply, tIx_apply]
  refine congrArg (tSlab r) (congrArg (fun z => ix4 h z qc kc) (Fin.ext ?_))
  show min (lit0 (S132.rowMajor (ix1 (⟨(tilePat t).val * 44 + qr.val * 11 + kr.val, _⟩ : Fin 132)))).toInt.toNat 15 = slabNo t.val qr.val kr.val
  rw [ix_bits (tilePat t) qr kr, slab_min, slabNo_pat]

end Cert.AttnIdeal.Hand

end
-- ==== Proof.Softmax.lean ====
module

public import Idealize.ShloMosaic.Lib.Pointwise

@[expose] public section

noncomputable section

open Idealize.ShloMosaic

/-! # A softmax over masked scores: dividing after the weighted sum, or before it -/

namespace Cert.Softmax

/-- The greatest of finitely many extended reals. -/
abbrev top {ι : Type} [Fintype ι] (s : ι → EReal) : EReal := Finset.fold max (⊥ : EReal) s Finset.univ

theorem top_eq {ι : Type} [Fintype ι] (s : ι → EReal) : top s = Finset.univ.sup s := rfl

theorem le_top {ι : Type} [Fintype ι] (s : ι → EReal) (i : ι) : s i ≤ top s := Finset.le_sup (Finset.mem_univ i)

theorem top_le {ι : Type} [Fintype ι] {s : ι → EReal} {M : EReal} (h : ∀ i, s i ≤ M) : top s ≤ M := Finset.sup_le fun i _ => h i

/-- Finite: neither infinity. -/
def IsReal (x : EReal) : Prop := ∃ r : ℝ, x = (r : EReal)

/-- The greatest of finitely many reals, one at least, is real. -/
theorem top_real {ι : Type} [Fintype ι] [Nonempty ι] (s : ι → EReal) (h : ∀ i, IsReal (s i)) : IsReal (top s) := by
  obtain ⟨i, _, hi⟩ := Finset.exists_mem_eq_sup Finset.univ Finset.univ_nonempty s
  rw [top_eq, hi]
  exact h i

theorem max_real {x y : EReal} (hx : IsReal x) (hy : IsReal y) : IsReal (max x y) := by
  rcases max_choice x y with h | h <;> rw [h] <;> assumption

theorem mul_real {x y : EReal} (hx : IsReal x) (hy : IsReal y) : IsReal (x * y) := by
  obtain ⟨a, rfl⟩ := hx
  obtain ⟨b, rfl⟩ := hy
  exact ⟨a * b, (EReal.coe_mul a b).symm⟩

theorem add_real {x y : EReal} (hx : IsReal x) (hy : IsReal y) : IsReal (x + y) := by
  obtain ⟨a, rfl⟩ := hx
  obtain ⟨b, rfl⟩ := hy
  exact ⟨a + b, (EReal.coe_add a b).symm⟩

theorem finset_sum_real {ι : Type} (S : Finset ι) (f : ι → EReal) (h : ∀ i, IsReal (f i)) : IsReal (∑ i ∈ S, f i) := by
  classical
  induction S using Finset.induction_on with
  | empty => exact ⟨0, by simp⟩
  | insert a S ha ih => rw [Finset.sum_insert ha]; exact add_real (h a) ih

/-- Masked scores add nothing to the greatest. -/
theorem top_masked {J W : Type} [Fintype J] [Fintype W] (e : W → J) (s : J → EReal) (hs : ∀ j, j ∉ Set.range e → s j = ⊥) :
    top s = top fun w => s (e w) := by
  refine le_antisymm (top_le fun j => ?_) (top_le fun w => le_top s (e w))
  by_cases hj : j ∈ Set.range e
  · obtain ⟨w, rfl⟩ := hj
    exact le_top (fun w => s (e w)) w
  · rw [hs j hj]
    exact bot_le

/-- The exponential of a difference of reals is a positive real. -/
theorem exp_real {x M : EReal} (hx : IsReal x) (hM : IsReal M) : ∃ r : ℝ, 0 < r ∧ Ideal.exp (x - M) = (r : EReal) := by
  obtain ⟨a, rfl⟩ := hx
  obtain ⟨b, rfl⟩ := hM
  exact ⟨Real.exp (a - b), Real.exp_pos _, by rw [← EReal.coe_sub]; rfl⟩

/-- A masked score's weight is zero. -/
theorem exp_masked {M : EReal} (hM : IsReal M) : Ideal.exp (⊥ - M) = 0 := by
  obtain ⟨b, rfl⟩ := hM
  rw [EReal.bot_sub]
  rfl

/-- A sum of reals, taken among the reals or the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum of positive reals is a real, and not negative. -/
theorem sum_real {ι : Type} [Fintype ι] (f : ι → EReal) (h : ∀ i, ∃ r : ℝ, 0 < r ∧ f i = (r : EReal)) :
    ∃ r : ℝ, 0 ≤ r ∧ ∑ i, f i = (r : EReal) := by
  choose g hg hf using h
  refine ⟨∑ i, g i, Finset.sum_nonneg fun i _ => (hg i).le, ?_⟩
  rw [coe_sum]
  exact Finset.sum_congr rfl fun i _ => hf i

/-- A real that is not negative distributes over a sum. -/
theorem sum_mul_real {ι : Type} (S : Finset ι) (f : ι → EReal) {c : EReal} (h0 : 0 ≤ c) (ht : c ≠ ⊤) : (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 ht, ih]

/-- The attention of one query: its scores `t` of the window and `u` of the context, and the values weighted by their softmax. -/
def att {W U : Type} [Fintype W] [Fintype U] (t : W → EReal) (u : U → EReal) (v : W → EReal) (w : U → EReal) : EReal :=
  let M := max (top t) (top u)
  let D := (∑ i, Ideal.exp (t i - M)) + ∑ i, Ideal.exp (u i - M)
  (∑ i, Ideal.div (Ideal.exp (t i - M)) D * v i) + ∑ i, Ideal.div (Ideal.exp (u i - M)) D * w i

/-- The same, the weighted sums divided by the sum of the weights. -/
def ratio {J U : Type} [Fintype J] [Fintype U] (s : J → EReal) (u : U → EReal) (v : J → EReal) (w : U → EReal) : EReal :=
  Ideal.div ((∑ j, Ideal.exp (s j - max (top s) (top u)) * v j) + ∑ i, Ideal.exp (u i - max (top s) (top u)) * w i)
    ((∑ j, Ideal.exp (s j - max (top s) (top u))) + ∑ i, Ideal.exp (u i - max (top s) (top u)))

/-- Dividing the weighted sums by the sum of the weights, the window's scores among masked ones, is that attention. -/
theorem att_of_masked {J W U : Type} [Fintype J] [Fintype W] [Fintype U] [Nonempty W] [Nonempty U] (e : W → J) (he : Function.Injective e) (s : J → EReal)
    (u : U → EReal) (v : J → EReal) (w : U → EReal) (hs : ∀ j, j ∉ Set.range e → s j = ⊥) (hsr : ∀ i, IsReal (s (e i))) (hu : ∀ i, IsReal (u i)) :
    ratio s u v w = att (fun i => s (e i)) u (fun i => v (e i)) w := by
  unfold ratio att
  dsimp only
  rw [top_masked e s hs]
  have hM : IsReal (max (top fun i => s (e i)) (top u)) := max_real (top_real _ hsr) (top_real _ hu)
  generalize max (top fun i => s (e i)) (top u) = M at hM ⊢
  have h0 : ∀ j, j ∉ Set.range e → Ideal.exp (s j - M) = 0 := fun j hj => by rw [hs j hj]; exact exp_masked hM
  rw [← Fintype.sum_of_injective e he (fun i => Ideal.exp (s (e i) - M) * v (e i)) _ (fun j hj => by rw [h0 j hj, zero_mul]) (fun i => rfl),
    ← Fintype.sum_of_injective e he (fun i => Ideal.exp (s (e i) - M)) _ h0 (fun i => rfl)]
  have hD : ∃ r : ℝ, 0 < r ∧ (∑ i, Ideal.exp (s (e i) - M)) + ∑ i, Ideal.exp (u i - M) = (r : EReal) := by
    obtain ⟨a, ha, ea⟩ := sum_real (fun i => Ideal.exp (u i - M)) fun i => exp_real (hu i) hM
    choose g hg hf using fun i => exp_real (hsr i) hM
    refine ⟨(∑ i, g i) + a, add_pos_of_pos_of_nonneg (Finset.sum_pos (fun i _ => hg i) Finset.univ_nonempty) ha, ?_⟩
    rw [ea, EReal.coe_add, coe_sum]
    exact congrArg (· + (a : EReal)) (Finset.sum_congr rfl fun i _ => hf i)
  obtain ⟨d, hd, eD⟩ := hD
  rw [eD]
  have hne : (d : EReal) ≠ 0 := by exact_mod_cast hd.ne'
  have hi0 : (0 : EReal) ≤ (d : EReal)⁻¹ := by rw [← EReal.coe_inv]; exact_mod_cast (inv_pos.mpr hd).le
  have hit : (d : EReal)⁻¹ ≠ ⊤ := by rw [← EReal.coe_inv]; exact EReal.coe_ne_top _
  have hdiv : ∀ x, Ideal.div x (d : EReal) = x * (d : EReal)⁻¹ := fun x => if_neg hne
  simp only [hdiv]
  rw [EReal.right_distrib_of_nonneg_of_ne_top hi0 hit, sum_mul_real _ _ hi0 hit, sum_mul_real _ _ hi0 hit]
  exact congrArg₂ (· + ·) (Finset.sum_congr rfl fun i _ => mul_right_comm _ _ _) (Finset.sum_congr rfl fun i _ => mul_right_comm _ _ _)

/-! ## The softmax over the scores laid side by side -/

/-- The 384 scores side by side: the window's 128 by row and column, then the context's 256. -/
def beside (t : Fin 8 × Fin 16 → EReal) (u : Fin 256 → EReal) (j : Fin 384) : EReal :=
  if h : j.val < 128 then t (⟨j.val / 16, by omega⟩, ⟨j.val % 16, by omega⟩) else u ⟨j.val - 128, by omega⟩

theorem beside_win (t : Fin 8 × Fin 16 → EReal) (u : Fin 256 → EReal) (w : Fin 8 × Fin 16) (h : w.1.val * 16 + w.2.val < 384) :
    beside t u ⟨w.1.val * 16 + w.2.val, h⟩ = t w := by
  have hw := w.2.isLt
  have hw1 := w.1.isLt
  unfold beside
  rw [dif_pos (show w.1.val * 16 + w.2.val < 128 by omega)]
  exact congrArg t (Prod.ext (Fin.ext (by show (w.1.val * 16 + w.2.val) / 16 = w.1.val; omega)) (Fin.ext (by show (w.1.val * 16 + w.2.val) % 16 = w.2.val; omega)))

theorem beside_ctx (t : Fin 8 × Fin 16 → EReal) (u : Fin 256 → EReal) (i : Fin 256) (h : 128 + i.val < 384) :
    beside t u ⟨128 + i.val, h⟩ = u i := by
  unfold beside
  rw [dif_neg (show ¬ 128 + i.val < 128 by omega)]
  exact congrArg u (Fin.ext (by show 128 + i.val - 128 = i.val; omega))

theorem top_beside (t : Fin 8 × Fin 16 → EReal) (u : Fin 256 → EReal) : top (beside t u) = max (top t) (top u) := by
  refine le_antisymm (top_le fun j => ?_) (max_le (top_le fun w => ?_) (top_le fun i => ?_))
  · unfold beside
    split
    · exact le_max_of_le_left (le_top t _)
    · exact le_max_of_le_right (le_top u _)
  · have hw := w.2.isLt
    have hw1 := w.1.isLt
    exact (beside_win t u w (by omega)).symm.trans_le (le_top (beside t u) _)
  · exact (beside_ctx t u i (by omega)).symm.trans_le (le_top (beside t u) _)

theorem sum_beside (t : Fin 8 × Fin 16 → EReal) (u : Fin 256 → EReal) (f : EReal → EReal) :
    ∑ j, f (beside t u j) = (∑ w, f (t w)) + ∑ i, f (u i) := by
  rw [show (∑ j : Fin 384, f (beside t u j)) = ∑ j : Fin (128 + 256), f (beside t u j) from rfl, Fin.sum_univ_add]
  refine congrArg₂ (· + ·) ?_ ?_
  · refine Fintype.sum_equiv (finProdFinEquiv (m := 8) (n := 16)).symm _ _ fun j => congrArg f ?_
    unfold beside
    rw [dif_pos (show (Fin.castAdd 256 j).val < 128 from j.isLt)]
    rfl
  · refine Finset.sum_congr rfl fun i _ => congrArg f ?_
    unfold beside
    rw [dif_neg (show ¬ (Fin.natAdd 128 i).val < 128 by show ¬ 128 + i.val < 128; omega)]
    exact congrArg u (Fin.ext (by show 128 + i.val - 128 = i.val; omega))

end Cert.Softmax

end
-- ==== Proof.AttnSpec.lean ====
module

public import proofs.«01_k».proof.Proof.Softmax

@[expose] public section

noncomputable section

open Idealize.ShloMosaic

/-! # Neighbourhood attention with a context, entry by entry -/

namespace Cert.Attn

/-- One eighth, the scale of the scores. -/
abbrev eighth : EReal := Ideal.ofBits .f32 0x3E000000#32

theorem eighth_eq : eighth = (((1 : ℝ) / 8 : ℝ) : EReal) := by
  simp [Ideal.ofBits, Ideal.ieee, -EReal.coe_mul]; norm_num

theorem eighth_bf16 : Ideal.ofBits .bf16 15872#16 = eighth := by
  rw [eighth_eq]
  simp [Ideal.ofBits, Ideal.ieee, -EReal.coe_mul]; norm_num

/-- The first row of a query row's window, of 8 rows among 64 … -/
def row0 (r : ℕ) : ℕ := min (r - 4) 56
/-- … and the first column of a query column's, of 16 columns among 64. -/
def col0 (c : ℕ) : ℕ := min (c - 8) 48

/-- The position of a query by row and column. -/
def queryAt (r c : Fin 64) : Fin 4096 := ⟨r.val * 64 + c.val, by omega⟩

/-- The position of a key of its window. -/
def keyAt (r c : Fin 64) (w : Fin 8 × Fin 16) : Fin 4096 :=
  ⟨(row0 r.val + w.1.val) * 64 + (col0 c.val + w.2.val), by have := w.1.isLt; have := w.2.isLt; unfold row0 col0; omega⟩

/-- A head's column of the projection's queries, keys and values. -/
def qCol (h : Fin 16) (d : Fin 64) : Fin 4096 := ⟨h.val * 64 + d.val, by omega⟩
def kCol (h : Fin 16) (d : Fin 64) : Fin 4096 := ⟨1024 + (h.val * 64 + d.val), by omega⟩
def vCol (h : Fin 16) (d : Fin 64) : Fin 4096 := ⟨2048 + (h.val * 64 + d.val), by omega⟩

/-- The bias of a key of the window: by how many rows and columns it is from the query. -/
def biasRow (r : Fin 64) (w : Fin 8 × Fin 16) : Fin 15 := ⟨row0 r.val + w.1.val + 7 - r.val, by have := w.1.isLt; unfold row0; omega⟩
def biasCol (c : Fin 64) (w : Fin 8 × Fin 16) : Fin 31 := ⟨col0 c.val + w.2.val + 15 - c.val, by have := w.2.isLt; unfold col0; omega⟩

variable (A : Fin 8 → Fin 4096 → Fin 4096 → EReal) (B : Fin 8 → Fin 256 → Fin 4096 → EReal) (R : Fin 16 → Fin 15 → Fin 31 → EReal)

/-- The score of a key of the window. -/
def winScore (b : Fin 8) (h : Fin 16) (r c : Fin 64) (w : Fin 8 × Fin 16) : EReal :=
  (∑ d, A b (queryAt r c) (qCol h d) * A b (keyAt r c w) (kCol h d)) * eighth + R h (biasRow r w) (biasCol c w)

/-- The score of a key of the context. -/
def ctxScore (b : Fin 8) (h : Fin 16) (r c : Fin 64) (i : Fin 256) : EReal :=
  (∑ d, A b (queryAt r c) (qCol h d) * B b i (kCol h d)) * eighth

/-- Finite entries have finite scores. -/
theorem winScore_real (b : Fin 8) (h : Fin 16) (r c : Fin 64) (w : Fin 8 × Fin 16) (hq : ∀ n d, Softmax.IsReal (A b n (qCol h d))) (hk : ∀ n d, Softmax.IsReal (A b n (kCol h d)))
    (hR : ∀ i j, Softmax.IsReal (R h i j)) : Softmax.IsReal (winScore A R b h r c w) :=
  Softmax.add_real (Softmax.mul_real (Softmax.finset_sum_real _ _ fun d => Softmax.mul_real (hq _ d) (hk _ d)) ⟨_, eighth_eq⟩) (hR _ _)

theorem ctxScore_real (b : Fin 8) (h : Fin 16) (r c : Fin 64) (i : Fin 256) (hq : ∀ n d, Softmax.IsReal (A b n (qCol h d))) (hk : ∀ n d, Softmax.IsReal (B b n (kCol h d))) :
    Softmax.IsReal (ctxScore A B b h r c i) :=
  Softmax.mul_real (Softmax.finset_sum_real _ _ fun d => Softmax.mul_real (hq _ d) (hk _ d)) ⟨_, eighth_eq⟩

/-- The attention of the query at row `r` and column `c`, head `h`, component `d`. -/
def entry (b : Fin 8) (r c : Fin 64) (h : Fin 16) (d : Fin 64) : EReal :=
  Softmax.att (winScore A R b h r c) (ctxScore A B b h r c) (fun w => A b (keyAt r c w) (vCol h d)) (fun i => B b i (vCol h d))

end Cert.Attn

end
-- ==== Proof.AttnTile.lean ====
module

public import proofs.«01_k».proof.Proof.AttnPoint
public import proofs.«01_k».proof.Proof.AttnBias
public import proofs.«01_k».proof.Proof.AttnSpec

@[expose] public section

set_option maxRecDepth 16384

noncomputable section

open Idealize.ShloMosaic Idealize.ShloMosaic.TcCoe Idealize.SL.Sem

/-! # One tile's two heads, entry by entry -/

namespace Cert.AttnIdeal.Hand

open Cert.AttnIdeal Cert.AttnIdeal.Gen Cert.Attn

/-- The lane of a component of the first or the second head. -/
def lane (hh : Fin 2) (d : Fin 64) : Fin 128 := ⟨hh.val * 64 + d.val, by omega⟩

theorem lane_bits : ∀ (hh : Fin 2) (d : Fin 64), IntOp.cmpi CmpIPredicate.slt (BitVec.ofNat 32 (lane hh d).val) 64#32 = if hh = 0 then 1#1 else 0#1 := by
  decide +kernel

/-- A sum over the lanes is one over each head's. -/
theorem sum_lanes (f : Fin 128 → EReal) : ∑ x, f x = (∑ d, f (lane 0 d)) + ∑ d, f (lane 1 d) := by
  rw [show (∑ x : Fin 128, f x) = ∑ x : Fin (64 + 64), f x from rfl, Fin.sum_univ_add]
  exact congrArg₂ (· + ·) (Finset.sum_congr rfl fun d _ => congrArg f (Fin.ext (by show d.val = 0 * 64 + d.val; omega)))
    (Finset.sum_congr rfl fun d _ => congrArg f (Fin.ext (by show 64 + d.val = 1 * 64 + d.val; omega)))

/-- A head's scaled product. -/
def headDot (q k : Fin 128 → EReal) (hh : Fin 2) : EReal := (∑ d, q (lane hh d) * k (lane hh d)) * eighth

theorem scaled (q k : Fin 64 → EReal) : (∑ d, q d * Ideal.ofBits .bf16 15872#16 * k d) = (∑ d, q d * k d) * eighth := by
  have h0 : (0 : EReal) ≤ eighth := by rw [eighth_eq]; exact_mod_cast (by norm_num : (0 : ℝ) ≤ 1 / 8)
  have ht : eighth ≠ ⊤ := by rw [eighth_eq]; exact EReal.coe_ne_top _
  rw [Softmax.sum_mul_real _ _ h0 ht, eighth_bf16]
  exact Finset.sum_congr rfl fun d _ => mul_right_comm _ _ _

/-- The lanes outside a head dropped, the product over all lanes is the head's. -/
theorem lanes0 (q k : Fin 128 → EReal) :
    (∑ x : Fin 128, Scalar.select (IntOp.cmpi CmpIPredicate.slt (BitVec.ofNat 32 x.val) 64#32) (q x * Ideal.ofBits .bf16 15872#16) (0 : EReal) * k x) = headDot q k 0 := by
  rw [sum_lanes]
  simp only [lane_bits]
  rw [← add_zero (headDot q k 0)]
  refine congrArg₂ (· + ·) (scaled _ _) ?_
  exact Finset.sum_eq_zero fun d _ => by
    show (0 : EReal) * k (lane 1 d) = 0
    exact zero_mul _

theorem lanes1 (q k : Fin 128 → EReal) :
    (∑ x : Fin 128, Scalar.select (IntOp.xori (IntOp.cmpi CmpIPredicate.slt (BitVec.ofNat 32 x.val) 64#32) 1#1) (q x * Ideal.ofBits .bf16 15872#16) (0 : EReal) * k x) = headDot q k 1 := by
  rw [sum_lanes]
  simp only [lane_bits]
  rw [← zero_add (headDot q k 1)]
  refine congrArg₂ (· + ·) ?_ (scaled _ _)
  exact Finset.sum_eq_zero fun d _ => by
    show (0 : EReal) * k (lane 0 d) = 0
    exact zero_mul _

section
variable (q : Vec Ideal S1x256x128 .bf16) (k v : Vec Ideal S1x704x128 .bf16) (kc vc : Vec Ideal S1x256x128 .bf16) (t : Vec Ideal S1x1x256x704 .f32)

/-- A query's scores over the tile's window, and over the context. -/
def tS (hh : Fin 2) (i : Fin 256) (x : Fin 704) : EReal := headDot (fun l => q (ix3 0 i l)) (fun l => k (ix3 0 x l)) hh + t (ix4 0 0 i x)
def tU (hh : Fin 2) (i n : Fin 256) : EReal := headDot (fun l => q (ix3 0 i l)) (fun l => kc (ix3 0 n l)) hh

theorem pay10_apply (i : Fin 256) (x : Fin 704) : (k0_pay10 k0_pay1 q k t : FVec Ideal S256x704 .f32) (ix2 i x) = tS q k t 0 i x := by
  unfold tS
  rw [← lanes0]
  unfold k0_pay10 k0_pay9 k0_pay6 k0_pay7 k0_pay1
  pointwise

theorem pay11_apply (i n : Fin 256) : (k0_pay11 k0_pay1 (k0_pay3 kc) q : FVec Ideal S256x256 .f32) (ix2 i n) = tU q kc 0 i n := by
  unfold tU
  rw [← lanes0]
  unfold k0_pay11 k0_pay9 k0_pay6 k0_pay3 k0_pay1
  pointwise

theorem pay12_apply (i : Fin 256) : (k0_pay12 k0_pay1 q k t : FVec Ideal S256 .f32) (ix1 i) = Softmax.top (tS q k t 0 i) := by
  unfold k0_pay12
  pointwise [pay10_apply]
  rw [negInf_f32]

theorem pay15_apply (i : Fin 256) (x : Fin 704) : (k0_pay15 k0_pay2 (k0_pay6 q) (k0_pay7 k) t : FVec Ideal S256x704 .f32) (ix2 i x) = tS q k t 1 i x := by
  unfold tS
  rw [← lanes1]
  unfold k0_pay15 k0_pay14 k0_pay6 k0_pay7 k0_pay2 k0_pay1
  pointwise

theorem pay16_apply (i n : Fin 256) : (k0_pay16 k0_pay2 (k0_pay3 kc) (k0_pay6 q) : FVec Ideal S256x256 .f32) (ix2 i n) = tU q kc 1 i n := by
  unfold tU
  rw [← lanes1]
  unfold k0_pay16 k0_pay14 k0_pay6 k0_pay3 k0_pay2 k0_pay1
  pointwise

theorem pay17_apply (i : Fin 256) : (k0_pay17 k0_pay2 (k0_pay3 kc) (k0_pay6 q) (k0_pay7 k) t : FVec Ideal S256x1 .f32) (ix2 i 0)
    = max (Softmax.top (tS q k t 1 i)) (Softmax.top (tU q kc 1 i)) := by
  unfold k0_pay17
  pointwise [pay15_apply, pay16_apply]
  rw [negInf_f32]

theorem pay18_apply (i : Fin 256) (x : Fin 704) : (k0_pay18 k0_pay2 (k0_pay3 kc) (k0_pay6 q) (k0_pay7 k) t : FVec Ideal S256x704 .f32) (ix2 i x)
    = Ideal.exp (tS q k t 1 i x - max (Softmax.top (tS q k t 1 i)) (Softmax.top (tU q kc 1 i))) := by
  unfold k0_pay18
  pointwise [pay15_apply, pay17_apply]

theorem pay13_apply (i : Fin 256) (l : Fin 128) :
    (k0_pay13 (k0_pay4 vc) (k0_pay8 v) (k0_pay10 k0_pay1 q k t) (k0_pay11 k0_pay1 (k0_pay3 kc) q) (k0_pay12 k0_pay1 q k t) : FVec Ideal S256x128 .f32) (ix2 i l)
      = Softmax.ratio (tS q k t 0 i) (tU q kc 0 i) (fun x => v (ix3 0 x l)) (fun n => vc (ix3 0 n l)) := by
  unfold k0_pay13 k0_pay4 k0_pay8
  pointwise [pay10_apply, pay11_apply, pay12_apply]
  rw [negInf_f32]
  rfl

theorem pay8_apply (x : Fin 704) (l : Fin 128) : (k0_pay8 v : FVec Ideal S704x128 .bf16) (ix2 x l) = v (ix3 0 x l) := by
  unfold k0_pay8
  pointwise

theorem pay4_apply (n : Fin 256) (l : Fin 128) : (k0_pay4 vc : FVec Ideal S256x128 .bf16) (ix2 n l) = vc (ix3 0 n l) := by
  unfold k0_pay4
  pointwise

theorem pay1_apply (hh : Fin 2) (d : Fin 64) : k0_pay1 (ix2 0 (lane hh d)) = if hh = 0 then 1#1 else 0#1 := by
  unfold k0_pay1
  pointwise
  exact lane_bits hh d

/-- What a trip stores, at an entry: the head's attention with the division after the sums. -/
theorem tileOut_apply (t0 t1 : Vec Ideal S1x1x256x704 .f32) (i : Fin 256) (hh : Fin 2) (d : Fin 64) :
    tileOut q k v kc vc t0 t1 (ix3 0 i (lane hh d))
      = Softmax.ratio (tS q k (if hh = 0 then t0 else t1) hh i) (tU q kc hh i) (fun x => v (ix3 0 x (lane hh d))) (fun n => vc (ix3 0 n (lane hh d))) := by
  unfold tileOut k0_pay5
  pointwise [pay16_apply, pay17_apply, pay18_apply, pay13_apply, pay8_apply, pay4_apply, pay1_apply]
  match hh with
  | 0 => rfl
  | 1 => rfl

end

end Cert.AttnIdeal.Hand

end
-- ==== Proof.AttnTrip.lean ====
module

public import proofs.«01_k».proof.Proof.AttnTile

@[expose] public section

set_option maxRecDepth 16384

noncomputable section

open Idealize.ShloMosaic Idealize.ShloMosaic.TcCoe Idealize.SL.Sem

/-! # A trip's tile is the attention of its queries -/

namespace Cert.AttnIdeal.Hand

open Cert.AttnIdeal Cert.AttnIdeal.Gen Cert.Attn

theorem off2_eq : ∀ k, k0_off2 k = ![0, 64 * kRow0 k.val, 0] := by decide +kernel

theorem trip_lt (k : Fin k0_t1_loop.trips) : k.val < 16 := lt_of_lt_of_eq k.isLt trips_eq

/-- The query's row. -/
def qRow (k : Fin k0_t1_loop.trips) (qr : Fin 4) : Fin 64 := ⟨4 * k.val + qr.val, by have := trip_lt k; omega⟩

/-- A tile's rows read from the blocks. -/
theorem ld1 (x : Vec Ideal S1x4096x128 .bf16) (k : Fin k0_t1_loop.trips) (i : Fin 256) (l : Fin 128) (n : Fin 4096) (hn : n.val = 256 * k.val + i.val) :
    View.ld x (rows1 k) (ix3 0 i l) = x (ix3 0 n l) := by
  show x ((rows1 k).emb (ix3 0 i l)) = _
  refine congrArg x (funext fun a => Fin.ext ?_)
  rw [Rect.emb_apply]
  match a with
  | ⟨0, _⟩ => show k0_off1 k 0 + 1 * 0 = 0; rw [k0_off1_eq k]; rfl
  | ⟨1, _⟩ => show k0_off1 k 1 + 1 * i.val = n.val; rw [k0_off1_eq k]; show 256 * k.val + 1 * i.val = n.val; omega
  | ⟨2, _⟩ => show k0_off1 k 2 + 1 * l.val = l.val; rw [k0_off1_eq k]; show 0 + 1 * l.val = l.val; omega

theorem ld2 (x : Vec Ideal S1x4096x128 .bf16) (k : Fin k0_t1_loop.trips) (i : Fin 704) (l : Fin 128) (n : Fin 4096) (hn : n.val = 64 * kRow0 k.val + i.val) :
    View.ld x (rows2 k) (ix3 0 i l) = x (ix3 0 n l) := by
  show x ((rows2 k).emb (ix3 0 i l)) = _
  refine congrArg x (funext fun a => Fin.ext ?_)
  rw [Rect.emb_apply]
  match a with
  | ⟨0, _⟩ => show k0_off2 k 0 + 1 * 0 = 0; rw [off2_eq k]; rfl
  | ⟨1, _⟩ => show k0_off2 k 1 + 1 * i.val = n.val; rw [off2_eq k]; show 64 * kRow0 k.val + 1 * i.val = n.val; omega
  | ⟨2, _⟩ => show k0_off2 k 2 + 1 * l.val = l.val; rw [off2_eq k]; show 0 + 1 * l.val = l.val; omega

/-- The pattern of a trip's tile. -/
def patOf (k : Fin k0_t1_loop.trips) : Fin 3 := tilePat ⟨k.val, trip_lt k⟩

theorem off3_pat : ∀ k, k0_off3 k = ![(patOf k).val, 0, 0, 0] := by decide +kernel
theorem off4_pat : ∀ k, k0_off4 k = ![(patOf k).val, 1, 0, 0] := by decide +kernel

theorem ld3 (x : Vec Ideal S3x2x256x704 .f32) (k : Fin k0_t1_loop.trips) (i : Fin 256) (j : Fin 704) :
    View.ld x (rows3 k) (ix4 0 0 i j) = x (ix4 (patOf k) 0 i j) := by
  show x ((rows3 k).emb (ix4 0 0 i j)) = _
  refine congrArg x (funext fun a => Fin.ext ?_)
  rw [Rect.emb_apply]
  match a with
  | ⟨0, _⟩ => show k0_off3 k 0 + 1 * 0 = (patOf k).val; rw [off3_pat k]; rfl
  | ⟨1, _⟩ => show k0_off3 k 1 + 1 * 0 = 0; rw [off3_pat k]; rfl
  | ⟨2, _⟩ => show k0_off3 k 2 + 1 * i.val = i.val; rw [off3_pat k]; show 0 + 1 * i.val = i.val; omega
  | ⟨3, _⟩ => show k0_off3 k 3 + 1 * j.val = j.val; rw [off3_pat k]; show 0 + 1 * j.val = j.val; omega

theorem ld4 (x : Vec Ideal S3x2x256x704 .f32) (k : Fin k0_t1_loop.trips) (i : Fin 256) (j : Fin 704) :
    View.ld x (rows4 k) (ix4 0 0 i j) = x (ix4 (patOf k) 1 i j) := by
  show x ((rows4 k).emb (ix4 0 0 i j)) = _
  refine congrArg x (funext fun a => Fin.ext ?_)
  rw [Rect.emb_apply]
  match a with
  | ⟨0, _⟩ => show k0_off4 k 0 + 1 * 0 = (patOf k).val; rw [off4_pat k]; rfl
  | ⟨1, _⟩ => show k0_off4 k 1 + 1 * 0 = 1; rw [off4_pat k]; rfl
  | ⟨2, _⟩ => show k0_off4 k 2 + 1 * i.val = i.val; rw [off4_pat k]; show 0 + 1 * i.val = i.val; omega
  | ⟨3, _⟩ => show k0_off4 k 3 + 1 * j.val = j.val; rw [off4_pat k]; show 0 + 1 * j.val = j.val; omega

/-- A key row of a query's window is among the tile's block of 11 rows. -/
theorem rows_in : ∀ (k : Fin k0_t1_loop.trips) (qr : Fin 4) (a : Fin 8), kRow0 k.val ≤ row0 (4 * k.val + qr.val) + a.val ∧ row0 (4 * k.val + qr.val) + a.val < kRow0 k.val + 11 := by
  decide +kernel

/-- Where a key of a query's window is in the tile's block. -/
def winAt (k : Fin k0_t1_loop.trips) (qr : Fin 4) (c : Fin 64) (w : Fin 8 × Fin 16) : Fin 704 :=
  ⟨64 * (row0 (4 * k.val + qr.val) + w.1.val - kRow0 k.val) + (col0 c.val + w.2.val), by
    have h := rows_in k qr w.1
    have := w.2.isLt
    unfold col0
    omega⟩

theorem winAt_inj (k : Fin k0_t1_loop.trips) (qr : Fin 4) (c : Fin 64) : Function.Injective (winAt k qr c) := fun w w' e => by
  have e := congrArg Fin.val e
  unfold winAt at e
  dsimp only at e
  have h := rows_in k qr w.1
  have h' := rows_in k qr w'.1
  have h1 := w.2.isLt
  have h1' := w'.2.isLt
  have hc : col0 c.val ≤ 48 := by unfold col0; omega
  exact Prod.ext (Fin.ext (by omega)) (Fin.ext (by omega))

/-- The window's bias at a key of the window. -/
theorem table_in (R : Vec Ideal S16x15x31 .f32) (k : Fin k0_t1_loop.trips) (h : Fin 16) (qr : Fin 4) (c : Fin 64) (i : Fin 256) (hi : i.val = 64 * qr.val + c.val) (w : Fin 8 × Fin 16) :
    table R (ix4 (patOf k) h i (winAt k qr c w)) = R (ix3 h (biasRow (qRow k qr) w) (biasCol c w)) := by
  have hr := rows_in k qr w.1
  have h1 := w.2.isLt
  have h0 := w.1.isLt
  have hc : col0 c.val ≤ 48 := by unfold col0; omega
  rw [show table R (ix4 (patOf k) h i (winAt k qr c w)) = _ from
    table_apply R ⟨k.val, trip_lt k⟩ h qr c ⟨row0 (4 * k.val + qr.val) + w.1.val - kRow0 k.val, by omega⟩ ⟨col0 c.val + w.2.val, by omega⟩ i _ hi rfl]
  have hs : slabNo k.val qr.val (row0 (4 * k.val + qr.val) + w.1.val - kRow0 k.val) = row0 (4 * k.val + qr.val) + w.1.val + 7 - (4 * k.val + qr.val) := by
    unfold slabNo
    have e : wRow0 (4 * k.val + qr.val) = row0 (4 * k.val + qr.val) := rfl
    rw [e, if_pos (by omega)]
    omega
  have hl : row0 (4 * k.val + qr.val) + w.1.val + 7 - (4 * k.val + qr.val) < 15 := (biasRow (qRow k qr) w).isLt
  rw [tSlab_in R h _ c _ (by show slabNo _ _ _ < 15; rw [hs]; exact hl) (show ColIn c _ from ⟨by show col0 c.val ≤ col0 c.val + w.2.val; omega, by show col0 c.val + w.2.val < col0 c.val + 16; omega⟩)]
  exact congrArg₂ (fun x y => R (ix3 h x y)) (Fin.ext hs) rfl

/-- Elsewhere it is −∞. -/
theorem table_out (R : Vec Ideal S16x15x31 .f32) (k : Fin k0_t1_loop.trips) (h : Fin 16) (qr : Fin 4) (c : Fin 64) (i : Fin 256) (hi : i.val = 64 * qr.val + c.val) (j : Fin 704)
    (hj : j ∉ Set.range (winAt k qr c)) : table R (ix4 (patOf k) h i j) = (⊥ : EReal) := by
  rw [show table R (ix4 (patOf k) h i j) = _ from
    table_apply R ⟨k.val, trip_lt k⟩ h qr c ⟨j.val / 64, by omega⟩ ⟨j.val % 64, by omega⟩ i j hi (by show j.val = 64 * (j.val / 64) + j.val % 64; omega)]
  refine tSlab_out R h _ c _ fun hh => hj ?_
  obtain ⟨h15, hlo, hhi⟩ := hh
  replace hlo : col0 c.val ≤ j.val % 64 := hlo
  replace hhi : j.val % 64 < col0 c.val + 16 := hhi
  replace h15 : slabNo k.val qr.val (j.val / 64) < 15 := h15
  have e : wRow0 (4 * k.val + qr.val) = row0 (4 * k.val + qr.val) := rfl
  unfold slabNo at h15
  rw [e] at h15
  by_cases hin : row0 (4 * k.val + qr.val) ≤ kRow0 k.val + j.val / 64 ∧ kRow0 k.val + j.val / 64 < row0 (4 * k.val + qr.val) + 8
  · refine ⟨(⟨kRow0 k.val + j.val / 64 - row0 (4 * k.val + qr.val), by omega⟩, ⟨j.val % 64 - col0 c.val, by omega⟩), Fin.ext ?_⟩
    show 64 * (row0 (4 * k.val + qr.val) + (kRow0 k.val + j.val / 64 - row0 (4 * k.val + qr.val)) - kRow0 k.val) + (col0 c.val + (j.val % 64 - col0 c.val)) = j.val
    omega
  · rw [if_neg hin] at h15
    exact absurd h15 (by decide)

section
variable (A : Fin 8 → Fin 4096 → Fin 4096 → EReal) (B : Fin 8 → Fin 256 → Fin 4096 → EReal) (R : Vec Ideal S16x15x31 .f32)

/-- From blocks holding a head's queries, keys, values and biases, finite but for the values, a trip stores the attention. -/
theorem trip_entry (b : Fin 8) (h : Fin 16) (hh : Fin 2) (x0 x1 x2 : Vec Ideal S1x4096x128 .bf16) (x3 x4 : Vec Ideal S1x256x128 .bf16) (x5 : Vec Ideal S3x2x256x704 .f32)
    (e0 : ∀ n d, x0 (ix3 0 n (lane hh d)) = A b n (qCol h d)) (e1 : ∀ n d, x1 (ix3 0 n (lane hh d)) = A b n (kCol h d)) (e2 : ∀ n d, x2 (ix3 0 n (lane hh d)) = A b n (vCol h d))
    (e3 : ∀ n d, x3 (ix3 0 n (lane hh d)) = B b n (kCol h d)) (e4 : ∀ n d, x4 (ix3 0 n (lane hh d)) = B b n (vCol h d))
    (e5 : ∀ z i j, x5 (ix4 z hh i j) = table R (ix4 z h i j))
    (hq : ∀ n d, Softmax.IsReal (A b n (qCol h d))) (hk : ∀ n d, Softmax.IsReal (A b n (kCol h d))) (hc : ∀ n d, Softmax.IsReal (B b n (kCol h d)))
    (hR : ∀ i j, Softmax.IsReal (R (ix3 h i j))) (k : Fin k0_t1_loop.trips) (qr : Fin 4) (c : Fin 64) (i : Fin 256) (hi : i.val = 64 * qr.val + c.val) (d : Fin 64) :
    tripOut x0 x1 x2 x3 x4 x5 k (ix3 0 i (lane hh d)) = entry A B (fun h i j => R (ix3 h i j)) b (qRow k qr) c h d := by
  have hkt := trip_lt k
  have hq0 : ∀ d, View.ld x0 (rows1 k) (ix3 0 i (lane hh d)) = A b (queryAt (qRow k qr) c) (qCol h d) := fun d => by
    rw [ld1 x0 k i (lane hh d) (queryAt (qRow k qr) c) (by show (4 * k.val + qr.val) * 64 + c.val = 256 * k.val + i.val; omega)]
    exact e0 _ d
  have key : ∀ w, (keyAt (qRow k qr) c w).val = 64 * kRow0 k.val + (winAt k qr c w).val := fun w => by
    have hr := rows_in k qr w.1
    show (row0 (4 * k.val + qr.val) + w.1.val) * 64 + (col0 c.val + w.2.val) = 64 * kRow0 k.val + (64 * (row0 (4 * k.val + qr.val) + w.1.val - kRow0 k.val) + (col0 c.val + w.2.val))
    omega
  have ht : ∀ j, (if hh = 0 then View.ld x5 (rows3 k) else View.ld x5 (rows4 k)) (ix4 0 0 i j) = table R (ix4 (patOf k) h i j) := fun j => by
    match hh, e5 with
    | 0, e5 => exact (ld3 x5 k i j).trans (e5 _ _ _)
    | 1, e5 => exact (ld4 x5 k i j).trans (e5 _ _ _)
  have hu : tU (View.ld x0 (rows1 k)) x3 hh i = ctxScore A B b h (qRow k qr) c := funext fun n => by
    unfold tU headDot ctxScore
    simp only [hq0, e3]
  have hs : ∀ w, tS (View.ld x0 (rows1 k)) (View.ld x1 (rows2 k)) (if hh = 0 then View.ld x5 (rows3 k) else View.ld x5 (rows4 k)) hh i (winAt k qr c w)
      = winScore A (fun h i j => R (ix3 h i j)) b h (qRow k qr) c w := fun w => by
    unfold tS headDot winScore
    rw [ht, table_in R k h qr c i hi w]
    simp only [hq0, ld2 x1 k _ _ _ (key w), e1]
  unfold tripOut
  rw [tileOut_apply, hu, Softmax.att_of_masked (winAt k qr c) (winAt_inj k qr c) _ _ _ _
    (fun j hj => by unfold tS; rw [ht, table_out R k h qr c i hi j hj]; exact EReal.add_bot _)
    (fun w => by rw [hs w]; exact winScore_real A _ b h _ _ w hq hk hR) (fun n => ctxScore_real A B b h _ _ n hq hc)]
  unfold entry
  simp only [hs, ld2 x2 k _ _ _ (key _), e2, e4]

end

end Cert.AttnIdeal.Hand

end
-- ==== Proof.AttnBlocks.lean ====
module

public import proofs.«01_k».proof.Proof.AttnTrip

@[expose] public section

set_option maxRecDepth 16384

noncomputable section

open Idealize.ShloMosaic Idealize.ShloMosaic.TcCoe Idealize.SL.Sem

/-! # The neighbourhood attention: what each window's block holds at a grid point -/

namespace Cert.AttnIdeal.Hand

open Cert.AttnIdeal Cert.AttnIdeal.Gen Cert.AttnIdeal.Value Cert.Attn

variable (m : (ℓ : Loc nD τ sig) → Buf (Elt Ideal) ℓ)

/-- The launched projection of the tokens, and of the context. -/
abbrev pA (c : Dev nD) : Vec Ideal S8x4096x4096 .bf16 := m ((c : Thread nD τ).loc main_arg0)
abbrev cA (c : Dev nD) : Vec Ideal S8x256x4096 .bf16 := m ((c : Thread nD τ).loc main_arg1)

/-- Where each window stands at a point. -/
theorem idx_facts : ∀ t : Fin cfg0.N, (win0_0.index t (0 : Fin 3) = t.val % 8 ∧ win0_0.index t (1 : Fin 3) = 0 ∧ win0_0.index t (2 : Fin 3) = t.val / 8)
    ∧ (win0_1.index t (0 : Fin 3) = t.val % 8 ∧ win0_1.index t (1 : Fin 3) = 0 ∧ win0_1.index t (2 : Fin 3) = 8 + t.val / 8)
    ∧ (win0_2.index t (0 : Fin 3) = t.val % 8 ∧ win0_2.index t (1 : Fin 3) = 0 ∧ win0_2.index t (2 : Fin 3) = 16 + t.val / 8)
    ∧ (win0_3.index t (0 : Fin 3) = t.val % 8 ∧ win0_3.index t (1 : Fin 3) = 0 ∧ win0_3.index t (2 : Fin 3) = 8 + t.val / 8)
    ∧ (win0_4.index t (0 : Fin 3) = t.val % 8 ∧ win0_4.index t (1 : Fin 3) = 0 ∧ win0_4.index t (2 : Fin 3) = 16 + t.val / 8)
    ∧ (win0_5.index t (0 : Fin 4) = 0 ∧ win0_5.index t (1 : Fin 4) = t.val / 8 ∧ win0_5.index t (2 : Fin 4) = 0 ∧ win0_5.index t (3 : Fin 4) = 0)
    ∧ (win0_6.index t (0 : Fin 3) = t.val % 8 ∧ win0_6.index t (1 : Fin 3) = 0 ∧ win0_6.index t (2 : Fin 3) = t.val / 8) :=
  (by decide +kernel : ∀ t : Fin grid0.N, _)

theorem t_lt (t : Fin cfg0.N) : t.val < 64 := lt_of_lt_of_eq t.isLt N_0

/-- The point's batch entry, and the head of its pair. -/
def batchOf (t : Fin cfg0.N) : Fin 8 := ⟨t.val % 8, Nat.mod_lt _ (by decide)⟩
def headOf (t : Fin cfg0.N) (hh : Fin 2) : Fin 16 := ⟨2 * (t.val / 8) + hh.val, by have := t_lt t; omega⟩

theorem blk0 (c : Dev nD) (t : Fin cfg0.N) (hh : Fin 2) (n : Fin 4096) (d : Fin 64) :
    (iblk m c 0 t : Vec Ideal S1x4096x128 .bf16) (ix3 0 n (lane hh d)) = pA m c (ix3 (batchOf t) n (qCol (headOf t hh) d)) := by
  obtain ⟨⟨h0, h1, h2⟩, -⟩ := idx_facts t
  show V m c main_arg0 (((cfg0.win 0).blk t).view.emb (ix3 0 n (lane hh d))) = _
  rw [V_main_arg0]
  refine congrArg (pA m c) (funext fun a => Fin.ext ?_)
  match a with
  | ⟨0, _⟩ => show win0_0.index t (0 : Fin 3) * 1 + 1 * 0 = t.val % 8; rw [h0]; omega
  | ⟨1, _⟩ => show win0_0.index t (1 : Fin 3) * 4096 + 1 * n.val = n.val; rw [h1]; omega
  | ⟨2, _⟩ => show win0_0.index t (2 : Fin 3) * 128 + 1 * (hh.val * 64 + d.val) = (2 * (t.val / 8) + hh.val) * 64 + d.val; rw [h2]; omega

theorem blk1 (c : Dev nD) (t : Fin cfg0.N) (hh : Fin 2) (n : Fin 4096) (d : Fin 64) :
    (iblk m c 1 t : Vec Ideal S1x4096x128 .bf16) (ix3 0 n (lane hh d)) = pA m c (ix3 (batchOf t) n (kCol (headOf t hh) d)) := by
  obtain ⟨-, ⟨h0, h1, h2⟩, -⟩ := idx_facts t
  show V m c main_arg0 (((cfg0.win 1).blk t).view.emb (ix3 0 n (lane hh d))) = _
  rw [V_main_arg0]
  refine congrArg (pA m c) (funext fun a => Fin.ext ?_)
  match a with
  | ⟨0, _⟩ => show win0_1.index t (0 : Fin 3) * 1 + 1 * 0 = t.val % 8; rw [h0]; omega
  | ⟨1, _⟩ => show win0_1.index t (1 : Fin 3) * 4096 + 1 * n.val = n.val; rw [h1]; omega
  | ⟨2, _⟩ => show win0_1.index t (2 : Fin 3) * 128 + 1 * (hh.val * 64 + d.val) = 1024 + ((2 * (t.val / 8) + hh.val) * 64 + d.val); rw [h2]; omega

theorem blk2 (c : Dev nD) (t : Fin cfg0.N) (hh : Fin 2) (n : Fin 4096) (d : Fin 64) :
    (iblk m c 2 t : Vec Ideal S1x4096x128 .bf16) (ix3 0 n (lane hh d)) = pA m c (ix3 (batchOf t) n (vCol (headOf t hh) d)) := by
  obtain ⟨-, -, ⟨h0, h1, h2⟩, -⟩ := idx_facts t
  show V m c main_arg0 (((cfg0.win 2).blk t).view.emb (ix3 0 n (lane hh d))) = _
  rw [V_main_arg0]
  refine congrArg (pA m c) (funext fun a => Fin.ext ?_)
  match a with
  | ⟨0, _⟩ => show win0_2.index t (0 : Fin 3) * 1 + 1 * 0 = t.val % 8; rw [h0]; omega
  | ⟨1, _⟩ => show win0_2.index t (1 : Fin 3) * 4096 + 1 * n.val = n.val; rw [h1]; omega
  | ⟨2, _⟩ => show win0_2.index t (2 : Fin 3) * 128 + 1 * (hh.val * 64 + d.val) = 2048 + ((2 * (t.val / 8) + hh.val) * 64 + d.val); rw [h2]; omega

theorem blk3 (c : Dev nD) (t : Fin cfg0.N) (hh : Fin 2) (n : Fin 256) (d : Fin 64) :
    (iblk m c 3 t : Vec Ideal S1x256x128 .bf16) (ix3 0 n (lane hh d)) = cA m c (ix3 (batchOf t) n (kCol (headOf t hh) d)) := by
  obtain ⟨-, -, -, ⟨h0, h1, h2⟩, -⟩ := idx_facts t
  show V m c main_arg1 (((cfg0.win 3).blk t).view.emb (ix3 0 n (lane hh d))) = _
  rw [V_main_arg1]
  refine congrArg (cA m c) (funext fun a => Fin.ext ?_)
  match a with
  | ⟨0, _⟩ => show win0_3.index t (0 : Fin 3) * 1 + 1 * 0 = t.val % 8; rw [h0]; omega
  | ⟨1, _⟩ => show win0_3.index t (1 : Fin 3) * 256 + 1 * n.val = n.val; rw [h1]; omega
  | ⟨2, _⟩ => show win0_3.index t (2 : Fin 3) * 128 + 1 * (hh.val * 64 + d.val) = 1024 + ((2 * (t.val / 8) + hh.val) * 64 + d.val); rw [h2]; omega

theorem blk4 (c : Dev nD) (t : Fin cfg0.N) (hh : Fin 2) (n : Fin 256) (d : Fin 64) :
    (iblk m c 4 t : Vec Ideal S1x256x128 .bf16) (ix3 0 n (lane hh d)) = cA m c (ix3 (batchOf t) n (vCol (headOf t hh) d)) := by
  obtain ⟨-, -, -, -, ⟨h0, h1, h2⟩, -⟩ := idx_facts t
  show V m c main_arg1 (((cfg0.win 4).blk t).view.emb (ix3 0 n (lane hh d))) = _
  rw [V_main_arg1]
  refine congrArg (cA m c) (funext fun a => Fin.ext ?_)
  match a with
  | ⟨0, _⟩ => show win0_4.index t (0 : Fin 3) * 1 + 1 * 0 = t.val % 8; rw [h0]; omega
  | ⟨1, _⟩ => show win0_4.index t (1 : Fin 3) * 256 + 1 * n.val = n.val; rw [h1]; omega
  | ⟨2, _⟩ => show win0_4.index t (2 : Fin 3) * 128 + 1 * (hh.val * 64 + d.val) = 2048 + ((2 * (t.val / 8) + hh.val) * 64 + d.val); rw [h2]; omega

/-- The bias table's block. -/
theorem blk5 (c : Dev nD) (t : Fin cfg0.N) (hh : Fin 2) (z : Fin 3) (i : Fin 256) (j : Fin 704) :
    (iblk m c 5 t : Vec Ideal S3x2x256x704 .f32) (ix4 z hh i j) = table (rA m c) (ix4 z (headOf t hh) i j) := by
  obtain ⟨-, -, -, -, -, ⟨h0, h1, h2, h3⟩, -⟩ := idx_facts t
  show V m c main_v41 (((cfg0.win 5).blk t).view.emb (ix4 z hh i j)) = _
  rw [V_table]
  refine congrArg (table (rA m c)) (funext fun a => Fin.ext ?_)
  match a with
  | ⟨0, _⟩ => show win0_5.index t (0 : Fin 4) * 3 + 1 * z.val = z.val; rw [h0]; omega
  | ⟨1, _⟩ => show win0_5.index t (1 : Fin 4) * 2 + 1 * hh.val = 2 * (t.val / 8) + hh.val; rw [h1]; omega
  | ⟨2, _⟩ => show win0_5.index t (2 : Fin 4) * 256 + 1 * i.val = i.val; rw [h2]; omega
  | ⟨3, _⟩ => show win0_5.index t (3 : Fin 4) * 704 + 1 * j.val = j.val; rw [h3]; omega

/-- Where the point's output block is in the result. -/
theorem emb6 (t : Fin cfg0.N) (n : Fin 4096) (l : Fin 128) (C : Fin 1024) (hC : C.val = t.val / 8 * 128 + l.val) :
    ((cfg0.win 6).blk t).view.emb (ix3 0 n l) = (ix3 (batchOf t) n C : S8x4096x1024.Idx) := by
  obtain ⟨-, -, -, -, -, -, ⟨h0, h1, h2⟩⟩ := idx_facts t
  refine funext fun a => Fin.ext ?_
  match a with
  | ⟨0, _⟩ => show win0_6.index t (0 : Fin 3) * 1 + 1 * 0 = t.val % 8; rw [h0]; omega
  | ⟨1, _⟩ => show win0_6.index t (1 : Fin 3) * 4096 + 1 * n.val = n.val; rw [h1]; omega
  | ⟨2, _⟩ => show win0_6.index t (2 : Fin 3) * 128 + 1 * l.val = C.val; rw [h2, hC]; omega

end Cert.AttnIdeal.Hand

end
-- ==== Proof.AttnValue.lean ====
module

public import proofs.«01_k».proof.Proof.AttnBlocks

@[expose] public section

set_option maxRecDepth 16384

noncomputable section

open Idealize.ShloMosaic Idealize.ShloMosaic.TcCoe Idealize.SL.Sem

/-! # The neighbourhood attention: what the kernel's result array holds, index by index -/

namespace Cert.AttnIdeal.Hand

open Cert.AttnIdeal Cert.AttnIdeal.Gen Cert.AttnIdeal.Value Cert.Attn

variable (m : (ℓ : Loc nD τ sig) → Buf (Elt Ideal) ℓ)

/-- The scores' operands are finite: queries and keys, the context's keys, the biases. -/
def ScoresReal (c : Dev nD) : Prop :=
  (∀ b n h d, Softmax.IsReal (pA m c (ix3 b n (qCol h d)))) ∧ (∀ b n h d, Softmax.IsReal (pA m c (ix3 b n (kCol h d))))
    ∧ (∀ b n h d, Softmax.IsReal (cA m c (ix3 b n (kCol h d)))) ∧ ∀ h i j, Softmax.IsReal (rA m c (ix3 h i j))

/-- A result's entry. -/
abbrev outE (c : Dev nD) (b : Fin 8) (r k : Fin 64) (h : Fin 16) (d : Fin 64) : EReal :=
  entry (fun b n l => pA m c (ix3 b n l)) (fun b n l => cA m c (ix3 b n l)) (fun h i j => rA m c (ix3 h i j)) b r k h d

/-- The result, as an array. -/
def G (c : Dev nD) : Vec Ideal S8x4096x1024 .bf16 := fun y =>
  outE m c (y 0) ⟨(y 1).val / 64, by have h : (y 1).val < 4096 := (y 1).isLt; omega⟩ ⟨(y 1).val % 64, Nat.mod_lt _ (by decide)⟩
    ⟨(y 2).val / 64, by have h : (y 2).val < 1024 := (y 2).isLt; omega⟩ ⟨(y 2).val % 64, Nat.mod_lt _ (by decide)⟩

theorem G_apply (c : Dev nD) (b : Fin 8) (r k : Fin 64) (h : Fin 16) (d : Fin 64) (n : Fin 4096) (C : Fin 1024) (hn : n.val = r.val * 64 + k.val) (hC : C.val = h.val * 64 + d.val) :
    G m c (ix3 b n C) = outE m c b r k h d := by
  have e1 : (⟨n.val / 64, by omega⟩ : Fin 64) = r := Fin.ext (by show n.val / 64 = r.val; omega)
  have e2 : (⟨n.val % 64, by omega⟩ : Fin 64) = k := Fin.ext (by show n.val % 64 = k.val; omega)
  have e3 : (⟨C.val / 64, by omega⟩ : Fin 16) = h := Fin.ext (by show C.val / 64 = h.val; omega)
  have e4 : (⟨C.val % 64, by omega⟩ : Fin 64) = d := Fin.ext (by show C.val % 64 = d.val; omega)
  show outE m c b ⟨n.val / 64, _⟩ ⟨n.val % 64, _⟩ ⟨C.val / 64, _⟩ ⟨C.val % 64, _⟩ = _
  rw [e1, e2, e3, e4]

/-- What a point leaves in its output block. -/
theorem outs_apply (c : Dev nD) (hf : ScoresReal m c) (t : Fin cfg0.N) (r k : Fin 64) (hh : Fin 2) (d : Fin 64) (n : Fin 4096) (hn : n.val = r.val * 64 + k.val) :
    (outsAt0 m c t : Vec Ideal S1x4096x128 .bf16) (ix3 0 n (lane hh d)) = outE m c (batchOf t) r k (headOf t hh) d := by
  obtain ⟨hq, hk, hc, hR⟩ := hf
  rw [out_eq]
  show tripOut _ _ _ _ _ _ ⟨n.val / 256, _⟩ (ix3 0 (⟨n.val % 256, _⟩ : Fin 256) (lane hh d)) = _
  have hk0 : n.val / 256 < k0_t1_loop.trips := by rw [trips_eq]; omega
  rw [trip_entry (fun b n l => pA m c (ix3 b n l)) (fun b n l => cA m c (ix3 b n l)) (rA m c) (batchOf t) (headOf t hh) hh _ _ _ _ _ _
    (fun n d => blk0 m c t hh n d) (fun n d => blk1 m c t hh n d) (fun n d => blk2 m c t hh n d) (fun n d => blk3 m c t hh n d) (fun n d => blk4 m c t hh n d) (fun z i j => blk5 m c t hh z i j)
    (fun n d => hq _ n _ d) (fun n d => hk _ n _ d) (fun n d => hc _ n _ d) (fun i j => hR _ i j) ⟨n.val / 256, hk0⟩ ⟨n.val % 256 / 64, by omega⟩ k ⟨n.val % 256, by omega⟩
    (by show n.val % 256 = 64 * (n.val % 256 / 64) + k.val; omega) d]
  have e : qRow ⟨n.val / 256, hk0⟩ ⟨n.val % 256 / 64, by omega⟩ = r := Fin.ext (by show 4 * (n.val / 256) + n.val % 256 / 64 = r.val; omega)
  rw [e]

/-- The result array after the run. -/
theorem final6 (c : Dev nD) (hf : ScoresReal m c) : (dats m 0 c).arrAt 6 cfg0.N = G m c := by
  refine (dats m 0 c).arrAt_eq_of_cover 6 (G m c) (fun t _ => ?_) (fun y => ?_)
  · rw [flushed6]
    funext y
    show (outsAt0 m c t : Vec Ideal S1x4096x128 .bf16) y = G m c (((cfg0.win 6).blk t).view.emb y)
    have ht := t_lt t
    have hy0 : (y 0).val < 1 := (y 0).isLt
    have hy1 : (y 1).val < 4096 := (y 1).isLt
    have hy2 : (y 2).val < 128 := (y 2).isLt
    have ey : y = ix3 0 ⟨(y 1).val, hy1⟩ (lane ⟨(y 2).val / 64, by omega⟩ ⟨(y 2).val % 64, by omega⟩) := funext fun a => Fin.ext (by
      match a with
      | ⟨0, _⟩ => show (y 0).val = 0; omega
      | ⟨1, _⟩ => rfl
      | ⟨2, _⟩ => show (y 2).val = (y 2).val / 64 * 64 + (y 2).val % 64; omega)
    generalize (⟨(y 1).val, hy1⟩ : Fin 4096) = n at ey
    generalize (⟨(y 2).val / 64, by omega⟩ : Fin 2) = hh at ey
    generalize (⟨(y 2).val % 64, by omega⟩ : Fin 64) = d at ey
    subst ey
    rw [emb6 t n (lane hh d) ⟨t.val / 8 * 128 + (lane hh d).val, by omega⟩ rfl,
      outs_apply m c hf t ⟨n.val / 64, by omega⟩ ⟨n.val % 64, by omega⟩ hh d n (by show n.val = n.val / 64 * 64 + n.val % 64; omega)]
    exact (G_apply m c _ _ _ _ _ _ _ (by show n.val = n.val / 64 * 64 + n.val % 64; omega)
      (by show t.val / 8 * 128 + (hh.val * 64 + d.val) = (2 * (t.val / 8) + hh.val) * 64 + d.val; omega)).symm
  · have hy0 : (y 0).val < 8 := (y 0).isLt
    have hy1 : (y 1).val < 4096 := (y 1).isLt
    have hy2 : (y 2).val < 1024 := (y 2).isLt
    let t : Fin cfg0.N := ⟨(y 2).val / 128 * 8 + (y 0).val, lt_of_lt_of_eq (by omega) N_0.symm⟩
    refine ⟨t, flush0_6 t, ?_⟩
    have e := emb6 t ⟨(y 1).val, hy1⟩ ⟨(y 2).val % 128, by omega⟩ ⟨(y 2).val, hy2⟩ (by
      show (y 2).val = ((y 2).val / 128 * 8 + (y 0).val) / 8 * 128 + (y 2).val % 128; omega)
    have ey : y = ix3 (batchOf t) ⟨(y 1).val, hy1⟩ ⟨(y 2).val, hy2⟩ := funext fun a => Fin.ext (by
      match a with
      | ⟨0, _⟩ => show (y 0).val = ((y 2).val / 128 * 8 + (y 0).val) % 8; omega
      | ⟨1, _⟩ => rfl
      | ⟨2, _⟩ => rfl)
    rw [ey, ← e]
    exact View.emb_mem_set _ _

end Cert.AttnIdeal.Hand

end
-- ==== Proof.AttnRefPoint.lean ====
module

public import proofs.«01_k».proof.Proof.Gen.AttnRefIdeal.Run
public import proofs.«01_k».proof.Proof.AttnSpec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! # The reference's neighbourhood attention, entry by entry -/

namespace Cert.AttnRefIdeal.Hand

open Cert.AttnRefIdeal Cert.AttnRefIdeal.Gen Cert.Attn

/-- The projection's queries, keys and values by row, column and head. -/
def q5 (x : Vec Ideal S8x4096x4096 .bf16) : FVec Ideal S8x64x64x16x64 .f32 :=
  shapeCast _ (shapeCast S8x4096x16x64 (extractStridedSlice S8x4096x1024 ![0, 0, 0] (extf .f32 x bitsLt_bf16_f32) slices_S8x4096x4096_S8x4096x1024_0_0_0) shapeCasts_S8x4096x1024_S8x4096x16x64) shapeCasts_S8x4096x16x64_S8x64x64x16x64
def k5 (x : Vec Ideal S8x4096x4096 .bf16) : FVec Ideal S8x64x64x16x64 .f32 :=
  shapeCast _ (shapeCast S8x4096x16x64 (extractStridedSlice S8x4096x1024 ![0, 0, 1024] (extf .f32 x bitsLt_bf16_f32) slices_S8x4096x4096_S8x4096x1024_0_0_1024) shapeCasts_S8x4096x1024_S8x4096x16x64) shapeCasts_S8x4096x16x64_S8x64x64x16x64
def v5 (x : Vec Ideal S8x4096x4096 .bf16) : FVec Ideal S8x64x64x16x64 .f32 :=
  shapeCast _ (shapeCast S8x4096x16x64 (extractStridedSlice S8x4096x1024 ![0, 0, 2048] (extf .f32 x bitsLt_bf16_f32) slices_S8x4096x4096_S8x4096x1024_0_0_2048) shapeCasts_S8x4096x1024_S8x4096x16x64) shapeCasts_S8x4096x16x64_S8x64x64x16x64
/-- The context's keys and values by head. -/
def k4 (y : Vec Ideal S8x256x4096 .bf16) : FVec Ideal S8x256x16x64 .f32 :=
  shapeCast _ (extractStridedSlice S8x256x1024 ![0, 0, 1024] (extf .f32 y bitsLt_bf16_f32) slices_S8x256x4096_S8x256x1024_0_0_1024) shapeCasts_S8x256x1024_S8x256x16x64
def v4 (y : Vec Ideal S8x256x4096 .bf16) : FVec Ideal S8x256x16x64 .f32 :=
  shapeCast _ (extractStridedSlice S8x256x1024 ![0, 0, 2048] (extf .f32 y bitsLt_bf16_f32) slices_S8x256x4096_S8x256x1024_0_0_2048) shapeCasts_S8x256x1024_S8x256x16x64

theorem q5_apply (x : Vec Ideal S8x4096x4096 .bf16) (b : Fin 8) (r c : Fin 64) (h : Fin 16) (d : Fin 64) : q5 x (ix5 b r c h d) = x (ix3 b (queryAt r c) (qCol h d)) := by
  unfold q5
  pointwise
  rfl
theorem k5_apply (x : Vec Ideal S8x4096x4096 .bf16) (b : Fin 8) (r c : Fin 64) (h : Fin 16) (d : Fin 64) : k5 x (ix5 b r c h d) = x (ix3 b (queryAt r c) (kCol h d)) := by
  unfold k5
  pointwise
  rfl
theorem v5_apply (x : Vec Ideal S8x4096x4096 .bf16) (b : Fin 8) (r c : Fin 64) (h : Fin 16) (d : Fin 64) : v5 x (ix5 b r c h d) = x (ix3 b (queryAt r c) (vCol h d)) := by
  unfold v5
  pointwise
  rfl
theorem k4_apply (y : Vec Ideal S8x256x4096 .bf16) (b : Fin 8) (i : Fin 256) (h : Fin 16) (d : Fin 64) : k4 y (ix4 b i h d) = y (ix3 b i (kCol h d)) := by
  unfold k4
  pointwise
  rfl
theorem v4_apply (y : Vec Ideal S8x256x4096 .bf16) (b : Fin 8) (i : Fin 256) (h : Fin 16) (d : Fin 64) : v4 y (ix4 b i h d) = y (ix3 b i (vCol h d)) := by
  unfold v4
  pointwise
  rfl

/-- Rows `x` and columns `y` put together as positions to take, a negative one counted from the end. -/
def pairs (x : IVec S64x8 32) (y : IVec S64x16 32) (nx ny : BitVec 32) : IVec S64x64x8x16x2 32 :=
  concatenate S64x64x8x16x2 4 [⟨S64x64x8x16x1, (broadcastInDim S64x64x8x16x1 ![0, 1, 2, 3] bcast_S64x64x8x16_S64x64x8x16x1_0_1_2_3 (broadcastInDim S64x64x8x16 ![0, 1, 2, 3] bcast_S64x1x8x1_S64x64x8x16_0_1_2_3 (select (cmpi .slt (broadcastInDim S64x1x8x1 ![0, 2] bcast_S64x8_S64x1x8x1_0_2 x) (broadcastInDim S64x1x8x1 ![] bcast_S_S64x1x8x1 (constantI S_ 32 0#32))) (addi (broadcastInDim S64x1x8x1 ![0, 2] bcast_S64x8_S64x1x8x1_0_2 x) (broadcastInDim S64x1x8x1 ![] bcast_S_S64x1x8x1 (constantI S_ 32 nx))) (broadcastInDim S64x1x8x1 ![0, 2] bcast_S64x8_S64x1x8x1_0_2 x))))⟩,
    ⟨S64x64x8x16x1, (broadcastInDim S64x64x8x16x1 ![0, 1, 2, 3] bcast_S64x64x8x16_S64x64x8x16x1_0_1_2_3 (broadcastInDim S64x64x8x16 ![0, 1, 2, 3] bcast_S1x64x1x16_S64x64x8x16_0_1_2_3 (select (cmpi .slt (broadcastInDim S1x64x1x16 ![1, 3] bcast_S64x16_S1x64x1x16_1_3 y) (broadcastInDim S1x64x1x16 ![] bcast_S_S1x64x1x16 (constantI S_ 32 0#32))) (addi (broadcastInDim S1x64x1x16 ![1, 3] bcast_S64x16_S1x64x1x16_1_3 y) (broadcastInDim S1x64x1x16 ![] bcast_S_S1x64x1x16 (constantI S_ 32 ny))) (broadcastInDim S1x64x1x16 ![1, 3] bcast_S64x16_S1x64x1x16_1_3 y))))⟩] concatenates_S64x64x8x16x1_S64x64x8x16x1_S64x64x8x16x2_d4

/-- The position itself, when not negative. -/
theorem pairs_row (x : IVec S64x8 32) (y : IVec S64x16 32) (nx ny : BitVec 32) (r c : Fin 64) (a : Fin 8) (e : Fin 16)
    (h : IntOp.cmpi .slt (x (ix2 r a)) 0#32 = 0#1) : pairs x y nx ny (ix5 r c a e 0) = x (ix2 r a) := by
  unfold pairs
  pointwise [h]
theorem pairs_col (x : IVec S64x8 32) (y : IVec S64x16 32) (nx ny : BitVec 32) (r c : Fin 64) (a : Fin 8) (e : Fin 16)
    (h : IntOp.cmpi .slt (y (ix2 c e)) 0#32 = 0#1) : pairs x y nx ny (ix5 r c a e 1) = y (ix2 c e) := by
  unfold pairs
  pointwise [h]

/-- The window's rows and columns, and those of its biases, as the program writes them out. -/
def rowsK : IVec S64x8 32 := fun i => lit0 (S64x8.rowMajor i)
def colsK : IVec S64x16 32 := fun i => lit1 (S64x16.rowMajor i)
def rowsB : IVec S64x8 32 := fun i => lit2 (S64x8.rowMajor i)
def colsB : IVec S64x16 32 := fun i => lit3 (S64x16.rowMajor i)

theorem rowsK_bits : ∀ (r : Fin 64) (a : Fin 8), IntOp.cmpi .slt (rowsK (ix2 r a)) 0#32 = 0#1 ∧ min (rowsK (ix2 r a)).toInt.toNat 63 = row0 r.val + a.val := by decide +kernel
theorem colsK_bits : ∀ (c : Fin 64) (e : Fin 16), IntOp.cmpi .slt (colsK (ix2 c e)) 0#32 = 0#1 ∧ min (colsK (ix2 c e)).toInt.toNat 63 = col0 c.val + e.val := by decide +kernel
theorem rowsB_bits : ∀ (r : Fin 64) (a : Fin 8), IntOp.cmpi .slt (rowsB (ix2 r a)) 0#32 = 0#1 ∧ min (rowsB (ix2 r a)).toInt.toNat 14 = row0 r.val + a.val + 7 - r.val := by decide +kernel
theorem colsB_bits : ∀ (c : Fin 64) (e : Fin 16), IntOp.cmpi .slt (colsB (ix2 c e)) 0#32 = 0#1 ∧ min (colsB (ix2 c e)).toInt.toNat 30 = col0 c.val + e.val + 15 - c.val := by decide +kernel

theorem siK (b : Fin 8) (r c : Fin 64) (a : Fin 8) (e : Fin 16) (h : Fin 16) (d : Fin 64) (z : Fin 2) :
    (gather_S8x64x64x16x64_S64x64x8x16x2_S8x64x64x8x16x16x64_056_12_n_n_12_4_8111664).siIdx (ix7 b r c a e h d) ⟨z.val, z.isLt⟩ = ix5 r c a e z := by
  funext x
  refine Fin.ext ?_
  match x with
  | ⟨0, _⟩ => rfl
  | ⟨1, _⟩ => rfl
  | ⟨2, _⟩ => rfl
  | ⟨3, _⟩ => rfl
  | ⟨4, _⟩ => rfl

/-- The take of keys, or of values, read at an index. -/
theorem gK_apply (k : FVec Ideal S8x64x64x16x64 .f32) (I : IVec S64x64x8x16x2 32) (b : Fin 8) (r c : Fin 64) (a : Fin 8) (e : Fin 16) (h : Fin 16) (d : Fin 64) :
    Host.gather gather_S8x64x64x16x64_S64x64x8x16x2_S8x64x64x8x16x16x64_056_12_n_n_12_4_8111664 k I (ix7 b r c a e h d)
      = k (ix5 b (⟨min (I (ix5 r c a e 0)).toInt.toNat 63, by omega⟩ : Fin 64) (⟨min (I (ix5 r c a e 1)).toInt.toNat 63, by omega⟩ : Fin 64) h d) := by
  unfold Host.gather
  refine congrArg k (funext fun x => Fin.ext ?_)
  have s0 := siK b r c a e h d 0
  have s1 := siK b r c a e h d 1
  match x with
  | ⟨0, _⟩ => exact Eq.trans (b := 0 + 0 + b.val) rfl (by show 0 + 0 + b.val = b.val; omega)
  | ⟨1, _⟩ => show _ = min (I (ix5 r c a e 0)).toInt.toNat 63; rw [← s0]; rfl
  | ⟨2, _⟩ => show _ = min (I (ix5 r c a e 1)).toInt.toNat 63; rw [← s1]; rfl
  | ⟨3, _⟩ => exact Eq.trans (b := 0 + 0 + h.val) rfl (by show 0 + 0 + h.val = h.val; omega)
  | ⟨4, _⟩ => exact Eq.trans (b := 0 + 0 + d.val) rfl (by show 0 + 0 + d.val = d.val; omega)

theorem siB (h : Fin 16) (r c : Fin 64) (a : Fin 8) (e : Fin 16) (z : Fin 2) :
    (gather_S16x15x31_S64x64x8x16x2_S16x64x64x8x16_0_12_n_n_12_4_1611).siIdx (ix5 h r c a e) ⟨z.val, z.isLt⟩ = ix5 r c a e z := by
  funext x
  refine Fin.ext ?_
  match x with
  | ⟨0, _⟩ => rfl
  | ⟨1, _⟩ => rfl
  | ⟨2, _⟩ => rfl
  | ⟨3, _⟩ => rfl
  | ⟨4, _⟩ => rfl

/-- The take of biases read at an index. -/
theorem gB_apply (k : FVec Ideal S16x15x31 .f32) (I : IVec S64x64x8x16x2 32) (h : Fin 16) (r c : Fin 64) (a : Fin 8) (e : Fin 16) :
    Host.gather gather_S16x15x31_S64x64x8x16x2_S16x64x64x8x16_0_12_n_n_12_4_1611 k I (ix5 h r c a e)
      = k (ix3 h (⟨min (I (ix5 r c a e 0)).toInt.toNat 14, by omega⟩ : Fin 15) (⟨min (I (ix5 r c a e 1)).toInt.toNat 30, by omega⟩ : Fin 31)) := by
  unfold Host.gather
  refine congrArg k (funext fun x => Fin.ext ?_)
  have s0 := siB h r c a e 0
  have s1 := siB h r c a e 1
  match x with
  | ⟨0, _⟩ => exact Eq.trans (b := 0 + 0 + h.val) rfl (by show 0 + 0 + h.val = h.val; omega)
  | ⟨1, _⟩ => show _ = min (I (ix5 r c a e 0)).toInt.toNat 14; rw [← s0]; rfl
  | ⟨2, _⟩ => show _ = min (I (ix5 r c a e 1)).toInt.toNat 30; rw [← s1]; rfl

/-- Keys, or values, of every window, and the biases. -/
def win (k : FVec Ideal S8x64x64x16x64 .f32) : FVec Ideal S8x64x64x8x16x16x64 .f32 :=
  Host.gather gather_S8x64x64x16x64_S64x64x8x16x2_S8x64x64x8x16x16x64_056_12_n_n_12_4_8111664 k (pairs rowsK colsK 64#32 64#32)
def bias (w : Vec Ideal S16x15x31 .f32) : FVec Ideal S16x64x64x8x16 .f32 :=
  Host.gather gather_S16x15x31_S64x64x8x16x2_S16x64x64x8x16_0_12_n_n_12_4_1611 w (pairs rowsB colsB 15#32 31#32)

theorem win_apply (k : FVec Ideal S8x64x64x16x64 .f32) (b : Fin 8) (r c : Fin 64) (a : Fin 8) (e : Fin 16) (h : Fin 16) (d : Fin 64) :
    win k (ix7 b r c a e h d) = k (ix5 b (⟨row0 r.val + a.val, by unfold row0; omega⟩ : Fin 64) (⟨col0 c.val + e.val, by unfold col0; omega⟩ : Fin 64) h d) := by
  unfold win
  rw [gK_apply]
  refine congrArg k (congrArg₂ (fun x y => ix5 b x y h d) (Fin.ext ?_) (Fin.ext ?_))
  · show min (pairs rowsK colsK 64#32 64#32 (ix5 r c a e 0)).toInt.toNat 63 = row0 r.val + a.val
    rw [pairs_row rowsK colsK 64#32 64#32 r c a e (rowsK_bits r a).1]
    exact (rowsK_bits r a).2
  · show min (pairs rowsK colsK 64#32 64#32 (ix5 r c a e 1)).toInt.toNat 63 = col0 c.val + e.val
    rw [pairs_col rowsK colsK 64#32 64#32 r c a e (colsK_bits c e).1]
    exact (colsK_bits c e).2

theorem bias_apply (w : Vec Ideal S16x15x31 .f32) (h : Fin 16) (r c : Fin 64) (a : Fin 8) (e : Fin 16) :
    bias w (ix5 h r c a e) = w (ix3 h (biasRow r (a, e)) (biasCol c (a, e))) := by
  unfold bias
  rw [gB_apply]
  refine congrArg w (congrArg₂ (fun x y => ix3 h x y) (Fin.ext ?_) (Fin.ext ?_))
  · show min (pairs rowsB colsB 15#32 31#32 (ix5 r c a e 0)).toInt.toNat 14 = row0 r.val + a.val + 7 - r.val
    rw [pairs_row rowsB colsB 15#32 31#32 r c a e (rowsB_bits r a).1]
    exact (rowsB_bits r a).2
  · show min (pairs rowsB colsB 15#32 31#32 (ix5 r c a e 1)).toInt.toNat 30 = col0 c.val + e.val + 15 - c.val
    rw [pairs_col rowsB colsB 15#32 31#32 r c a e (colsB_bits c e).1]
    exact (colsB_bits c e).2

end Cert.AttnRefIdeal.Hand

end
-- ==== Proof.AttnRefValue.lean ====
module

public import proofs.«01_k».proof.Proof.AttnRefPoint

@[expose] public section

set_option maxRecDepth 16384

noncomputable section

open Idealize.ShloMosaic Idealize.ShloMosaic.TcCoe Idealize.SL.Sem

/-! # The reference's scores, softmax and result -/

namespace Cert.AttnRefIdeal.Hand

open Cert.AttnRefIdeal Cert.AttnRefIdeal.Gen Cert.Attn

/-- The scores of every window, and of the context. -/
def sWin (x : Vec Ideal S8x4096x4096 .bf16) (w : Vec Ideal S16x15x31 .f32) : FVec Ideal S8x16x64x64x8x16 .f32 :=
  addf (mulf (Host.dotGeneral dot_S8x64x64x16x64_S8x64x64x8x16x16x64_S8x16x64x64x8x16_4_6_n_34_0312_0512 none (q5 x) (win (k5 x))) (broadcastInDim S8x16x64x64x8x16 ![] bcast_S_S8x16x64x64x8x16 (constant (F := Ideal) S_ .f32 0x3E000000#32)))
    (broadcastInDim S8x16x64x64x8x16 ![0, 1, 2, 3, 4, 5] bcast_S1x16x64x64x8x16_S8x16x64x64x8x16_0_1_2_3_4_5 (broadcastInDim S1x16x64x64x8x16 ![1, 2, 3, 4, 5] bcast_S16x64x64x8x16_S1x16x64x64x8x16_1_2_3_4_5 (bias w)))
def sCtx (x : Vec Ideal S8x4096x4096 .bf16) (y : Vec Ideal S8x256x4096 .bf16) : FVec Ideal S8x16x64x64x256 .f32 :=
  mulf (Host.dotGeneral dot_S8x64x64x16x64_S8x256x16x64_S8x16x64x64x256_4_3_12_1_03_02 none (q5 x) (k4 y)) (broadcastInDim S8x16x64x64x256 ![] bcast_S_S8x16x64x64x256 (constant (F := Ideal) S_ .f32 0x3E000000#32))

/-- All of a query's scores, side by side. -/
def scores (x : Vec Ideal S8x4096x4096 .bf16) (y : Vec Ideal S8x256x4096 .bf16) (w : Vec Ideal S16x15x31 .f32) : FVec Ideal S8x16x64x64x384 .f32 :=
  concatenate S8x16x64x64x384 4 [⟨S8x16x64x64x128, (shapeCast _ (sWin x w) shapeCasts_S8x16x64x64x8x16_S8x16x64x64x128)⟩, ⟨S8x16x64x64x256, sCtx x y⟩] concatenates_S8x16x64x64x128_S8x16x64x64x256_S8x16x64x64x384_d4

/-- The greatest of a query's scores. -/
def tops (s : FVec Ideal S8x16x64x64x384 .f32) : FVec Ideal S8x16x64x64 .f32 :=
  maximumf (broadcastInDim S8x16x64x64 ![] bcast_S_S8x16x64x64 (constant (F := Ideal) S_ .f32 0xFF800000#32)) (Host.reduce FloatOps.maximumf s (constant (F := Ideal) S_ .f32 0xFF800000#32) reducesTo_S8x16x64x64x384_S8x16x64x64_d4 h_S_)

/-- The scores' softmax: the exponentials of what they lack to the greatest … -/
def weights (s : FVec Ideal S8x16x64x64x384 .f32) : FVec Ideal S8x16x64x64x384 .f32 :=
  Host.exp (subf s (broadcastInDim S8x16x64x64x384 ![0, 1, 2, 3, 4] bcast_S8x16x64x64x1_S8x16x64x64x384_0_1_2_3_4 (broadcastInDim S8x16x64x64x1 ![0, 1, 2, 3] bcast_S8x16x64x64_S8x16x64x64x1_0_1_2_3 (tops s))))
/-- … divided by their sum. -/
def probs (s : FVec Ideal S8x16x64x64x384 .f32) : FVec Ideal S8x16x64x64x384 .f32 :=
  Host.divf (weights s) (broadcastInDim S8x16x64x64x384 ![0, 1, 2, 3, 4] bcast_S8x16x64x64x1_S8x16x64x64x384_0_1_2_3_4 (broadcastInDim S8x16x64x64x1 ![0, 1, 2, 3] bcast_S8x16x64x64_S8x16x64x64x1_0_1_2_3 (Host.reduceAdd (weights s) (constant (F := Ideal) S_ .f32 0x00000000#32) reducesTo_S8x16x64x64x384_S8x16x64x64_d4 h_S_)))

/-- The values weighted by a softmax `p`. -/
def weighted (x : Vec Ideal S8x4096x4096 .bf16) (y : Vec Ideal S8x256x4096 .bf16) (p : FVec Ideal S8x16x64x64x384 .f32) : Vec Ideal S8x4096x1024 .bf16 :=
  truncf .bf16 (shapeCast S8x4096x1024 (addf (Host.dotGeneral (F := Ideal) dot_S8x16x64x64x8x16_S8x64x64x8x16x16x64_S8x64x64x16x64_54_43_n_6_0231_0125 none (shapeCast _ (extractStridedSlice S8x16x64x64x128 ![0, 0, 0, 0, 0] p slices_S8x16x64x64x384_S8x16x64x64x128_0_0_0_0_0) shapeCasts_S8x16x64x64x128_S8x16x64x64x8x16) (win (v5 x)))
    (transpose S8x64x64x16x64 [0, 3, 4, 1, 2] (Host.dotGeneral (F := Ideal) dot_S8x256x16x64_S8x16x64x64x256_S8x16x64x64x64_1_4_3_23_02_01 none (v4 y) (extractStridedSlice S8x16x64x64x256 ![0, 0, 0, 0, 128] p slices_S8x16x64x64x384_S8x16x64x64x256_0_0_0_0_128)) transposes_S8x16x64x64x64_S8x64x64x16x64_0_3_4_1_2)) shapeCasts_S8x64x64x16x64_S8x4096x1024) bitsLt_bf16_f32

theorem res_eq (m : (ℓ : Loc nD τ sig) → Buf (Elt Ideal) ℓ) (c : Dev nD) :
    Value.res_main_v97 m c = weighted (m ((c.tc : Thread nD τ).loc main_arg0)) (m ((c.tc : Thread nD τ).loc main_arg1))
      (probs (scores (m ((c.tc : Thread nD τ).loc main_arg0)) (m ((c.tc : Thread nD τ).loc main_arg1)) (m ((c.tc : Thread nD τ).loc main_arg2)))) := rfl

/-- An argument as a function of its coordinates. -/
abbrev fA (x : Vec Ideal S8x4096x4096 .bf16) : Fin 8 → Fin 4096 → Fin 4096 → EReal := fun b n l => x (ix3 b n l)
abbrev fB (y : Vec Ideal S8x256x4096 .bf16) : Fin 8 → Fin 256 → Fin 4096 → EReal := fun b n l => y (ix3 b n l)
abbrev fR (w : Vec Ideal S16x15x31 .f32) : Fin 16 → Fin 15 → Fin 31 → EReal := fun h i j => w (ix3 h i j)

theorem sWin_apply (x : Vec Ideal S8x4096x4096 .bf16) (w : Vec Ideal S16x15x31 .f32) (b : Fin 8) (h : Fin 16) (r c : Fin 64) (a : Fin 8) (e : Fin 16) :
    sWin x w (ix6 b h r c a e) = winScore (fA x) (fR w) b h r c (a, e) := by
  unfold sWin
  pointwise [win_apply, bias_apply, q5_apply, k5_apply]
  rfl

theorem sCtx_apply (x : Vec Ideal S8x4096x4096 .bf16) (y : Vec Ideal S8x256x4096 .bf16) (b : Fin 8) (h : Fin 16) (r c : Fin 64) (i : Fin 256) :
    sCtx x y (ix5 b h r c i) = ctxScore (fA x) (fB y) b h r c i := by
  unfold sCtx
  pointwise [q5_apply, k4_apply]
  rfl

theorem scores_apply (x : Vec Ideal S8x4096x4096 .bf16) (y : Vec Ideal S8x256x4096 .bf16) (w : Vec Ideal S16x15x31 .f32) (b : Fin 8) (h : Fin 16) (r c : Fin 64) (j : Fin 384) :
    scores x y w (ix5 b h r c j) = Softmax.beside (winScore (fA x) (fR w) b h r c) (ctxScore (fA x) (fB y) b h r c) j := by
  unfold scores
  pointwise [sWin_apply, sCtx_apply]
  rfl

theorem red_apply (s : FVec Ideal S8x16x64x64x384 .f32) (b : Fin 8) (h : Fin 16) (r c : Fin 64) :
    (Host.reduce FloatOps.maximumf s (constant (F := Ideal) S_ .f32 0xFF800000#32) reducesTo_S8x16x64x64x384_S8x16x64x64_d4 h_S_ : FVec Ideal S8x16x64x64 .f32) (ix4 b h r c)
      = Finset.fold max (Ideal.ofBits .f32 4286578688#32) (fun x => s (ix5 b h r c x)) Finset.univ := by
  pointwise

theorem negInf : Ideal.ofBits .f32 4286578688#32 = (⊥ : EReal) := by simp [Ideal.ofBits, Ideal.ieee]

theorem max_at (x y : FVec Ideal S8x16x64x64 .f32) (j : S8x16x64x64.Idx) : maximumf x y j = max (x j) (y j) := rfl

theorem negInf_at (j : S8x16x64x64.Idx) : (broadcastInDim S8x16x64x64 ![] bcast_S_S8x16x64x64 (constant (F := Ideal) S_ .f32 0xFF800000#32) : FVec Ideal S8x16x64x64 .f32) j = Ideal.ofBits .f32 4286578688#32 := by pointwise

theorem tops_apply (s : FVec Ideal S8x16x64x64x384 .f32) (b : Fin 8) (h : Fin 16) (r c : Fin 64) :
    tops s (ix4 b h r c) = Softmax.top fun i => s (ix5 b h r c i) := by
  unfold tops
  rw [max_at, negInf_at, red_apply, negInf]
  exact bot_sup_eq _

theorem weights_apply (s : FVec Ideal S8x16x64x64x384 .f32) (b : Fin 8) (h : Fin 16) (r c : Fin 64) (j : Fin 384) :
    weights s (ix5 b h r c j) = Ideal.exp (s (ix5 b h r c j) - tops s (ix4 b h r c)) := by
  unfold weights
  pointwise

theorem probs_apply (s : FVec Ideal S8x16x64x64x384 .f32) (b : Fin 8) (h : Fin 16) (r c : Fin 64) (j : Fin 384) :
    probs s (ix5 b h r c j) = Ideal.div (weights s (ix5 b h r c j)) (∑ i, weights s (ix5 b h r c i)) := by
  unfold probs
  pointwise

theorem weighted_apply (x : Vec Ideal S8x4096x4096 .bf16) (y : Vec Ideal S8x256x4096 .bf16) (p : FVec Ideal S8x16x64x64x384 .f32) (b : Fin 8) (r c : Fin 64) (h : Fin 16) (d : Fin 64) (n : Fin 4096) (l : Fin 1024)
    (hn : n = queryAt r c) (hl : l.val = h.val * 64 + d.val) : weighted x y p (ix3 b n l)
      = (∑ w : Fin 8 × Fin 16, p (ix5 b h r c (⟨w.1.val * 16 + w.2.val, by have := w.1.isLt; have := w.2.isLt; omega⟩ : Fin 384)) * x (ix3 b (keyAt r c w) (vCol h d)))
        + ∑ i : Fin 256, p (ix5 b h r c (⟨128 + i.val, by omega⟩ : Fin 384)) * y (ix3 b i (vCol h d)) := by
  have hv : n.val = r.val * 64 + c.val := by rw [hn]; rfl
  have e1 : ∀ z, (⟨n.val / 64, z⟩ : Fin 64) = r := fun z => Fin.ext (by show n.val / 64 = r.val; omega)
  have e2 : ∀ z, (⟨n.val % 64, z⟩ : Fin 64) = c := fun z => Fin.ext (by show n.val % 64 = c.val; omega)
  have e3 : ∀ z, (⟨l.val / 64, z⟩ : Fin 16) = h := fun z => Fin.ext (by show l.val / 64 = h.val; omega)
  have e4 : ∀ z, (⟨l.val % 64, z⟩ : Fin 64) = d := fun z => Fin.ext (by show l.val % 64 = d.val; omega)
  have e5 : n.val / 64 = r.val := congrArg Fin.val (e1 (by omega))
  have e6 : n.val % 64 = c.val := congrArg Fin.val (e2 (by omega))
  unfold weighted
  pointwise [win_apply, v5_apply, v4_apply]
  simp only [e1, e2, e3, e4]
  rw [Finset.sum_comm, Fintype.sum_prod_type]
  refine congrArg₂ (· + ·) (Finset.sum_congr rfl fun a _ => Finset.sum_congr rfl fun e _ => congrArg (p _ * ·) (congrArg x (congrArg (fun z => ix3 b z (vCol h d)) (Fin.ext ?_)))) (Finset.sum_congr rfl fun i _ => mul_comm _ _)
  show (row0 (n.val / 64) + a.val) * 64 + (col0 (n.val % 64) + e.val) = (row0 r.val + a.val) * 64 + (col0 c.val + e.val)
  rw [e5, e6]

/-- The reference's result, entry by entry. -/
theorem res_apply (m : (ℓ : Loc nD τ sig) → Buf (Elt Ideal) ℓ) (c : Dev nD) (b : Fin 8) (r k : Fin 64) (h : Fin 16) (d : Fin 64) (l : Fin 1024) (hl : l.val = h.val * 64 + d.val) :
    Value.res_main_v97 m c (ix3 b (queryAt r k) l) = entry (fA (m ((c.tc : Thread nD τ).loc main_arg0))) (fB (m ((c.tc : Thread nD τ).loc main_arg1))) (fR (m ((c.tc : Thread nD τ).loc main_arg2))) b r k h d := by
  rw [res_eq, weighted_apply _ _ _ b r k h d _ l rfl hl]
  simp only [probs_apply, weights_apply, tops_apply, scores_apply]
  rw [Softmax.top_beside, Softmax.sum_beside _ _ fun z => Ideal.exp (z - _)]
  simp only [Softmax.beside_win, Softmax.beside_ctx]
  rfl

end Cert.AttnRefIdeal.Hand

end
-- ==== Proof.AttnClaim.lean ====
module

public import proofs.«01_k».proof.Defs
public import proofs.«01_k».proof.Proof.AttnValue
public import proofs.«01_k».proof.Proof.AttnRefValue
public import Idealize.ShloMosaic.Lib.Tactic
public import Idealize.ShloMosaic.Lib.Pointwise
public import Idealize.ShloMosaic.Adequacy
public import Idealize.ShloMosaic.Init

@[expose] public section

noncomputable section

open Idealize.ShloMosaic Idealize.SL.Sem

/-! # The value claim of the neighbourhood attention -/

namespace Cert.Proof

open Cert.Attn

/-- The precondition's shape relations. -/
instance pre_facts : Cert.Pre_scores_finite.Facts := ⟨by decide, by decide, by decide, by decide, by decide⟩

/-- The literal the precondition compares against is the infinity, at both widths. -/
theorem inf_bf16 : Ideal.ofBits .bf16 0x7F80#16 = (⊤ : EReal) := by simp [Ideal.ofBits, Ideal.ieee]
theorem inf_f32 : Ideal.ofBits .f32 0x7F800000#32 = (⊤ : EReal) := by simp [Ideal.ofBits, Ideal.ieee]

/-- A number whose magnitude is below infinity is real. -/
theorem real_of_abs_lt (x : EReal) (h : Ideal.cmp .olt (max x (-x)) ⊤ = 1#1) : Softmax.IsReal x := by
  have h' : max x (-x) < ⊤ := by
    by_contra hn
    have e : Ideal.cmp .olt (max x (-x)) ⊤ = 0#1 := by
      show BitVec.ofBool (decide (max x (-x) < ⊤)) = 0#1
      rw [decide_eq_false hn]; rfl
    rw [e] at h
    exact absurd h (by decide)
  induction x with
  | bot => exact absurd h' (by simp)
  | top => exact absurd h' (by simp)
  | coe r => exact ⟨r, rfl⟩

section

variable [Cert.Pre_scores_finite.Facts] (x : FVec Ideal Cert.Pre_scores_finite.S8x4096x4096 .bf16) (y : FVec Ideal Cert.Pre_scores_finite.S8x256x4096 .bf16)
  (w : FVec Ideal Cert.Pre_scores_finite.S16x15x31 .f32)

/-- The three tests of the precondition, at an index. -/
theorem pre_at0 (b : Fin 8) (n : Fin 4096) (l : Fin 2048) (l' : Fin 4096) (hl : l'.val = l.val) :
    (Cert.Pre_scores_finite.fn (F := Ideal) x y w).1 (ix3 b n l) = Ideal.cmp .olt (max (x (ix3 b n l')) (-(x (ix3 b n l')))) ⊤ := by
  rw [← inf_bf16]
  refine congrArg (fun i => Ideal.cmp .olt (max (x i) (-(x i))) (Ideal.ofBits .bf16 0x7F80#16)) (funext fun a => Fin.ext ?_)
  match a with
  | ⟨0, _⟩ => show 0 + b.val = b.val; omega
  | ⟨1, _⟩ => show 0 + n.val = n.val; omega
  | ⟨2, _⟩ => show 0 + l.val = l'.val; omega

theorem pre_at1 (b : Fin 8) (n : Fin 256) (l : Fin 1024) (l' : Fin 4096) (hl : l'.val = 1024 + l.val) :
    (Cert.Pre_scores_finite.fn (F := Ideal) x y w).2.1 (ix3 b n l) = Ideal.cmp .olt (max (y (ix3 b n l')) (-(y (ix3 b n l')))) ⊤ := by
  rw [← inf_bf16]
  refine congrArg (fun i => Ideal.cmp .olt (max (y i) (-(y i))) (Ideal.ofBits .bf16 0x7F80#16)) (funext fun a => Fin.ext ?_)
  match a with
  | ⟨0, _⟩ => show 0 + b.val = b.val; omega
  | ⟨1, _⟩ => show 0 + n.val = n.val; omega
  | ⟨2, _⟩ => show 1024 + l.val = l'.val; omega

theorem pre_at2 (h : Fin 16) (i : Fin 15) (j : Fin 31) :
    (Cert.Pre_scores_finite.fn (F := Ideal) x y w).2.2 (ix3 h i j) = Ideal.cmp .olt (max (w (ix3 h i j)) (-(w (ix3 h i j)))) ⊤ := by
  rw [← inf_f32]
  rfl

end

variable [hP : Cert.Pre_scores_finite.Facts]

/-- Under the precondition the scores' operands are real. -/
theorem scores_real (m : (ℓ : Loc Cert.AttnIdeal.nD Cert.AttnIdeal.τ Cert.AttnIdeal.sig) → Buf (Elt Ideal) ℓ) (hpre : Cert.Pre_AttnIdeal_scores_finite m) (c : Dev Cert.AttnIdeal.nD) :
    Cert.AttnIdeal.Hand.ScoresReal m c := by
  obtain ⟨h0, h1, h2⟩ := hpre c
  refine ⟨fun b n h d => real_of_abs_lt _ ?_, fun b n h d => real_of_abs_lt _ ?_, fun b n h d => real_of_abs_lt _ ?_, fun h i j => real_of_abs_lt _ ?_⟩
  · exact (pre_at0 _ _ _ b n ⟨h.val * 64 + d.val, by omega⟩ (qCol h d) rfl).symm.trans (congrFun h0 _)
  · exact (pre_at0 _ _ _ b n ⟨1024 + (h.val * 64 + d.val), by omega⟩ (kCol h d) rfl).symm.trans (congrFun h0 _)
  · exact (pre_at1 _ _ _ b n ⟨h.val * 64 + d.val, by omega⟩ (kCol h d) rfl).symm.trans (congrFun h1 _)
  · exact (pre_at2 _ _ _ h i j).symm.trans (congrFun h2 _)

/-- The neighbourhood attention's two programs end with equal results. -/
theorem algebraic_attn : Cert.algebraic_AttnIdeal_AttnRefIdeal_pre_scores_finite := fun m ρ m' ρ' hpre hag =>
  ⟨fun c => (Cert.AttnIdeal.Gen.dats m 0 c).arrAt 6 Cert.AttnIdeal.cfg0.N, Cert.AttnIdeal.Value.run_blocks m ρ,
    (θ_run _ _ _).mono (fun r h c => ⟨(h c).1.trans (by
        refine Eq.trans ?_ (Cert.AttnIdeal.Hand.final6 m c (scores_real m hpre c)).symm
        funext (i : Cert.AttnIdeal.S8x4096x1024.Idx)
        idx_vars i
        obtain ⟨e0, e1, e2⟩ := hag c
        have en : i1 = queryAt ⟨i1.val / 64, by omega⟩ ⟨i1.val % 64, by omega⟩ := Fin.ext (by show i1.val = i1.val / 64 * 64 + i1.val % 64; omega)
        refine (congrArg (fun n => Cert.AttnRefIdeal.Value.res_main_v97 m' c (ix3 i0 n i2)) en).trans ?_
        rw [Cert.AttnRefIdeal.Hand.res_apply m' c i0 _ _ ⟨i2.val / 64, by omega⟩ ⟨i2.val % 64, by omega⟩ i2 (by show i2.val = i2.val / 64 * 64 + i2.val % 64; omega),
          e0, e1, e2]
        rfl), (h c).2⟩) (Cert.AttnRefIdeal.Value.run m' ρ')⟩

end Cert.Proof

end
-- ==== Proof.Mods.lean ====
module

public import proofs.«01_k».proof.Defs
public import proofs.«01_k».proof.Proof.Gen.ModsIdeal.Value
public import proofs.«01_k».proof.Proof.Gen.ModsRefIdeal.Run
public import Idealize.ShloMosaic.Lib.Pipeline.ValueKit
public import Idealize.ShloMosaic.Lib.StableHlo.Run
public import Idealize.ShloMosaic.Lib.Tactic
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

/-! # The modulation vectors: what the kernel's result array holds, index by index -/

namespace Cert.ModsIdeal.Hand

open Cert.ModsIdeal Cert.ModsIdeal.Gen Cert.ModsIdeal.Value

variable (m : (ℓ : Loc nD τ sig) → Buf (Elt Ideal) ℓ)

theorem hz : (![0, 0, 0] : Fin 3 → Nat) = fun _ => 0 := funext fun a => by fin_cases a <;> rfl

/-- The launched conditioning rows, weights and biases. -/
abbrev cA (c : Dev nD) : Vec Ideal S16x2048 .f32 := m ((c : Thread nD τ).loc main_arg0)
abbrev wA (c : Dev nD) : Vec Ideal S2x2048x12288 .f32 := m ((c : Thread nD τ).loc main_arg1)
abbrev bA (c : Dev nD) : Vec Ideal S2x12288 .f32 := m ((c : Thread nD τ).loc main_arg2)

/-- One entry of a layer's modulations. -/
def modE (x : Vec Ideal S16x2048 .f32) (w : Vec Ideal S2x2048x12288 .f32) (b : Vec Ideal S2x12288 .f32) (l : Fin 2) (r : Fin 16) (j : Fin 12288) : EReal :=
  (∑ k : Fin 2048, x (ix2 r k) * Ideal.logistic (x (ix2 r k)) * w (ix3 l k j)) + b (ix2 l j)

/-- Where each window stands at a point. -/
theorem idx_facts : ∀ t : Fin cfg0.N, (win0_0.index t (0 : Fin 2) = 0 ∧ win0_0.index t (1 : Fin 2) = 0)
    ∧ (win0_1.index t (0 : Fin 3) = t.val / 12 ∧ win0_1.index t (1 : Fin 3) = 0 ∧ win0_1.index t (2 : Fin 3) = t.val % 12)
    ∧ (win0_2.index t (0 : Fin 3) = t.val / 12 ∧ win0_2.index t (1 : Fin 3) = 0 ∧ win0_2.index t (2 : Fin 3) = t.val % 12)
    ∧ (win0_3.index t (0 : Fin 3) = t.val / 12 ∧ win0_3.index t (1 : Fin 3) = 0 ∧ win0_3.index t (2 : Fin 3) = t.val % 12) :=
  (by decide +kernel : ∀ t : Fin grid0.N, _)

theorem t_lt (t : Fin cfg0.N) : t.val < 24 := lt_of_lt_of_eq t.isLt N_0

theorem blk0 (c : Dev nD) (t : Fin cfg0.N) (r : Fin 16) (k : Fin 2048) :
    (iblk m c 0 t : Vec Ideal S16x2048 .f32) (ix2 r k) = cA m c (ix2 r k) := by
  obtain ⟨⟨h0, h1⟩, -⟩ := idx_facts t
  show V m c main_arg0 (((cfg0.win 0).blk t).view.emb (ix2 r k)) = _
  rw [V_main_arg0]
  refine congrArg (cA m c) (funext fun a => Fin.ext ?_)
  match a with
  | ⟨0, _⟩ => show win0_0.index t (0 : Fin 2) * 16 + 1 * r.val = r.val; rw [h0]; omega
  | ⟨1, _⟩ => show win0_0.index t (1 : Fin 2) * 2048 + 1 * k.val = k.val; rw [h1]; omega

theorem blk1 (c : Dev nD) (t : Fin cfg0.N) (k : Fin 2048) (j : Fin 1024) (l : Fin 2) (J : Fin 12288) (hl : l.val = t.val / 12) (hJ : J.val = t.val % 12 * 1024 + j.val) :
    (iblk m c 1 t : Vec Ideal S1x2048x1024 .f32) (ix3 0 k j) = wA m c (ix3 l k J) := by
  obtain ⟨-, ⟨h0, h1, h2⟩, -⟩ := idx_facts t
  show V m c main_arg1 (((cfg0.win 1).blk t).view.emb (ix3 0 k j)) = _
  rw [V_main_arg1]
  refine congrArg (wA m c) (funext fun a => Fin.ext ?_)
  match a with
  | ⟨0, _⟩ => show win0_1.index t (0 : Fin 3) * 1 + 1 * 0 = l.val; rw [h0]; omega
  | ⟨1, _⟩ => show win0_1.index t (1 : Fin 3) * 2048 + 1 * k.val = k.val; rw [h1]; omega
  | ⟨2, _⟩ => show win0_1.index t (2 : Fin 3) * 1024 + 1 * j.val = J.val; rw [h2]; omega

theorem blk2 (c : Dev nD) (t : Fin cfg0.N) (j : Fin 1024) (l : Fin 2) (J : Fin 12288) (hl : l.val = t.val / 12) (hJ : J.val = t.val % 12 * 1024 + j.val) :
    (iblk m c 2 t : Vec Ideal S1x1x1024 .f32) (ix3 0 0 j) = bA m c (ix2 l J) := by
  obtain ⟨-, -, ⟨h0, h1, h2⟩, -⟩ := idx_facts t
  have e : V m c main_v0 = shapeCast S2x1x12288 (bA m c) shapeCasts_S2x12288_S2x1x12288 := by
    unfold V; after_results <;> rfl
  show V m c main_v0 (((cfg0.win 2).blk t).view.emb (ix3 0 0 j)) = _
  have e2 : ((cfg0.win 2).blk t).view.emb (ix3 0 0 j) = (ix3 l 0 J : S2x1x12288.Idx) := funext fun a => Fin.ext (by
    match a with
    | ⟨0, _⟩ => show win0_2.index t (0 : Fin 3) * 1 + 1 * 0 = l.val; rw [h0]; omega
    | ⟨1, _⟩ => show win0_2.index t (1 : Fin 3) * 1 + 1 * 0 = 0; rw [h1]
    | ⟨2, _⟩ => show win0_2.index t (2 : Fin 3) * 1024 + 1 * j.val = J.val; rw [h2]; omega)
  rw [e, e2]
  pointwise

/-- The payload of the store, read at an entry over arbitrary blocks. -/
theorem pay1_apply (x : Vec Ideal S16x2048 .f32) (w : Vec Ideal S1x2048x1024 .f32) (b : Vec Ideal S1x1x1024 .f32) (r : Fin 16) (j : Fin 1024) :
    (k0_pay1 (View.ld x r0_0) (View.ld w r0_1) (View.ld b r0_2) : Vec Ideal S1x16x1024 .f32) (ix3 0 r j)
      = (∑ k : Fin 2048, x (ix2 r k) * Ideal.logistic (x (ix2 r k)) * w (ix3 0 k j)) + b (ix3 0 0 j) := by
  pointwise [k0_pay1, r0_0, r0_1, r0_2]

theorem out3_apply (c : Dev nD) (t : Fin cfg0.N) (r : Fin 16) (j : Fin 1024) (l : Fin 2) (J : Fin 12288) (hl : l.val = t.val / 12) (hJ : J.val = t.val % 12 * 1024 + j.val) :
    (out0_3 (iblk m c 0 t) (iblk m c 1 t) (iblk m c 2 t) : Vec Ideal S1x16x1024 .f32) (ix3 0 r j) = modE (cA m c) (wA m c) (bA m c) l r J := by
  unfold out0_3
  refine (congrFun (View.canon_unit_zero hz _ _) (ix3 0 r j)).trans ?_
  refine (pay1_apply (iblk m c 0 t) (iblk m c 1 t) (iblk m c 2 t) r j).trans ?_
  simp only [blk0 m c t, blk1 m c t _ j l J hl hJ, blk2 m c t j l J hl hJ]
  rfl

theorem emb3 (t : Fin cfg0.N) (r : Fin 16) (j : Fin 1024) (l : Fin 2) (J : Fin 12288) (hl : l.val = t.val / 12) (hJ : J.val = t.val % 12 * 1024 + j.val) :
    ((cfg0.win 3).blk t).view.emb (ix3 0 r j) = (ix3 l r J : S2x16x12288.Idx) := by
  obtain ⟨-, -, -, ⟨h0, h1, h2⟩⟩ := idx_facts t
  exact funext fun a => Fin.ext (by
    match a with
    | ⟨0, _⟩ => show win0_3.index t (0 : Fin 3) * 1 + 1 * 0 = l.val; rw [h0]; omega
    | ⟨1, _⟩ => show win0_3.index t (1 : Fin 3) * 16 + 1 * r.val = r.val; rw [h1]; omega
    | ⟨2, _⟩ => show win0_3.index t (2 : Fin 3) * 1024 + 1 * j.val = J.val; rw [h2]; omega)

/-- The result array at an index. -/
theorem arr3 (c : Dev nD) (l : Fin 2) (r : Fin 16) (J : Fin 12288) :
    ((dats m 0 c).arrAt 3 cfg0.N : Vec Ideal S2x16x12288 .f32) (ix3 l r J) = modE (cA m c) (wA m c) (bA m c) l r J := by
  have ht : l.val * 12 + J.val / 1024 < cfg0.N := lt_of_lt_of_eq (by omega) N_0.symm
  have hl : l.val = (l.val * 12 + J.val / 1024) / 12 := by omega
  have hJ : J.val = (l.val * 12 + J.val / 1024) % 12 * 1024 + J.val % 1024 := by omega
  have e := congrFun (blocks3 m c ⟨l.val * 12 + J.val / 1024, ht⟩ (flush0_3 _)) (ix3 0 r ⟨J.val % 1024, by omega⟩ : S1x16x1024.Idx)
  rw [flushed3] at e
  rw [View.read_apply, emb3 ⟨l.val * 12 + J.val / 1024, ht⟩ r ⟨J.val % 1024, by omega⟩ l J hl hJ] at e
  exact e.trans (out3_apply m c ⟨l.val * 12 + J.val / 1024, ht⟩ r ⟨J.val % 1024, by omega⟩ l J hl hJ)

end Cert.ModsIdeal.Hand

namespace Cert.ModsRefIdeal.Hand

open Cert.ModsRefIdeal Cert.ModsRefIdeal.Gen

/-- The reference's term at an index. -/
theorem ref_apply (x : Vec Ideal S16x2048 .f32) (w : Vec Ideal S2x2048x12288 .f32) (b : Vec Ideal S2x12288 .f32) (l : Fin 2) (r : Fin 16) (j : Fin 12288) :
    (addf (transpose S2x16x12288 [0, 2, 1] (Host.dotGeneral (φ₁ := .f32) (φ₂ := .f32) dot_S2x2048x12288_S16x2048_S2x12288x16_1_1_02_0_n_n none w (mulf x (Host.divf (broadcastInDim S16x2048 ![] bcast_S_S16x2048 (constant (F := Ideal) S_ .f32 0x3F800000#32)) (addf (broadcastInDim S16x2048 ![] bcast_S_S16x2048 (constant (F := Ideal) S_ .f32 0x3F800000#32)) (Host.exp (Host.negf x)))))) transposes_S2x12288x16_S2x16x12288_0_2_1)
      (broadcastInDim S2x16x12288 ![0, 1, 2] bcast_S2x1x12288_S2x16x12288_0_1_2 (broadcastInDim S2x1x12288 ![0, 2] bcast_S2x12288_S2x1x12288_0_2 b)) : FVec Ideal S2x16x12288 .f32) (ix3 l r j)
      = Cert.ModsIdeal.Hand.modE x w b l r j := by
  unfold Cert.ModsIdeal.Hand.modE
  pointwise
  simp only [mul_comm]
  rfl

end Cert.ModsRefIdeal.Hand

namespace Cert.Proof

/-- The reference of the modulation vectors ends with its arguments as launched. -/
theorem frame_ModsRefIdeal : Cert.quiescent_ModsRefIdeal := fun m ρ _ =>
  (θ_run Cert.ModsRefIdeal.defs _ _).mono (fun r h => ⟨fun c => (h c).2, sem_eq_zero_of_no_sems (by decide) r.2⟩)
    (Cert.ModsRefIdeal.Value.run m ρ)

/-- The modulation vectors' two programs end with equal results. -/
theorem algebraic_mods : Cert.algebraic_ModsIdeal_ModsRefIdeal := fun m ρ m' ρ' _ hag =>
  ⟨fun c => (Cert.ModsIdeal.Gen.dats m 0 c).arrAt 3 Cert.ModsIdeal.cfg0.N, Cert.ModsIdeal.Value.run_blocks m ρ,
    (θ_run _ _ _).mono (fun r h c => ⟨(h c).1.trans (funext fun (i : Cert.ModsIdeal.S2x16x12288.Idx) => by
        idx_vars i
        obtain ⟨e0, e1, e2⟩ := hag c
        refine (Cert.ModsRefIdeal.Hand.ref_apply _ _ _ i0 i1 i2).trans ?_
        rw [e0, e1, e2]
        exact (Cert.ModsIdeal.Hand.arr3 m c i0 i1 i2).symm), (h c).2⟩) (Cert.ModsRefIdeal.Value.run m' ρ')⟩

end Cert.Proof

end
-- ==== Proof.CtxPoint.lean ====
module

public import proofs.«01_k».proof.Proof.Gen.CtxAttnIdeal.Value
public import proofs.«01_k».proof.Proof.AttnTile
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! # The context's attention: its statement, and one block's two heads entry by entry -/

namespace Cert.Softmax

/-- The attention of one query over one family of scores: the values weighted by their softmax. -/
def att1 {U : Type} [Fintype U] (u : U → EReal) (w : U → EReal) : EReal :=
  ∑ i, Ideal.div (Ideal.exp (u i - top u)) (∑ j, Ideal.exp (u j - top u)) * w i

/-- The same, the weighted sum divided by the sum of the weights. -/
def ratio1 {U : Type} [Fintype U] (u : U → EReal) (w : U → EReal) : EReal :=
  Ideal.div (∑ i, Ideal.exp (u i - top u) * w i) (∑ i, Ideal.exp (u i - top u))

/-- The sum of the weights of real scores is a positive real. -/
theorem weights_real {U : Type} [Fintype U] [Nonempty U] (u : U → EReal) (hu : ∀ i, IsReal (u i)) :
    ∃ r : ℝ, 0 < r ∧ ∑ i, Ideal.exp (u i - top u) = (r : EReal) := by
  choose g hg hf using fun i => exp_real (hu i) (top_real u hu)
  refine ⟨∑ i, g i, Finset.sum_pos (fun i _ => hg i) Finset.univ_nonempty, ?_⟩
  rw [coe_sum]
  exact Finset.sum_congr rfl fun i _ => hf i

/-- For real scores dividing after the sum or before it is the same. -/
theorem ratio1_eq {U : Type} [Fintype U] [Nonempty U] (u : U → EReal) (w : U → EReal) (hu : ∀ i, IsReal (u i)) : ratio1 u w = att1 u w := by
  obtain ⟨d, hd, eD⟩ := weights_real u hu
  unfold ratio1 att1
  rw [eD]
  have hdiv : ∀ x, Ideal.div x (d : EReal) = x * ((d⁻¹ : ℝ) : EReal) := fun x => (if_neg (by exact_mod_cast hd.ne')).trans (by rw [EReal.coe_inv])
  simp only [hdiv]
  rw [sum_mul_real _ _ (by exact_mod_cast (inv_pos.mpr hd).le) (EReal.coe_ne_top _)]
  exact Finset.sum_congr rfl fun i _ => mul_right_comm _ _ _

end Cert.Softmax

namespace Cert.CtxAttn

open Cert.Attn (qCol kCol vCol eighth eighth_eq)

/-- The score of a key for a query, both of the context. -/
def score (B : Fin 8 → Fin 256 → Fin 4096 → EReal) (b : Fin 8) (h : Fin 16) (n i : Fin 256) : EReal :=
  (∑ d, B b n (qCol h d) * B b i (kCol h d)) * eighth

theorem score_real (B : Fin 8 → Fin 256 → Fin 4096 → EReal) (b : Fin 8) (h : Fin 16) (n i : Fin 256) (hq : ∀ n d, Softmax.IsReal (B b n (qCol h d)))
    (hk : ∀ n d, Softmax.IsReal (B b n (kCol h d))) : Softmax.IsReal (score B b h n i) :=
  Softmax.mul_real (Softmax.finset_sum_real _ _ fun d => Softmax.mul_real (hq _ d) (hk _ d)) ⟨_, eighth_eq⟩

/-- The attention of the query `n`, head `h`, component `d`. -/
def entry (B : Fin 8 → Fin 256 → Fin 4096 → EReal) (b : Fin 8) (n : Fin 256) (h : Fin 16) (d : Fin 64) : EReal :=
  Softmax.att1 (score B b h n) fun i => B b i (vCol h d)

end Cert.CtxAttn

namespace Cert.CtxAttnIdeal.Hand

open Cert.CtxAttnIdeal Cert.CtxAttnIdeal.Gen
open Cert.AttnIdeal.Hand (lane headDot lanes0 lanes1 lane_bits negInf_f32)

section
variable (q k v : Vec Ideal S1x256x128 .bf16)

/-- A query's scores over the block's keys, by head. -/
def tU (hh : Fin 2) (i n : Fin 256) : EReal := headDot (fun l => q (ix3 0 i l)) (fun l => k (ix3 0 n l)) hh

theorem pay2_apply (hh : Fin 2) (d : Fin 64) : k0_pay2 (ix2 0 (lane hh d)) = if hh = 0 then 1#1 else 0#1 := by
  unfold k0_pay2
  pointwise
  exact lane_bits hh d

theorem pay5_apply (n : Fin 256) (l : Fin 128) : (k0_pay5 v : FVec Ideal S256x128 .bf16) (ix2 n l) = v (ix3 0 n l) := by
  unfold k0_pay5
  pointwise

theorem pay7_apply (i n : Fin 256) : (k0_pay7 q k : FVec Ideal S256x256 .f32) (ix2 i n) = tU q k 1 i n := by
  unfold tU
  rw [← lanes1]
  unfold k0_pay7 k0_pay3 k0_pay4 k0_pay2
  pointwise

/-- The first head's quotient, at a lane. -/
theorem pay6_apply (i : Fin 256) (l : Fin 128) :
    (k0_pay6 q k v : FVec Ideal S256x128 .f32) (ix2 i l) = Softmax.ratio1 (tU q k 0 i) fun n => v (ix3 0 n l) := by
  have e : tU q k 0 i = fun n => ∑ x : Fin 128, Scalar.select (IntOp.cmpi CmpIPredicate.slt (BitVec.ofNat 32 x.val) 64#32) (q (ix3 0 i x) * Ideal.ofBits .bf16 15872#16) (0 : EReal) * k (ix3 0 n x) :=
    funext fun n => (lanes0 _ _).symm
  rw [e]
  unfold k0_pay6 k0_pay3 k0_pay4 k0_pay2
  pointwise [pay5_apply]
  rw [negInf_f32]
  rfl

/-- What a point stores, at an entry: the head's attention with the division after the sums. -/
theorem pay1_apply (i : Fin 256) (hh : Fin 2) (d : Fin 64) :
    (k0_pay1 k0_pay2 (k0_pay5 v) (k0_pay6 q k v) (k0_pay7 q k) : FVec Ideal S1x256x128 .bf16) (ix3 0 i (lane hh d))
      = Softmax.ratio1 (tU q k hh i) fun n => v (ix3 0 n (lane hh d)) := by
  unfold k0_pay1
  pointwise [pay2_apply, pay5_apply, pay6_apply, pay7_apply]
  rw [negInf_f32]
  match hh with
  | 0 => rfl
  | 1 => rfl

end

end Cert.CtxAttnIdeal.Hand

end
-- ==== Proof.CtxValue.lean ====
module

public import proofs.«01_k».proof.Proof.CtxPoint

@[expose] public section

set_option maxRecDepth 16384

noncomputable section

open Idealize.ShloMosaic Idealize.ShloMosaic.TcCoe Idealize.SL.Sem

/-! # The context's attention: what the kernel's result array holds -/

namespace Cert.CtxAttnIdeal.Hand

open Cert.CtxAttnIdeal Cert.CtxAttnIdeal.Gen Cert.CtxAttnIdeal.Value
open Cert.AttnIdeal.Hand (lane)
open Cert.Attn (qCol kCol vCol)

variable (m : (ℓ : Loc nD τ sig) → Buf (Elt Ideal) ℓ)

theorem hz : (![0, 0, 0] : Fin 3 → Nat) = fun _ => 0 := funext fun a => by fin_cases a <;> rfl

/-- The launched projection of the context. -/
abbrev bA (c : Dev nD) : Vec Ideal S8x256x4096 .bf16 := m ((c : Thread nD τ).loc main_arg0)

/-- Where each window stands at a point. -/
theorem idx_facts : ∀ t : Fin cfg0.N, (win0_0.index t (0 : Fin 3) = t.val / 8 ∧ win0_0.index t (1 : Fin 3) = 0 ∧ win0_0.index t (2 : Fin 3) = t.val % 8)
    ∧ (win0_1.index t (0 : Fin 3) = t.val / 8 ∧ win0_1.index t (1 : Fin 3) = 0 ∧ win0_1.index t (2 : Fin 3) = 8 + t.val % 8)
    ∧ (win0_2.index t (0 : Fin 3) = t.val / 8 ∧ win0_2.index t (1 : Fin 3) = 0 ∧ win0_2.index t (2 : Fin 3) = 16 + t.val % 8)
    ∧ (win0_3.index t (0 : Fin 3) = t.val / 8 ∧ win0_3.index t (1 : Fin 3) = 0 ∧ win0_3.index t (2 : Fin 3) = t.val % 8) :=
  (by decide +kernel : ∀ t : Fin grid0.N, _)

theorem t_lt (t : Fin cfg0.N) : t.val < 64 := lt_of_lt_of_eq t.isLt N_0

theorem blk0 (c : Dev nD) (t : Fin cfg0.N) (n : Fin 256) (hh : Fin 2) (d : Fin 64) (b : Fin 8) (h : Fin 16) (hb : b.val = t.val / 8) (hh' : h.val = 2 * (t.val % 8) + hh.val) :
    (iblk m c 0 t : Vec Ideal S1x256x128 .bf16) (ix3 0 n (lane hh d)) = bA m c (ix3 b n (qCol h d)) := by
  obtain ⟨h0, h1, h2⟩ := (idx_facts t).1
  show V m c main_arg0 (((cfg0.win 0).blk t).view.emb (ix3 0 n (lane hh d))) = _
  rw [V_main_arg0]
  refine congrArg (bA m c) (funext fun a => Fin.ext ?_)
  match a with
  | ⟨0, _⟩ => show win0_0.index t (0 : Fin 3) * 1 + 1 * 0 = b.val; rw [h0]; omega
  | ⟨1, _⟩ => show win0_0.index t (1 : Fin 3) * 256 + 1 * n.val = n.val; rw [h1]; omega
  | ⟨2, _⟩ => show win0_0.index t (2 : Fin 3) * 128 + 1 * (hh.val * 64 + d.val) = h.val * 64 + d.val; rw [h2]; omega

theorem blk1 (c : Dev nD) (t : Fin cfg0.N) (n : Fin 256) (hh : Fin 2) (d : Fin 64) (b : Fin 8) (h : Fin 16) (hb : b.val = t.val / 8) (hh' : h.val = 2 * (t.val % 8) + hh.val) :
    (iblk m c 1 t : Vec Ideal S1x256x128 .bf16) (ix3 0 n (lane hh d)) = bA m c (ix3 b n (kCol h d)) := by
  obtain ⟨h0, h1, h2⟩ := (idx_facts t).2.1
  show V m c main_arg0 (((cfg0.win 1).blk t).view.emb (ix3 0 n (lane hh d))) = _
  rw [V_main_arg0]
  refine congrArg (bA m c) (funext fun a => Fin.ext ?_)
  match a with
  | ⟨0, _⟩ => show win0_1.index t (0 : Fin 3) * 1 + 1 * 0 = b.val; rw [h0]; omega
  | ⟨1, _⟩ => show win0_1.index t (1 : Fin 3) * 256 + 1 * n.val = n.val; rw [h1]; omega
  | ⟨2, _⟩ => show win0_1.index t (2 : Fin 3) * 128 + 1 * (hh.val * 64 + d.val) = 1024 + (h.val * 64 + d.val); rw [h2]; omega

theorem blk2 (c : Dev nD) (t : Fin cfg0.N) (n : Fin 256) (hh : Fin 2) (d : Fin 64) (b : Fin 8) (h : Fin 16) (hb : b.val = t.val / 8) (hh' : h.val = 2 * (t.val % 8) + hh.val) :
    (iblk m c 2 t : Vec Ideal S1x256x128 .bf16) (ix3 0 n (lane hh d)) = bA m c (ix3 b n (vCol h d)) := by
  obtain ⟨h0, h1, h2⟩ := (idx_facts t).2.2.1
  show V m c main_arg0 (((cfg0.win 2).blk t).view.emb (ix3 0 n (lane hh d))) = _
  rw [V_main_arg0]
  refine congrArg (bA m c) (funext fun a => Fin.ext ?_)
  match a with
  | ⟨0, _⟩ => show win0_2.index t (0 : Fin 3) * 1 + 1 * 0 = b.val; rw [h0]; omega
  | ⟨1, _⟩ => show win0_2.index t (1 : Fin 3) * 256 + 1 * n.val = n.val; rw [h1]; omega
  | ⟨2, _⟩ => show win0_2.index t (2 : Fin 3) * 128 + 1 * (hh.val * 64 + d.val) = 2048 + (h.val * 64 + d.val); rw [h2]; omega

/-- Queries and keys are real. -/
def ScoresReal (c : Dev nD) : Prop :=
  (∀ b n h d, Softmax.IsReal (bA m c (ix3 b n (qCol h d)))) ∧ ∀ b n h d, Softmax.IsReal (bA m c (ix3 b n (kCol h d)))

/-- The projection as a function of its coordinates. -/
abbrev fB (y : Vec Ideal S8x256x4096 .bf16) : Fin 8 → Fin 256 → Fin 4096 → EReal := fun b n l => y (ix3 b n l)

/-- What a point stores, read from its whole blocks. -/
theorem stored_apply (q k v : Vec Ideal S1x256x128 .bf16) (i : Fin 256) (hh : Fin 2) (d : Fin 64) :
    (k0_pay1 k0_pay2 (k0_pay5 (View.ld v r0_0)) (k0_pay6 (View.ld q r0_0) (View.ld k r0_0) (View.ld v r0_0)) (k0_pay7 (View.ld q r0_0) (View.ld k r0_0)) : FVec Ideal S1x256x128 .bf16) (ix3 0 i (lane hh d))
      = Softmax.ratio1 (tU q k hh i) fun n => v (ix3 0 n (lane hh d)) := by
  have hld : ∀ x : Vec Ideal S1x256x128 .bf16, View.ld x r0_0 = x := fun x => View.ld_unit_zero hz _ _
  rw [hld, hld, hld]
  exact pay1_apply q k v i hh d

theorem out3_apply (c : Dev nD) (hf : ScoresReal m c) (t : Fin cfg0.N) (n : Fin 256) (hh : Fin 2) (d : Fin 64) (b : Fin 8) (h : Fin 16) (hb : b.val = t.val / 8) (hh' : h.val = 2 * (t.val % 8) + hh.val) :
    (out0_3 (iblk m c 0 t) (iblk m c 1 t) (iblk m c 2 t) : Vec Ideal S1x256x128 .bf16) (ix3 0 n (lane hh d)) = Cert.CtxAttn.entry (fB (bA m c)) b n h d := by
  unfold out0_3
  refine (congrFun (View.canon_unit_zero hz _ _) (ix3 0 n (lane hh d))).trans ?_
  refine (stored_apply (iblk m c 0 t) (iblk m c 1 t) (iblk m c 2 t) n hh d).trans ?_
  have e : tU (iblk m c 0 t) (iblk m c 1 t) hh n = Cert.CtxAttn.score (fB (bA m c)) b h n := funext fun i => by
    unfold tU Cert.AttnIdeal.Hand.headDot Cert.CtxAttn.score
    simp only [blk0 m c t _ hh _ b h hb hh', blk1 m c t _ hh _ b h hb hh']
  rw [e, Softmax.ratio1_eq _ _ fun i => Cert.CtxAttn.score_real (fB (bA m c)) b h n i (fun n d => hf.1 b n h d) fun n d => hf.2 b n h d]
  simp only [blk2 m c t _ hh _ b h hb hh']
  rfl

theorem emb3 (t : Fin cfg0.N) (n : Fin 256) (l : Fin 128) (b : Fin 8) (C : Fin 1024) (hb : b.val = t.val / 8) (hC : C.val = t.val % 8 * 128 + l.val) :
    ((cfg0.win 3).blk t).view.emb (ix3 0 n l) = (ix3 b n C : S8x256x1024.Idx) := by
  obtain ⟨h0, h1, h2⟩ := (idx_facts t).2.2.2
  exact funext fun a => Fin.ext (by
    match a with
    | ⟨0, _⟩ => show win0_3.index t (0 : Fin 3) * 1 + 1 * 0 = b.val; rw [h0]; omega
    | ⟨1, _⟩ => show win0_3.index t (1 : Fin 3) * 256 + 1 * n.val = n.val; rw [h1]; omega
    | ⟨2, _⟩ => show win0_3.index t (2 : Fin 3) * 128 + 1 * l.val = C.val; rw [h2]; omega)

/-- The result array at an index. -/
theorem arr3 (c : Dev nD) (hf : ScoresReal m c) (b : Fin 8) (n : Fin 256) (C : Fin 1024) (h : Fin 16) (d : Fin 64) (hC : C.val = h.val * 64 + d.val) :
    ((dats m 0 c).arrAt 3 cfg0.N : Vec Ideal S8x256x1024 .bf16) (ix3 b n C) = Cert.CtxAttn.entry (fB (bA m c)) b n h d := by
  let t : Fin cfg0.N := ⟨b.val * 8 + h.val / 2, lt_of_lt_of_eq (by omega) N_0.symm⟩
  have hb : b.val = t.val / 8 := by show b.val = (b.val * 8 + h.val / 2) / 8; omega
  have hp : t.val % 8 = h.val / 2 := by show (b.val * 8 + h.val / 2) % 8 = h.val / 2; omega
  let hh : Fin 2 := ⟨h.val % 2, by omega⟩
  have hh' : h.val = 2 * (t.val % 8) + hh.val := by rw [hp]; show h.val = 2 * (h.val / 2) + h.val % 2; omega
  have hC' : C.val = t.val % 8 * 128 + (lane hh d).val := by rw [hp]; show C.val = h.val / 2 * 128 + (h.val % 2 * 64 + d.val); omega
  have e := congrFun (blocks3 m c t (flush0_3 _)) (ix3 0 n (lane hh d) : S1x256x128.Idx)
  rw [flushed3] at e
  rw [View.read_apply, emb3 t n (lane hh d) b C hb hC'] at e
  exact e.trans (out3_apply m c hf t n hh d b h hb hh')

end Cert.CtxAttnIdeal.Hand

end
-- ==== Proof.CtxRef.lean ====
module

public import proofs.«01_k».proof.Proof.Gen.CtxAttnRefIdeal.Run
public import proofs.«01_k».proof.Proof.CtxPoint
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! # The reference's attention of the context, entry by entry -/

namespace Cert.CtxAttnRefIdeal.Hand

open Cert.CtxAttnRefIdeal Cert.CtxAttnRefIdeal.Gen
open Cert.Attn (qCol kCol vCol)

variable (y : Vec Ideal S8x256x4096 .bf16)

/-- The queries, keys and values by head. -/
def q4 : FVec Ideal S8x256x16x64 .f32 :=
  shapeCast _ (extractStridedSlice S8x256x1024 ![0, 0, 0] (extf .f32 y bitsLt_bf16_f32) slices_S8x256x4096_S8x256x1024_0_0_0) shapeCasts_S8x256x1024_S8x256x16x64
def k4 : FVec Ideal S8x256x16x64 .f32 :=
  shapeCast _ (extractStridedSlice S8x256x1024 ![0, 0, 1024] (extf .f32 y bitsLt_bf16_f32) slices_S8x256x4096_S8x256x1024_0_0_1024) shapeCasts_S8x256x1024_S8x256x16x64
def v4 : FVec Ideal S8x256x16x64 .f32 :=
  shapeCast _ (extractStridedSlice S8x256x1024 ![0, 0, 2048] (extf .f32 y bitsLt_bf16_f32) slices_S8x256x4096_S8x256x1024_0_0_2048) shapeCasts_S8x256x1024_S8x256x16x64

theorem q4_apply (b : Fin 8) (i : Fin 256) (h : Fin 16) (d : Fin 64) : q4 y (ix4 b i h d) = y (ix3 b i (qCol h d)) := by
  unfold q4
  pointwise
  rfl
theorem k4_apply (b : Fin 8) (i : Fin 256) (h : Fin 16) (d : Fin 64) : k4 y (ix4 b i h d) = y (ix3 b i (kCol h d)) := by
  unfold k4
  pointwise
  rfl
theorem v4_apply (b : Fin 8) (i : Fin 256) (h : Fin 16) (d : Fin 64) : v4 y (ix4 b i h d) = y (ix3 b i (vCol h d)) := by
  unfold v4
  pointwise
  rfl

/-- The scores. -/
def scores : FVec Ideal S8x16x256x256 .f32 :=
  mulf (Host.dotGeneral dot_S8x256x16x64_S8x256x16x64_S8x16x256x256_3_3_1_1_02_02 none (q4 y) (k4 y)) (broadcastInDim S8x16x256x256 ![] bcast_S_S8x16x256x256 (constant (F := Ideal) S_ .f32 0x3E000000#32))

/-- The greatest of each query's scores. -/
def tops (s : FVec Ideal S8x16x256x256 .f32) : FVec Ideal S8x16x256 .f32 :=
  maximumf (broadcastInDim S8x16x256 ![] bcast_S_S8x16x256 (constant (F := Ideal) S_ .f32 0xFF800000#32)) (Host.reduce FloatOps.maximumf s (constant (F := Ideal) S_ .f32 0xFF800000#32) reducesTo_S8x16x256x256_S8x16x256_d3 h_S_)

/-- The exponentials of what the scores lack to it … -/
def weights (s : FVec Ideal S8x16x256x256 .f32) : FVec Ideal S8x16x256x256 .f32 :=
  Host.exp (subf s (broadcastInDim S8x16x256x256 ![0, 1, 2, 3] bcast_S8x16x256x1_S8x16x256x256_0_1_2_3 (broadcastInDim S8x16x256x1 ![0, 1, 2] bcast_S8x16x256_S8x16x256x1_0_1_2 (tops s))))

/-- … divided by their sum. -/
def probs (s : FVec Ideal S8x16x256x256 .f32) : FVec Ideal S8x16x256x256 .f32 :=
  Host.divf (weights s) (broadcastInDim S8x16x256x256 ![0, 1, 2, 3] bcast_S8x16x256x1_S8x16x256x256_0_1_2_3 (broadcastInDim S8x16x256x1 ![0, 1, 2] bcast_S8x16x256_S8x16x256x1_0_1_2 (Host.reduceAdd (weights s) (constant (F := Ideal) S_ .f32 0x00000000#32) reducesTo_S8x16x256x256_S8x16x256_d3 h_S_)))

/-- The values weighted by a softmax `p`. -/
def weighted (p : FVec Ideal S8x16x256x256 .f32) : Vec Ideal S8x256x1024 .bf16 :=
  truncf .bf16 (shapeCast S8x256x1024 (transpose S8x256x16x64 [0, 3, 1, 2] (Host.dotGeneral (F := Ideal) dot_S8x256x16x64_S8x16x256x256_S8x16x64x256_1_3_3_2_02_01 none (v4 y) p) transposes_S8x16x64x256_S8x256x16x64_0_3_1_2) shapeCasts_S8x256x16x64_S8x256x1024) bitsLt_bf16_f32

/-- An argument as a function of its coordinates. -/
abbrev fB : Fin 8 → Fin 256 → Fin 4096 → EReal := fun b n l => y (ix3 b n l)

theorem scores_apply (b : Fin 8) (h : Fin 16) (n i : Fin 256) : scores y (ix4 b h n i) = Cert.CtxAttn.score (fB y) b h n i := by
  unfold scores
  pointwise [q4_apply, k4_apply]
  rfl

theorem red_apply (s : FVec Ideal S8x16x256x256 .f32) (b : Fin 8) (h : Fin 16) (n : Fin 256) :
    (Host.reduce FloatOps.maximumf s (constant (F := Ideal) S_ .f32 0xFF800000#32) reducesTo_S8x16x256x256_S8x16x256_d3 h_S_ : FVec Ideal S8x16x256 .f32) (ix3 b h n)
      = Finset.fold max (Ideal.ofBits .f32 4286578688#32) (fun x => s (ix4 b h n x)) Finset.univ := by
  pointwise

theorem max_at (x z : FVec Ideal S8x16x256 .f32) (j : S8x16x256.Idx) : maximumf x z j = max (x j) (z j) := rfl

theorem negInf_at (j : S8x16x256.Idx) : (broadcastInDim S8x16x256 ![] bcast_S_S8x16x256 (constant (F := Ideal) S_ .f32 0xFF800000#32) : FVec Ideal S8x16x256 .f32) j = Ideal.ofBits .f32 4286578688#32 := by pointwise

theorem tops_apply (s : FVec Ideal S8x16x256x256 .f32) (b : Fin 8) (h : Fin 16) (n : Fin 256) : tops s (ix3 b h n) = Softmax.top fun i => s (ix4 b h n i) := by
  unfold tops
  rw [max_at, negInf_at, red_apply, Cert.AttnIdeal.Hand.negInf_f32]
  exact bot_sup_eq _

theorem weights_apply (s : FVec Ideal S8x16x256x256 .f32) (b : Fin 8) (h : Fin 16) (n i : Fin 256) :
    weights s (ix4 b h n i) = Ideal.exp (s (ix4 b h n i) - tops s (ix3 b h n)) := by
  unfold weights
  pointwise

theorem probs_apply (s : FVec Ideal S8x16x256x256 .f32) (b : Fin 8) (h : Fin 16) (n i : Fin 256) :
    probs s (ix4 b h n i) = Ideal.div (weights s (ix4 b h n i)) (∑ j, weights s (ix4 b h n j)) := by
  unfold probs
  pointwise

theorem weighted_apply (p : FVec Ideal S8x16x256x256 .f32) (b : Fin 8) (n : Fin 256) (h : Fin 16) (d : Fin 64) (l : Fin 1024) (hl : l.val = h.val * 64 + d.val) :
    weighted y p (ix3 b n l) = ∑ i : Fin 256, p (ix4 b h n i) * y (ix3 b i (vCol h d)) := by
  have e3 : ∀ z, (⟨l.val / 64, z⟩ : Fin 16) = h := fun z => Fin.ext (by show l.val / 64 = h.val; omega)
  have e4 : ∀ z, (⟨l.val % 64, z⟩ : Fin 64) = d := fun z => Fin.ext (by show l.val % 64 = d.val; omega)
  unfold weighted
  pointwise [v4_apply]
  simp only [e3, e4]
  exact Finset.sum_congr rfl fun i _ => mul_comm _ _

/-- The reference's result, entry by entry. -/
theorem ref_apply (b : Fin 8) (n : Fin 256) (h : Fin 16) (d : Fin 64) (l : Fin 1024) (hl : l.val = h.val * 64 + d.val) :
    weighted y (probs (scores y)) (ix3 b n l) = Cert.CtxAttn.entry (fB y) b n h d := by
  rw [weighted_apply _ _ b n h d l hl]
  simp only [probs_apply, weights_apply, tops_apply, scores_apply]
  rfl

end Cert.CtxAttnRefIdeal.Hand

end
-- ==== Proof.CtxClaim.lean ====
module

public import proofs.«01_k».proof.Defs
public import proofs.«01_k».proof.Proof.AttnClaim
public import proofs.«01_k».proof.Proof.CtxValue
public import proofs.«01_k».proof.Proof.CtxRef
public import Idealize.ShloMosaic.Lib.Tactic
public import Idealize.ShloMosaic.Lib.Pointwise
public import Idealize.ShloMosaic.Adequacy
public import Idealize.ShloMosaic.Init

@[expose] public section

set_option maxRecDepth 16384

noncomputable section

open Idealize.ShloMosaic Idealize.ShloMosaic.TcCoe Idealize.SL.Sem

/-! # The claims of the context's attention -/

namespace Cert.Proof

open Cert.Attn (qCol kCol vCol)

/-- The precondition's shape relations. -/
instance pre_ctx_facts : Cert.Pre_ctx_finite.Facts := ⟨by decide, by decide⟩

/-- The reference ends with its argument as launched. -/
theorem frame_CtxAttnRefIdeal : Cert.quiescent_CtxAttnRefIdeal := fun m ρ _ =>
  (θ_run Cert.CtxAttnRefIdeal.defs _ _).mono (fun r h => ⟨fun c => (h c).2, sem_eq_zero_of_no_sems (by decide) r.2⟩)
    (Cert.CtxAttnRefIdeal.Value.run m ρ)

/-- The precondition's test, at an index. -/
theorem pre_ctx_at (y : FVec Ideal Cert.Pre_ctx_finite.S8x256x4096 .bf16) (b : Fin 8) (n : Fin 256) (l : Fin 2048) (l' : Fin 4096) (hl : l'.val = l.val) :
    (Cert.Pre_ctx_finite.fn (F := Ideal) y) (ix3 b n l) = Ideal.cmp .olt (max (y (ix3 b n l')) (-(y (ix3 b n l')))) ⊤ := by
  rw [← inf_bf16]
  refine congrArg (fun i => Ideal.cmp .olt (max (y i) (-(y i))) (Ideal.ofBits .bf16 0x7F80#16)) (funext fun a => Fin.ext ?_)
  match a with
  | ⟨0, _⟩ => show 0 + b.val = b.val; omega
  | ⟨1, _⟩ => show 0 + n.val = n.val; omega
  | ⟨2, _⟩ => show 0 + l.val = l'.val; omega

/-- Under the precondition queries and keys are real. -/
theorem ctx_scores_real (m : (ℓ : Loc Cert.CtxAttnIdeal.nD Cert.CtxAttnIdeal.τ Cert.CtxAttnIdeal.sig) → Buf (Elt Ideal) ℓ) (hpre : Cert.Pre_CtxAttnIdeal_ctx_finite m) (c : Dev Cert.CtxAttnIdeal.nD) :
    Cert.CtxAttnIdeal.Hand.ScoresReal m c := by
  refine ⟨fun b n h d => real_of_abs_lt _ ?_, fun b n h d => real_of_abs_lt _ ?_⟩
  · exact (pre_ctx_at _ b n ⟨h.val * 64 + d.val, by omega⟩ (qCol h d) rfl).symm.trans (congrFun (hpre c) _)
  · exact (pre_ctx_at _ b n ⟨1024 + (h.val * 64 + d.val), by omega⟩ (kCol h d) rfl).symm.trans (congrFun (hpre c) _)

/-- The reference's run, its result by the names given to its parts. -/
theorem ctx_run (m : (ℓ : Loc Cert.CtxAttnRefIdeal.nD Cert.CtxAttnRefIdeal.τ Cert.CtxAttnRefIdeal.sig) → Buf (Elt Ideal) ℓ) (ρ : Dev Cert.CtxAttnRefIdeal.nD → PrngReg) :
    θ_run Cert.CtxAttnRefIdeal.defs (onTc (τ := Cert.CtxAttnRefIdeal.τ) (Cert.CtxAttnRefIdeal.main (F := Ideal))) ⟨m, fun _ => 0, ρ⟩ fun r => ∀ c : Dev Cert.CtxAttnRefIdeal.nD,
      r.2.mem ((c.tc : Thread Cert.CtxAttnRefIdeal.nD Cert.CtxAttnRefIdeal.τ).loc Cert.CtxAttnRefIdeal.main_v24)
          = Cert.CtxAttnRefIdeal.Hand.weighted (m ((c.tc : Thread Cert.CtxAttnRefIdeal.nD Cert.CtxAttnRefIdeal.τ).loc Cert.CtxAttnRefIdeal.main_arg0))
              (Cert.CtxAttnRefIdeal.Hand.probs (Cert.CtxAttnRefIdeal.Hand.scores (m ((c.tc : Thread Cert.CtxAttnRefIdeal.nD Cert.CtxAttnRefIdeal.τ).loc Cert.CtxAttnRefIdeal.main_arg0))))
      ∧ r.2.mem ((c.tc : Thread Cert.CtxAttnRefIdeal.nD Cert.CtxAttnRefIdeal.τ).loc Cert.CtxAttnRefIdeal.main_arg0) = m ((c.tc : Thread Cert.CtxAttnRefIdeal.nD Cert.CtxAttnRefIdeal.τ).loc Cert.CtxAttnRefIdeal.main_arg0) :=
  Cert.CtxAttnRefIdeal.Value.run m ρ

/-- The two result arrays agree at an index … -/
theorem ctx_entry (m : (ℓ : Loc Cert.CtxAttnIdeal.nD Cert.CtxAttnIdeal.τ Cert.CtxAttnIdeal.sig) → Buf (Elt Ideal) ℓ) (c : Dev Cert.CtxAttnIdeal.nD) (hf : Cert.CtxAttnIdeal.Hand.ScoresReal m c)
    (b : Fin 8) (n : Fin 256) (l : Fin 1024) (h : Fin 16) (d : Fin 64) (hl : l.val = h.val * 64 + d.val) :
    Cert.CtxAttnRefIdeal.Hand.weighted (Cert.CtxAttnIdeal.Hand.bA m c) (Cert.CtxAttnRefIdeal.Hand.probs (Cert.CtxAttnRefIdeal.Hand.scores (Cert.CtxAttnIdeal.Hand.bA m c))) (ix3 b n l)
      = ((Cert.CtxAttnIdeal.Gen.dats m 0 c).arrAt 3 Cert.CtxAttnIdeal.cfg0.N : Vec Ideal Cert.CtxAttnIdeal.S8x256x1024 .bf16) (ix3 b n l) := by
  rw [Cert.CtxAttnIdeal.Hand.arr3 m c hf b n l h d hl, Cert.CtxAttnRefIdeal.Hand.ref_apply (Cert.CtxAttnIdeal.Hand.bA m c) b n h d l hl]

/-- … and so are equal. -/
theorem ctx_equal (m : (ℓ : Loc Cert.CtxAttnIdeal.nD Cert.CtxAttnIdeal.τ Cert.CtxAttnIdeal.sig) → Buf (Elt Ideal) ℓ) (c : Dev Cert.CtxAttnIdeal.nD) (hf : Cert.CtxAttnIdeal.Hand.ScoresReal m c) :
    Cert.CtxAttnRefIdeal.Hand.weighted (Cert.CtxAttnIdeal.Hand.bA m c) (Cert.CtxAttnRefIdeal.Hand.probs (Cert.CtxAttnRefIdeal.Hand.scores (Cert.CtxAttnIdeal.Hand.bA m c)))
      = ((Cert.CtxAttnIdeal.Gen.dats m 0 c).arrAt 3 Cert.CtxAttnIdeal.cfg0.N : Vec Ideal Cert.CtxAttnIdeal.S8x256x1024 .bf16) := by
  funext (i : Cert.CtxAttnIdeal.S8x256x1024.Idx)
  idx_vars i
  exact ctx_entry m c hf i0 i1 i2 ⟨i2.val / 64, by omega⟩ ⟨i2.val % 64, by omega⟩ (by show i2.val = i2.val / 64 * 64 + i2.val % 64; omega)

/-- The context's attention's two programs end with equal results. -/
theorem algebraic_ctx : Cert.algebraic_CtxAttnIdeal_CtxAttnRefIdeal_pre_ctx_finite := fun m ρ m' ρ' hpre hag =>
  ⟨fun c => (Cert.CtxAttnIdeal.Gen.dats m 0 c).arrAt 3 Cert.CtxAttnIdeal.cfg0.N, Cert.CtxAttnIdeal.Value.run_blocks m ρ,
    (θ_run _ _ _).mono (fun r h c => ⟨(h c).1.trans (by
        rw [hag c]
        exact ctx_equal m c (ctx_scores_real m hpre c)), (h c).2⟩) (ctx_run m' ρ')⟩

end Cert.Proof

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Mods
public import proofs.«01_k».proof.Proof.Gen.Mods.Skeleton
public import proofs.«01_k».proof.Proof.Gen.Mods.Launch
public import proofs.«01_k».proof.Proof.Gen.Mods.Points
public import proofs.«01_k».proof.Proof.Gen.Mods.Frame
public import proofs.«01_k».proof.Proof.Gen.ModsIdeal
public import proofs.«01_k».proof.Proof.Gen.ModsIdeal.Skeleton
public import proofs.«01_k».proof.Proof.Gen.ModsIdeal.Launch
public import proofs.«01_k».proof.Proof.Gen.ModsIdeal.Points
public import proofs.«01_k».proof.Proof.Gen.ModsIdeal.Frame
public import proofs.«01_k».proof.Proof.Gen.ModsIdeal.Value
public import proofs.«01_k».proof.Proof.Gen.ModsRefIdeal
public import proofs.«01_k».proof.Proof.Gen.ModsRefIdeal.Run
public import proofs.«01_k».proof.Proof.Gen.CtxAttn
public import proofs.«01_k».proof.Proof.Gen.CtxAttn.Skeleton
public import proofs.«01_k».proof.Proof.Gen.CtxAttn.Launch
public import proofs.«01_k».proof.Proof.Gen.CtxAttn.Points
public import proofs.«01_k».proof.Proof.Gen.CtxAttn.Frame
public import proofs.«01_k».proof.Proof.Gen.CtxAttnIdeal
public import proofs.«01_k».proof.Proof.Gen.CtxAttnIdeal.Skeleton
public import proofs.«01_k».proof.Proof.Gen.CtxAttnIdeal.Launch
public import proofs.«01_k».proof.Proof.Gen.CtxAttnIdeal.Points
public import proofs.«01_k».proof.Proof.Gen.CtxAttnIdeal.Frame
public import proofs.«01_k».proof.Proof.Gen.CtxAttnIdeal.Value
public import proofs.«01_k».proof.Proof.Gen.CtxAttnRefIdeal
public import proofs.«01_k».proof.Proof.Gen.CtxAttnRefIdeal.Run
public import proofs.«01_k».proof.Proof.RefFrames
public import proofs.«01_k».proof.Proof.ProjClaims
public import proofs.«01_k».proof.Proof.FfnClaim
public import proofs.«01_k».proof.Proof.AttnClaim
public import proofs.«01_k».proof.Proof.Mods
public import proofs.«01_k».proof.Proof.CtxClaim
public import Idealize.ShloMosaic.Adequacy
public import Idealize.ShloMosaic.Init

@[expose] public section

noncomputable section

/-! # The claim

The proof of `Cert.Claim`: the frames are the generated ones (the kernels') and those of the references' runs,
   the value claims are proved in the modules imported last. -/

namespace Cert.Proof

open Idealize.ShloMosaic Idealize.SL.Sem

/-- The certificate's claim: every conjunct in the order it is stated in. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Mods.Gen.facts, Cert.ModsIdeal.Gen.facts, Cert.ModsRefIdeal.Gen.facts, Cert.CtxAttn.Gen.facts, Cert.CtxAttnIdeal.Gen.facts, Cert.CtxAttnRefIdeal.Gen.facts, pre_facts, pre_ctx_facts,
  fun m ρ _ => Cert.Attn.Gen.frame m ρ, fun m ρ _ => Cert.AttnIdeal.Gen.frame m ρ, fun m ρ _ => Cert.AttnIdeal.Gen.frame m ρ, frame_AttnRefIdeal,
  fun m ρ _ => frame_AttnRefIdeal m ρ trivial,
  fun m ρ _ => Cert.Ffn.Gen.frame m ρ, fun m ρ _ => Cert.FfnIdeal.Gen.frame m ρ, frame_FfnRefIdeal,
  fun m ρ _ => Cert.InProj.Gen.frame m ρ, fun m ρ _ => Cert.InProjIdeal.Gen.frame m ρ, frame_InProjRefIdeal,
  fun m ρ _ => Cert.OutProj.Gen.frame m ρ, fun m ρ _ => Cert.OutProjIdeal.Gen.frame m ρ, frame_OutProjRefIdeal,
  fun m ρ _ => Cert.Mods.Gen.frame m ρ, fun m ρ _ => Cert.ModsIdeal.Gen.frame m ρ, frame_ModsRefIdeal,
  fun m ρ _ => Cert.CtxAttn.Gen.frame m ρ, fun m ρ _ => Cert.CtxAttnIdeal.Gen.frame m ρ, fun m ρ _ => Cert.CtxAttnIdeal.Gen.frame m ρ, frame_CtxAttnRefIdeal,
  fun m ρ _ => frame_CtxAttnRefIdeal m ρ trivial,
  trivial, algebraic_attn, trivial, algebraic_ffn, trivial, algebraic_in, trivial, algebraic_out,
  trivial, algebraic_mods, trivial, algebraic_ctx⟩

end Cert.Proof

end
